-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_inputs_finite [hPre_inputs_finite : Cert.Pre_inputs_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_inputs_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_inputs_finite [hPre_inputs_finite : Cert.Pre_inputs_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_inputs_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Kernel5Ideal_pre_inputs_finite [hKernel5Ideal : Cert.Kernel5Ideal.Facts] [hPre_inputs_finite : Cert.Pre_inputs_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_inputs_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_inputs_finite [hReference5Ideal : Cert.Reference5Ideal.Facts] [hPre_inputs_finite : Cert.Pre_inputs_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_inputs_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "scale" .f32 0x3E38AA3B#32 (((1 / 8) * (Real.log 2)⁻¹ : ℝ) : EReal)

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6_0)) (v1 : (c : Dev Cert.Kernel3Ideal.nD) → Buf (Elt Ideal) ((c.tc : Thread Cert.Kernel3Ideal.nD Cert.Kernel3Ideal.τ).loc Cert.Kernel3Ideal.main_v6_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6_0) = v0 c
          ∧ r.2.mem ((c.tc : Thread Cert.Kernel3Ideal.nD Cert.Kernel3Ideal.τ).loc Cert.Kernel3Ideal.main_v6_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  IdealRules.named_const.Statement Cert.Kernel4Ideal.κ "scale" .f32 0x3E38AA3B#32 (((1 / 8) * (Real.log 2)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_inputs_finite [hKernel5Ideal : Cert.Kernel5Ideal.Facts] [hReference5Ideal : Cert.Reference5Ideal.Facts] [hPre_inputs_finite : Cert.Pre_inputs_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_inputs_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v16_0)) (v1 : (c : Dev Cert.Kernel5Ideal.nD) → Buf (Elt Ideal) ((c.tc : Thread Cert.Kernel5Ideal.nD Cert.Kernel5Ideal.τ).loc Cert.Kernel5Ideal.main_v16_1)) (v2 : (c : Dev Cert.Kernel5Ideal.nD) → Buf (Elt Ideal) ((c.tc : Thread Cert.Kernel5Ideal.nD Cert.Kernel5Ideal.τ).loc Cert.Kernel5Ideal.main_v16_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16_0) = v0 c
          ∧ r.2.mem ((c.tc : Thread Cert.Kernel5Ideal.nD Cert.Kernel5Ideal.τ).loc Cert.Kernel5Ideal.main_v16_1) = v1 c
          ∧ r.2.mem ((c.tc : Thread Cert.Kernel5Ideal.nD Cert.Kernel5Ideal.τ).loc Cert.Kernel5Ideal.main_v16_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_v50) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_finite : Cert.Pre_scores_finite.Facts) (hPre_inputs_finite : Cert.Pre_inputs_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_inputs_finite (hKernel5Ideal := hKernel5Ideal) (hPre_inputs_finite := hPre_inputs_finite)
    ∧ quiescent_Reference5Ideal (hReference5Ideal := hReference5Ideal)
    ∧ quiescent_Reference5Ideal_pre_inputs_finite (hReference5Ideal := hReference5Ideal) (hPre_inputs_finite := hPre_inputs_finite)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_inputs_finite (hKernel5Ideal := hKernel5Ideal) (hReference5Ideal := hReference5Ideal) (hPre_inputs_finite := hPre_inputs_finite)
-- ==== Pre_inputs_finite.lean ====
abbrev S4x8192x1024 : Shape := ⟨3, ![4, 8192, 1024]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S4x6x1024 : S_.BroadcastsInDim S4x6x1024 (![] : Fin 0 → Fin S4x6x1024.rank)
  reducesTo_S4x6x1024_S_d0_1_2 : S4x6x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x16 : S_.BroadcastsInDim S1024x16 (![] : Fin 0 → Fin S1024x16.rank)
  reducesTo_S1024x16_S_d0_1 : S1024x16.ReducesTo [0, 1] S_

variable [Facts]

def fn_part1 {F : FTy → Type} [FloatOps F] (main_arg4 : FVec F S1024 .f32) (main_arg5 : FVec F S1024 .f32) (main_arg6 : FVec F S1024x16 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024x16 .f32 := Host.absf main_arg6
  let main_cst_10 : FVec F S_ .f32 := constant S_ .f32 0x7F800000#32
  let main_v30 : FVec F S1024x16 .f32 := broadcastInDim S1024x16 ![] bcast_S_S1024x16 main_cst_10
  let main_v31 : IVec S1024x16 1 := cmpf .olt main_v29 main_v30
  let main_c_11 : IVec S_ 1 := constantI S_ 1 1#1
  let main_v32 : IVec S_ 1 := (fun x v => Host.reduce IntOp.andi x v reducesTo_S1024x16_S_d0_1 h_S_) main_v31 main_c_11
  let main_v33 : IVec S_ 1 := andi main_v28 main_v32
  main_v33

def fn {F : FTy → Type} [FloatOps F] (main_arg0 : FVec F S4x8192x1024 .f32) (main_arg1 : FVec F S4x8192x1024 .f32) (main_arg2 : FVec F S4x6x1024 .f32) (main_arg3 : FVec F S1024x1024 .f32) (main_arg4 : FVec F S1024 .f32) (main_arg5 : FVec F S1024 .f32) (main_arg6 : FVec F S1024x16 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S4x8192x1024 .f32 := Host.absf main_arg1
  let main_cst_0 : FVec F S_ .f32 := constant S_ .f32 0x7F800000#32
  let main_v5 : FVec F S4x8192x1024 .f32 := broadcastInDim S4x8192x1024 ![] bcast_S_S4x8192x1024 main_cst_0
  let main_v6 : IVec S4x8192x1024 1 := cmpf .olt main_v4 main_v5
  let main_c_1 : IVec S_ 1 := constantI S_ 1 1#1
  let main_v7 : IVec S_ 1 := (fun x v => Host.reduce IntOp.andi x v reducesTo_S4x8192x1024_S_d0_1_2 h_S_) main_v6 main_c_1
  let main_v8 : IVec S_ 1 := andi main_v3 main_v7
  let main_v9 : FVec F S4x6x1024 .f32 := Host.absf main_arg2
  let main_cst_2 : FVec F S_ .f32 := constant S_ .f32 0x7F800000#32
  let main_v10 : FVec F S4x6x1024 .f32 := broadcastInDim S4x6x1024 ![] bcast_S_S4x6x1024 main_cst_2
  let main_v11 : IVec S4x6x1024 1 := cmpf .olt main_v9 main_v10
  let main_c_3 : IVec S_ 1 := constantI S_ 1 1#1
  let main_v12 : IVec S_ 1 := (fun x v => Host.reduce IntOp.andi x v reducesTo_S4x6x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_v13 main_v16
-- ==== Pre_scores_finite.lean ====
abbrev S4x8192x16x64 : Shape := ⟨4, ![4, 8192, 16, 64]⟩
abbrev S4x8192x4x64 : Shape := ⟨4, ![4, 8192, 4, 64]⟩
abbrev S4x256x4x64 : Shape := ⟨4, ![4, 256, 4, 64]⟩
abbrev S64 : Shape := ⟨1, ![64]⟩
abbrev S_ : Shape := ⟨0, ![]⟩

class Facts : Prop where
  bcast_S_S4x8192x16x64 : S_.BroadcastsInDim S4x8192x16x64 (![] : Fin 0 → Fin S4x8192x16x64.rank)
  reducesTo_S4x8192x16x64_S_d0_1_2_3 : S4x8192x16x64.ReducesTo [0, 1, 2, 3] S_
  h_S_ : 0 < S_.numel
  bcast_S_S4x8192x4x64 : S_.BroadcastsInDim S4x8192x4x64 (![] : Fin 0 → Fin S4x8192x4x64.rank)
  reducesTo_S4x8192x4x64_S_d0_1_2_3 : S4x8192x4x64.ReducesTo [0, 1, 2, 3] S_
  bcast_S_S4x256x4x64 : S_.BroadcastsInDim S4x256x4x64 (![] : Fin 0 → Fin S4x256x4x64.rank)
  reducesTo_S4x256x4x64_S_d0_1_2_3 : S4x256x4x64.ReducesTo [0, 1, 2, 3] S_

variable [Facts]

def fn {F : FTy → Type} [FloatOps F] (main_arg0 : FVec F S4x8192x16x64 .f32) (main_arg1 : FVec F S4x8192x4x64 .f32) (main_arg2 : FVec F S4x8192x4x64 .f32) (main_arg3 : FVec F S4x256x4x64 .f32) (main_arg4 : FVec F S4x256x4x64 .f32) (main_arg5 : FVec F S64 .f32) (main_arg6 : FVec F S64 .f32) : IVec S_ 1 :=
  let main_v0 : FVec F S4x8192x16x64 .f32 := Host.absf main_arg0
  let main_cst : FVec F S_ .f32 := constant S_ .f32 0x7F800000#32
  let main_v1 : FVec F S4x8192x16x64 .f32 := broadcastInDim S4x8192x16x64 ![] bcast_S_S4x8192x16x64 main_cst
  let main_v2 : IVec S4x8192x16x64 1 := cmpf .olt main_v0 main_v1
  let main_c : IVec S_ 1 := constantI S_ 1 1#1
  let main_v3 : IVec S_ 1 := (fun x v => Host.reduce IntOp.andi x v reducesTo_S4x8192x16x64_S_d0_1_2_3 h_S_) main_v2 main_c
  let main_v4 : FVec F S4x8192x4x64 .f32 := Host.absf main_arg1
  let main_cst_0 : FVec F S_ .f32 := constant S_ .f32 0x7F800000#32
  let main_v5 : FVec F S4x8192x4x64 .f32 := broadcastInDim S4x8192x4x64 ![] bcast_S_S4x8192x4x64 main_cst_0
  let main_v6 : IVec S4x8192x4x64 1 := cmpf .olt main_v4 main_v5
  let main_c_1 : IVec S_ 1 := constantI S_ 1 1#1
  let main_v7 : IVec S_ 1 := (fun x v => Host.reduce IntOp.andi x v reducesTo_S4x8192x4x64_S_d0_1_2_3 h_S_) main_v6 main_c_1
  let main_v8 : IVec S_ 1 := andi main_v3 main_v7
  let main_v9 : FVec F S4x256x4x64 .f32 := Host.absf main_arg3
  let main_cst_2 : FVec F S_ .f32 := constant S_ .f32 0x7F800000#32
  let main_v10 : FVec F S4x256x4x64 .f32 := broadcastInDim S4x256x4x64 ![] bcast_S_S4x256x4x64 main_cst_2
  let main_v11 : IVec S4x256x4x64 1 := cmpf .olt main_v9 main_v10
  let main_c_3 : IVec S_ 1 := constantI S_ 1 1#1
  let main_v12 : IVec S_ 1 := (fun x v => Host.reduce IntOp.andi x v reducesTo_S4x256x4x64_S_d0_1_2_3 h_S_) main_v11 main_c_3
  let main_v13 : IVec S_ 1 := andi main_v8 main_v12
  main_v13
-- ==== Kernel.lean ====
abbrev S4x8192x16x64 : Shape := ⟨4, ![4, 8192, 16, 64]⟩
abbrev S4x8192x4x64 : Shape := ⟨4, ![4, 8192, 4, 64]⟩
abbrev S4x256x4x64 : Shape := ⟨4, ![4, 256, 4, 64]⟩
abbrev S64 : Shape := ⟨1, ![64]⟩
abbrev S4x8192x2x2x4x32x2 : Shape := ⟨7, ![4, 8192, 2, 2, 4, 32, 2]⟩
abbrev S4x8192x2x4x2x2x32 : Shape := ⟨7, ![4, 8192, 2, 4, 2, 2, 32]⟩
abbrev S4x8192x1024 : Shape := ⟨3, ![4, 8192, 1024]⟩
abbrev S4x8192x2x2x32x2 : Shape := ⟨6, ![4, 8192, 2, 2, 32, 2]⟩
abbrev S4x8192x2x2x2x32 : Shape := ⟨6, ![4, 8192, 2, 2, 2, 32]⟩
abbrev S4x8192x256 : Shape := ⟨3, ![4, 8192, 256]⟩
abbrev S4x8192x1536 : Shape := ⟨3, ![4, 8192, 1536]⟩
abbrev S_ : Shape := ⟨0, ![]⟩
abbrev S4x256x1024 : Shape := ⟨3, ![4, 256, 1024]⟩
abbrev S4x256x2x2x32x2 : Shape := ⟨6, ![4, 256, 2, 2, 32, 2]⟩
abbrev S4x256x2x2x2x32 : Shape := ⟨6, ![4, 256, 2, 2, 2, 32]⟩
abbrev S4x256x256 : Shape := ⟨3, ![4, 256, 256]⟩
abbrev S4x256x1536 : Shape := ⟨3, ![4, 256, 1536]⟩
abbrev S1x128 : Shape := ⟨2, ![1, 128]⟩
abbrev S1x256x512 : Shape := ⟨3, ![1, 256, 512]⟩
abbrev S1x8192x128 : Shape := ⟨3, ![1, 8192, 128]⟩
abbrev S1x256x128 : Shape := ⟨3, ![1, 256, 128]⟩
abbrev S2048x128 : Shape := ⟨2, ![2048, 128]⟩
abbrev S2048x1 : Shape := ⟨2, ![2048, 1]⟩
abbrev S256x128 : Shape := ⟨2, ![256, 128]⟩
abbrev S1x1 : Shape := ⟨2, ![1, 1]⟩
abbrev S1x1x1 : Shape := ⟨3, ![1, 1, 1]⟩
abbrev S1 : Shape := ⟨1, ![1]⟩
abbrev S1x1024x128 : Shape := ⟨3, ![1, 1024, 128]⟩
abbrev S1024x128 : Shape := ⟨2, ![1024, 128]⟩
abbrev S2048x1024 : Shape := ⟨2, ![2048, 1024]⟩
abbrev S2048x256 : Shape := ⟨2, ![2048, 256]⟩
abbrev S2048 : Shape := ⟨1, ![2048]⟩
abbrev S4x8192x2x4x2x64 : Shape := ⟨6, ![4, 8192, 2, 4, 2, 64]⟩
abbrev S4x8192x2x2x4x64 : Shape := ⟨6, ![4, 8192, 2, 2, 4, 64]⟩

abbrev nBuf : Space → Nat
  | .hbm => 41
  | .vmem => 17
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x256x4x64, .f32⟩
  | .hbm, ⟨4, _⟩ => ⟨S4x256x4x64, .f32⟩
  | .hbm, ⟨5, _⟩ => ⟨S64, .f32⟩
  | .hbm, ⟨6, _⟩ => ⟨S64, .f32⟩
  | .hbm, ⟨7, _⟩ => ⟨S4x8192x2x2x4x32x2, .f32⟩
  | .hbm, ⟨8, _⟩ => ⟨S4x8192x2x4x2x2x32, .f32⟩
  | .hbm, ⟨9, _⟩ => ⟨S4x8192x1024, .f32⟩
  | .hbm, ⟨10, _⟩ => ⟨S4x8192x2x2x32x2, .f32⟩
  | .hbm, ⟨11, _⟩ => ⟨S4x8192x2x2x2x32, .f32⟩
  | .hbm, ⟨12, _⟩ => ⟨S4x8192x256, .f32⟩
  | .hbm, ⟨13, _⟩ => ⟨S4x8192x256, .f32⟩
  | .hbm, ⟨14, _⟩ => ⟨S4x8192x1536, .f32⟩
  | .hbm, ⟨15, _⟩ => ⟨S4x8192x1536, .bf16⟩
  | .hbm, ⟨16, _⟩ => ⟨S_, .f32⟩
  | .hbm, ⟨17, _⟩ => ⟨S4x256x1024, .f32⟩
  | .hbm, ⟨18, _⟩ => ⟨S4x256x2x2x32x2, .f32⟩
  | .hbm, ⟨19, _⟩ => ⟨S4x256x2x2x2x32, .f32⟩
  | .hbm, ⟨20, _⟩ => ⟨S4x256x256, .f32⟩
  | .hbm, ⟨21, _⟩ => ⟨S4x256x256, .f32⟩
  | .hbm, ⟨22, _⟩ => ⟨S4x256x1536, .f32⟩
  | .hbm, ⟨23, _⟩ => ⟨S4x256x1536, .bf16⟩
  | .hbm, ⟨24, _⟩ => ⟨S64, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S1x128, .f32⟩
  | .hbm, ⟨31, _⟩ => ⟨S64, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S1x128, .f32⟩
  | .hbm, ⟨36, _⟩ => ⟨S1x128, .f32⟩
  | .hbm, ⟨37, _⟩ => ⟨S4x8192x1024, .bf16⟩
  | .hbm, ⟨38, _⟩ => ⟨S4x8192x2x4x2x64, .bf16⟩
  | .hbm, ⟨39, _⟩ => ⟨S4x8192x2x2x4x64, .bf16⟩
  | .hbm, ⟨40, _⟩ => ⟨S4x8192x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x128, .f32⟩
  | .local _ .vmem, ⟨11, _⟩ => ⟨S1x256x512, .bf16⟩
  | .local _ .vmem, ⟨12, _⟩ => ⟨S1x256x512, .bf16⟩
  | .local _ .vmem, ⟨13, _⟩ => ⟨S2048x128, .bf16⟩
  | .local _ .vmem, ⟨14, _⟩ => ⟨S2048x1, .f32⟩
  | .local _ .vmem, ⟨15, _⟩ => ⟨S2048x128, .f32⟩
  | .local _ .vmem, ⟨16, _⟩ => ⟨S2048x128, .f32⟩
  | _, _ => ⟨S4x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![4, 2, 32], ![false, false, false]⟩

@[reducible] def k0_t1_loop : Scf.Loop 32 :=
  let c0_i32_198 : BitVec 32 := 0#32
  let c8_i32 : BitVec 32 := 8#32
  let v585 : BitVec 32 := Scalar.addi c0_i32_198 c8_i32
  let c1_i32_199 : BitVec 32 := 1#32
  ⟨c0_i32_198, v585, c1_i32_199⟩
def k0_mult1 (k0_t1 : Fin k0_t1_loop.trips) : BitVec 32 :=
  let c0_i32_198 : BitVec 32 := 0#32
  let c1_i32_199 : BitVec 32 := 1#32
  let arg14 : BitVec 32 := Scf.iv c0_i32_198 c1_i32_199 k0_t1
  let c1024_i32 : BitVec 32 := 1024#32
  let v610 : BitVec 32 := Scalar.muli arg14 c1024_i32
  v610
def k0_off1 (k0_t1 : Fin k0_t1_loop.trips) : Fin 3 → Nat :=
  let c0_219 : Index := 0#32
  let c0_i32_198 : BitVec 32 := 0#32
  let c1_i32_199 : BitVec 32 := 1#32
  let arg14 : BitVec 32 := Scf.iv c0_i32_198 c1_i32_199 k0_t1
  let c1024_i32 : BitVec 32 := 1024#32
  let v610 : BitVec 32 := Scalar.muli arg14 c1024_i32
  let v611 : BitVec 32 := v610
  let v612 : Index := Scalar.indexCast v611
  let c0_220 : Index := 0#32
  ![0, v612.toNat, 0]
@[reducible] def k0_t2_loop : Scf.Loop 32 :=
  let c0_i32_201 : BitVec 32 := 0#32
  let c8_i32 : BitVec 32 := 8#32
  let v589 : BitVec 32 := Scalar.addi c0_i32_201 c8_i32
  let c1_i32_202 : BitVec 32 := 1#32
  ⟨c0_i32_201, v589, c1_i32_202⟩
def k0_mult2 (k0_t2 : Fin k0_t2_loop.trips) : BitVec 32 :=
  let c0_i32_201 : BitVec 32 := 0#32
  let c1_i32_202 : BitVec 32 := 1#32
  let arg14 : BitVec 32 := Scf.iv c0_i32_201 c1_i32_202 k0_t2
  let c1024_i32 : BitVec 32 := 1024#32
  let v627 : BitVec 32 := Scalar.muli arg14 c1024_i32
  v627
def k0_off2 (k0_t2 : Fin k0_t2_loop.trips) : Fin 3 → Nat :=
  let c0_227 : Index := 0#32
  let c0_i32_201 : BitVec 32 := 0#32
  let c1_i32_202 : BitVec 32 := 1#32
  let arg14 : BitVec 32 := Scf.iv c0_i32_201 c1_i32_202 k0_t2
  let c1024_i32 : BitVec 32 := 1024#32
  let v627 : BitVec 32 := Scalar.muli arg14 c1024_i32
  let v628 : BitVec 32 := v627
  let v629 : Index := Scalar.indexCast v628
  let c0_228 : Index := 0#32
  ![0, v629.toNat, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c10_i32 : BitVec 32 := 10#32
  let v0 : BitVec 32 := Scalar.addi c10_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "scale" => some (((1 / 8) * (Real.log 2)⁻¹ : ℝ) : EReal)
  | _ => none
-- ==== ReferenceIdeal.lean ====
abbrev S4x8192x16x64 : Shape := ⟨4, ![4, 8192, 16, 64]⟩
abbrev S4x8192x4x64 : Shape := ⟨4, ![4, 8192, 4, 64]⟩
abbrev S4x256x4x64 : Shape := ⟨4, ![4, 256, 4, 64]⟩
abbrev S64 : Shape := ⟨1, ![64]⟩
abbrev S4x8192x4x4x64 : Shape := ⟨5, ![4, 8192, 4, 4, 64]⟩
abbrev S4x4x4x8192x64 : Shape := ⟨5, ![4, 4, 4, 8192, 64]⟩
abbrev S4x4x8192x64 : Shape := ⟨4, ![4, 4, 8192, 64]⟩
abbrev S4x4x256x64 : Shape := ⟨4, ![4, 4, 256, 64]⟩
abbrev S4x4x4x8192x8192 : Shape := ⟨5, ![4, 4, 4, 8192, 8192]⟩
abbrev S_ : Shape := ⟨0, ![]⟩
abbrev S4x4x4x8192x256 : Shape := ⟨5, ![4, 4, 4, 8192, 256]⟩
abbrev S4x4x4x8192x8448 : Shape := ⟨5, ![4, 4, 4, 8192, 8448]⟩
abbrev S4x4x4x8192 : Shape := ⟨4, ![4, 4, 4, 8192]⟩
abbrev S4x4x4x8192x1 : Shape := ⟨5, ![4, 4, 4, 8192, 1]⟩
abbrev S4x8192x1024 : Shape := ⟨3, ![4, 8192, 1024]⟩

abbrev nBuf : Space → Nat
  | .hbm => 44
  | .vmem => 0
  | .smem => 0
  | _ => 0

abbrev bufTy : (tb : Table) → Fin (tcTables nBuf tb) → BufTy
  | .hbm, ⟨0, _⟩ => ⟨S4x8192x16x64, .f32⟩
  | .hbm, ⟨1, _⟩ => ⟨S4x8192x4x64, .f32⟩
  | .hbm, ⟨2, _⟩ => ⟨S4x8192x4x64, .f32⟩
  | .hbm, ⟨3, _⟩ => ⟨S4x256x4x64, .f32⟩
  | .hbm, ⟨4, _⟩ => ⟨S4x256x4x64, .f32⟩
  | .hbm, ⟨5, _⟩ => ⟨S64, .f32⟩
  | .hbm, ⟨6, _⟩ => ⟨S64, .f32⟩
  | .hbm, ⟨7, _⟩ => ⟨S4x8192x4x4x64, .f32⟩
  | .hbm, ⟨8, _⟩ => ⟨S4x4x4x8192x64, .f32⟩
  | .hbm, ⟨9, _⟩ => ⟨S4x4x8192x64, .f32⟩
  | .hbm, ⟨10, _⟩ => ⟨S4x4x8192x64, .f32⟩
  | .hbm, ⟨11, _⟩ => ⟨S4x4x256x64, .f32⟩
  | .hbm, ⟨12, _⟩ => ⟨S4x4x256x64, .f32⟩
  | .hbm, ⟨13, _⟩ => ⟨S4x4x4x8192x8192, .f32⟩
  | .hbm, ⟨14, _⟩ => ⟨S_, .f32⟩
  | .hbm, ⟨15, _⟩ => ⟨S4x4x4x8192x8192, .f32⟩
  | .hbm, ⟨16, _⟩ => ⟨S4x4x4x8192x8192, .f32⟩
  | .hbm, ⟨17, _⟩ => ⟨S4x4x4x8192x256, .f32⟩
  | .hbm, ⟨18, _⟩ => ⟨S_, .f32⟩
  | .hbm, ⟨19, _⟩ => ⟨S4x4x4x8192x256, .f32⟩
  | .hbm, ⟨20, _⟩ => ⟨S4x4x4x8192x256, .f32⟩
  | .hbm, ⟨21, _⟩ => ⟨S4x4x4x8192x8448, .f32⟩
  | .hbm, ⟨22, _⟩ => ⟨S_, .f32⟩
  | .hbm, ⟨23, _⟩ => ⟨S4x4x4x8192, .f32⟩
  | .hbm, ⟨24, _⟩ => ⟨S_, .f32⟩
  | .hbm, ⟨25, _⟩ => ⟨S4x4x4x8192, .f32⟩
  | .hbm, ⟨26, _⟩ => ⟨S4x4x4x8192, .f32⟩
  | .hbm, ⟨27, _⟩ => ⟨S4x4x4x8192x1, .f32⟩
  | .hbm, ⟨28, _⟩ => ⟨S4x4x4x8192x8448, .f32⟩
  | .hbm, ⟨29, _⟩ => ⟨S4x4x4x8192x8448, .f32⟩
  | .hbm, ⟨30, _⟩ => ⟨S4x4x4x8192x8448, .f32⟩
  | .hbm, ⟨31, _⟩ => ⟨S_, .f32⟩
  | .hbm, ⟨32, _⟩ => ⟨S4x4x4x8192, .f32⟩
  | .hbm, ⟨33, _⟩ => ⟨S4x4x4x8192x1, .f32⟩
  | .hbm, ⟨34, _⟩ => ⟨S4x4x4x8192x8448, .f32⟩
  | .hbm, ⟨35, _⟩ => ⟨S4x4x4x8192x8448, .f32⟩
  | .hbm, ⟨36, _⟩ => ⟨S4x4x4x8192x8192, .f32⟩
  | .hbm, ⟨37, _⟩ => ⟨S4x4x4x8192x256, .f32⟩
  | .hbm, ⟨38, _⟩ => ⟨S4x4x4x8192x64, .f32⟩
  | .hbm, ⟨39, _⟩ => ⟨S4x4x4x8192x64, .f32⟩
  | .hbm, ⟨40, _⟩ => ⟨S4x4x4x8192x64, .f32⟩
  | .hbm, ⟨41, _⟩ => ⟨S4x8192x4x4x64, .f32⟩
  | .hbm, ⟨42, _⟩ => ⟨S4x8192x1024, .f32⟩
  | .hbm, ⟨43, _⟩ => ⟨S4x8192x1024, .bf16⟩
  | _, _ => ⟨S4x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel2.lean ====
abbrev S4x16x1024x1024 : Shape := ⟨4, ![4, 16, 1024, 1024]⟩
abbrev S4x16x1024x2048 : Shape := ⟨4, ![4, 16, 1024, 2048]⟩
abbrev S4x16x2048x1024 : Shape := ⟨4, ![4, 16, 2048, 1024]⟩
abbrev S16x4x1024x1024 : Shape := ⟨4, ![16, 4, 1024, 1024]⟩
abbrev S_ : Shape := ⟨0, ![]⟩
abbrev S16x4x1088x1024 : Shape := ⟨4, ![16, 4, 1088, 1024]⟩
abbrev S1x1x1024x1024 : Shape := ⟨4, ![1, 1, 1024, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩

abbrev nBuf : Space → Nat
  | .hbm => 10
  | .vmem => 11
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S16x4x1024x1024, .f32⟩
  | .hbm, ⟨5, _⟩ => ⟨S_, .i32⟩
  | .hbm, ⟨6, _⟩ => ⟨S_, .f32⟩
  | .hbm, ⟨7, _⟩ => ⟨S16x4x1088x1024, .f32⟩
  | .hbm, ⟨8, _⟩ => ⟨S16x4x1088x1024, .bf16⟩
  | .hbm, ⟨9, _⟩ => ⟨S16x4x1024x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 2], ![false, false, false]⟩

def k0_cond3 (i : grid0.Coords) : BitVec 1 :=
  let arg2 : BitVec 32 := BitVec.ofNat 32 (i 2).val
  let c1_i32_70 : BitVec 32 := 1#32
  let v93 : BitVec 1 := Scalar.cmpi .eq arg2 c1_i32_70
  let v94 : BitVec 32 := Scalar.extui v93
  let c0_i32_71 : BitVec 32 := 0#32
  let v95 : BitVec 1 := Scalar.cmpi .ne v94 c0_i32_71
  v95

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![c3_i32.toNat, arg0.toNat, arg2.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference2Ideal.lean ====
abbrev S4x16x1024x1024 : Shape := ⟨4, ![4, 16, 1024, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x2048x4x1024 : Shape := ⟨4, ![16, 2048, 4, 1024]⟩
abbrev S_ : Shape := ⟨0, ![]⟩
abbrev S16x1024x4x1024 : Shape := ⟨4, ![16, 1024, 4, 1024]⟩
abbrev S16x4x1024x1024 : Shape := ⟨4, ![16, 4, 1024, 1024]⟩

abbrev nBuf : Space → Nat
  | .hbm => 28
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x1024x2048, .f32⟩
  | .hbm, ⟨2, _⟩ => ⟨S4x16x1024x2048, .f32⟩
  | .hbm, ⟨3, _⟩ => ⟨S4x16x2048x1024, .f32⟩
  | .hbm, ⟨4, _⟩ => ⟨S1x16x1024x2048, .f32⟩
  | .hbm, ⟨5, _⟩ => ⟨S16x1024x2048, .f32⟩
  | .hbm, ⟨6, _⟩ => ⟨S1x16x1024x2048, .f32⟩
  | .hbm, ⟨7, _⟩ => ⟨S16x1024x2048, .f32⟩
  | .hbm, ⟨8, _⟩ => ⟨S1x16x2048x1024, .f32⟩
  | .hbm, ⟨9, _⟩ => ⟨S16x2048x1024, .f32⟩
  | .hbm, ⟨10, _⟩ => ⟨S16x2048x4x1024, .f32⟩
  | .hbm, ⟨11, _⟩ => ⟨S4x16x1024x2048, .f32⟩
  | .hbm, ⟨12, _⟩ => ⟨S4x16x1024x2048, .f32⟩
  | .hbm, ⟨13, _⟩ => ⟨S4x16x1024x2048, .f32⟩
  | .hbm, ⟨14, _⟩ => ⟨S_, .f32⟩
  | .hbm, ⟨15, _⟩ => ⟨S4x16x1024x2048, .f32⟩
  | .hbm, ⟨16, _⟩ => ⟨S4x16x1024x2048, .f32⟩
  | .hbm, ⟨17, _⟩ => ⟨S_, .f32⟩
  | .hbm, ⟨18, _⟩ => ⟨S4x16x1024x2048, .f32⟩
  | .hbm, ⟨19, _⟩ => ⟨S4x16x1024x2048, .f32⟩
  | .hbm, ⟨20, _⟩ => ⟨S4x16x1024x2048, .f32⟩
  | .hbm, ⟨21, _⟩ => ⟨S16x2048x4x1024, .f32⟩
  | .hbm, ⟨22, _⟩ => ⟨S4x16x1024x2048, .f32⟩
  | .hbm, ⟨23, _⟩ => ⟨S4x16x1024x2048, .f32⟩
  | .hbm, ⟨24, _⟩ => ⟨S16x1024x4x1024, .f32⟩
  | .hbm, ⟨25, _⟩ => ⟨S4x16x1024x1024, .f32⟩
  | .hbm, ⟨26, _⟩ => ⟨S16x4x1024x1024, .f32⟩
  | .hbm, ⟨27, _⟩ => ⟨S16x4x1024x1024, .bf16⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]
-- ==== Kernel3.lean ====
abbrev S4x16x1024x1024 : Shape := ⟨4, ![4, 16, 1024, 1024]⟩
abbrev S4x16x32x1024 : Shape := ⟨4, ![4, 16, 32, 1024]⟩
abbrev S4x16x1024x2048 : Shape := ⟨4, ![4, 16, 1024, 2048]⟩
abbrev S4x16x2048x1024 : Shape := ⟨4, ![4, 16, 2048, 1024]⟩
abbrev S16x4x1024x1024 : Shape := ⟨4, ![16, 4, 1024, 1024]⟩
abbrev S_ : Shape := ⟨0, ![]⟩
abbrev S16x4x1088x1024 : Shape := ⟨4, ![16, 4, 1088, 1024]⟩
abbrev S16x4x32x1024 : Shape := ⟨4, ![16, 4, 32, 1024]⟩
abbrev S16x4x96x1024 : Shape := ⟨4, ![16, 4, 96, 1024]⟩
abbrev S1x1x1024x1024 : Shape := ⟨4, ![1, 1, 1024, 1024]⟩
abbrev S1x4x32x1024 : Shape := ⟨4, ![1, 4, 32, 1024]⟩
abbrev S1152x1024 : Shape := ⟨2, ![1152, 1024]⟩
abbrev S1024x1024 : Shape := ⟨2, ![1024, 1024]⟩
abbrev S1x1x1024x256 : Shape := ⟨4, ![1, 1, 1024, 256]⟩
abbrev S1024x256 : Shape := ⟨2, ![1024, 256]⟩
abbrev S1x1x256x1024 : Shape := ⟨4, ![1, 1, 256, 1024]⟩
abbrev S256x1024 : Shape := ⟨2, ![256, 1024]⟩
abbrev S4x32x1024 : Shape := ⟨3, ![4, 32, 1024]⟩
abbrev S128x1024 : Shape := ⟨2, ![128, 1024]⟩
abbrev S1152x256 : Shape := ⟨2, ![1152, 256]⟩

abbrev nBuf : Space → Nat
  | .hbm => 17
  | .vmem => 15
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x32x1024, .f32⟩
  | .hbm, ⟨2, _⟩ => ⟨S4x16x1024x2048, .f32⟩
  | .hbm, ⟨3, _⟩ => ⟨S4x16x1024x2048, .f32⟩
  | .hbm, ⟨4, _⟩ => ⟨S4x16x2048x1024, .f32⟩
  | .hbm, ⟨5, _⟩ => ⟨S16x4x1024x1024, .f32⟩
  | .hbm, ⟨6, _⟩ => ⟨S_, .i32⟩
  | .hbm, ⟨7, _⟩ => ⟨S_, .f32⟩
  | .hbm, ⟨8, _⟩ => ⟨S16x4x1088x1024, .f32⟩
  | .hbm, ⟨9, _⟩ => ⟨S16x4x1088x1024, .bf16⟩
  | .hbm, ⟨10, _⟩ => ⟨S16x4x32x1024, .f32⟩
  | .hbm, ⟨11, _⟩ => ⟨S_, .i32⟩
  | .hbm, ⟨12, _⟩ => ⟨S_, .f32⟩
  | .hbm, ⟨13, _⟩ => ⟨S16x4x96x1024, .f32⟩
  | .hbm, ⟨14, _⟩ => ⟨S16x4x96x1024, .bf16⟩
  | .hbm, ⟨15, _⟩ => ⟨S16x4x1024x1024, .bf16⟩
  | .hbm, ⟨16, _⟩ => ⟨S16x4x32x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x4x32x1024, .bf16⟩
  | .local _ .vmem, ⟨3, _⟩ => ⟨S1x4x32x1024, .bf16⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1024x1024, .f32⟩
  | .local _ .vmem, ⟨9, _⟩ => ⟨S1x1x1024x1024, .f32⟩
  | .local _ .vmem, ⟨10, _⟩ => ⟨S1x1x1024x1024, .bf16⟩
  | .local _ .vmem, ⟨11, _⟩ => ⟨S1x1x1024x1024, .bf16⟩
  | .local _ .vmem, ⟨12, _⟩ => ⟨S1x4x32x1024, .bf16⟩
  | .local _ .vmem, ⟨13, _⟩ => ⟨S1x4x32x1024, .bf16⟩
  | .local _ .vmem, ⟨14, _⟩ => ⟨S1152x1024, .f32⟩
  | _, _ => ⟨S4x16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_call1_v0 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![16, 4, 2], ![false, false, false]⟩

def k0_cond1 (i : grid0.Coords) : BitVec 1 :=
  let arg1 : BitVec 32 := BitVec.ofNat 32 (i 1).val
  let c3_i32 : BitVec 32 := 3#32
  let v0 : BitVec 1 := Scalar.cmpi .slt arg1 c3_i32
  let v1 : BitVec 32 := Scalar.extui v0
  let c0_i32 : BitVec 32 := 0#32
  let v2 : BitVec 1 := Scalar.cmpi .ne v1 c0_i32
  v2

def k0_cond4 (i : grid0.Coords) : BitVec 1 :=
  let arg2 : BitVec 32 := BitVec.ofNat 32 (i 2).val
  let c1_i32_73 : BitVec 32 := 1#32
  let v99 : BitVec 1 := Scalar.cmpi .eq arg2 c1_i32_73
  let v100 : BitVec 32 := Scalar.extui v99
  let c0_i32_74 : BitVec 32 := 0#32
  let v101 : BitVec 1 := Scalar.cmpi .ne v100 c0_i32_74
  v101

def k0_cond5 (i : grid0.Coords) : BitVec 1 :=
  let arg1 : BitVec 32 := BitVec.ofNat 32 (i 1).val
  let c3_i32_0 : BitVec 32 := 3#32
  let v3 : BitVec 1 := Scalar.cmpi .eq arg1 c3_i32_0
  let v4 : BitVec 32 := Scalar.extui v3
  let c0_i32_1 : BitVec 32 := 0#32
  let v5 : BitVec 1 := Scalar.cmpi .ne v4 c0_i32_1
  v5

def k0_cond8 (i : grid0.Coords) : BitVec 1 :=
  let arg2 : BitVec 32 := BitVec.ofNat 32 (i 2).val
  let c1_i32_77 : BitVec 32 := 1#32
  let v103 : BitVec 1 := Scalar.cmpi .eq arg2 c1_i32_77
  let v104 : BitVec 32 := Scalar.extui v103
  let c0_i32_78 : BitVec 32 := 0#32
  let v105 : BitVec 1 := Scalar.cmpi .ne v104 c0_i32_78
  v105

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x4x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4x32x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]
-- ==== Reference3Ideal.lean ====
abbrev S4x16x1024x1024 : Shape := ⟨4, ![4, 16, 1024, 1024]⟩
abbrev S4x16x32x1024 : Shape := ⟨4, ![4, 16, 32, 1024]⟩
abbrev S4x16x1024x2048 : Shape := ⟨4, ![4, 16, 1024, 2048]⟩
abbrev S4x16x2048x1024 : Shape := ⟨4, ![4, 16, 2048, 1024]⟩
abbrev S1x16x1024x2048 : Shape := ⟨4, ![1, 16, 1024, 2048]⟩
abbrev S16x1024x2048 : Shape := ⟨3, ![16, 1024, 2048]⟩
abbrev S1x16x2048x1024 : Shape := ⟨4, ![1, 16, 2048, 1024]⟩
abbrev S16x2048x1024 : Shape := ⟨3, ![16, 2048, 1024]⟩
abbrev S16x2048x4x1024 : Shape := ⟨4, ![16, 2048, 4, 1024]⟩
abbrev S_ : Shape := ⟨0, ![]⟩
abbrev S16x1024x4x1024 : Shape := ⟨4, ![16, 1024, 4, 1024]⟩
abbrev S16x2048x4x32 : Shape := ⟨4, ![16, 2048, 4, 32]⟩
abbrev S4x16x32x2048 : Shape := ⟨4, ![4, 16, 32, 2048]⟩
abbrev S16x1024x4x32 : Shape := ⟨4, ![16, 1024, 4, 32]⟩
abbrev S16x4x1024x1024 : Shape := ⟨4, ![16, 4, 1024, 1024]⟩
abbrev S16x4x32x1024 : Shape := ⟨4, ![16, 4, 32, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x16x1024x1024, .f32⟩
  | .hbm, ⟨1, _⟩ => ⟨S4x16x32x1024, .f32⟩
  | .hbm, ⟨2, _⟩ => ⟨S4x16x1024x2048, .f32⟩
  | .hbm, ⟨3, _⟩ => ⟨S4x16x1024x2048, .f32⟩
  | .hbm, ⟨4, _⟩ => ⟨S4x16x2048x1024, .f32⟩
  | .hbm, ⟨5, _⟩ => ⟨S1x16x1024x2048, .f32⟩
  | .hbm, ⟨6, _⟩ => ⟨S16x1024x2048, .f32⟩
  | .hbm, ⟨7, _⟩ => ⟨S1x16x1024x2048, .f32⟩
  | .hbm, ⟨8, _⟩ => ⟨S16x1024x2048, .f32⟩
  | .hbm, ⟨9, _⟩ => ⟨S1x16x2048x1024, .f32⟩
  | .hbm, ⟨10, _⟩ => ⟨S16x2048x1024, .f32⟩
  | .hbm, ⟨11, _⟩ => ⟨S16x2048x4x1024, .f32⟩
  | .hbm, ⟨12, _⟩ => ⟨S4x16x1024x2048, .f32⟩
  | .hbm, ⟨13, _⟩ => ⟨S4x16x1024x2048, .f32⟩
  | .hbm, ⟨14, _⟩ => ⟨S4x16x1024x2048, .f32⟩
  | .hbm, ⟨15, _⟩ => ⟨S_, .f32⟩
  | .hbm, ⟨16, _⟩ => ⟨S4x16x1024x2048, .f32⟩
  | .hbm, ⟨17, _⟩ => ⟨S4x16x1024x2048, .f32⟩
  | .hbm, ⟨18, _⟩ => ⟨S_, .f32⟩
  | .hbm, ⟨19, _⟩ => ⟨S4x16x1024x2048, .f32⟩
  | .hbm, ⟨20, _⟩ => ⟨S4x16x1024x2048, .f32⟩
  | .hbm, ⟨21, _⟩ => ⟨S4x16x1024x2048, .f32⟩
  | .hbm, ⟨22, _⟩ => ⟨S16x2048x4x1024, .f32⟩
  | .hbm, ⟨23, _⟩ => ⟨S4x16x1024x2048, .f32⟩
  | .hbm, ⟨24, _⟩ => ⟨S4x16x1024x2048, .f32⟩
  | .hbm, ⟨25, _⟩ => ⟨S16x1024x4x1024, .f32⟩
  | .hbm, ⟨26, _⟩ => ⟨S4x16x1024x1024, .f32⟩
  | .hbm, ⟨27, _⟩ => ⟨S16x2048x4x32, .f32⟩
  | .hbm, ⟨28, _⟩ => ⟨S4x16x32x2048, .f32⟩
  | .hbm, ⟨29, _⟩ => ⟨S4x16x32x2048, .f32⟩
  | .hbm, ⟨30, _⟩ => ⟨S4x16x32x2048, .f32⟩
  | .hbm, ⟨31, _⟩ => ⟨S_, .f32⟩
  | .hbm, ⟨32, _⟩ => ⟨S4x16x32x2048, .f32⟩
  | .hbm, ⟨33, _⟩ => ⟨S4x16x32x2048, .f32⟩
  | .hbm, ⟨34, _⟩ => ⟨S_, .f32⟩
  | .hbm, ⟨35, _⟩ => ⟨S4x16x32x2048, .f32⟩
  | .hbm, ⟨36, _⟩ => ⟨S4x16x32x2048, .f32⟩
  | .hbm, ⟨37, _⟩ => ⟨S4x16x32x2048, .f32⟩
  | .hbm, ⟨38, _⟩ => ⟨S16x2048x4x32, .f32⟩
  | .hbm, ⟨39, _⟩ => ⟨S4x16x32x2048, .f32⟩
  | .hbm, ⟨40, _⟩ => ⟨S4x16x32x2048, .f32⟩
  | .hbm, ⟨41, _⟩ => ⟨S16x1024x4x32, .f32⟩
  | .hbm, ⟨42, _⟩ => ⟨S4x16x32x1024, .f32⟩
  | .hbm, ⟨43, _⟩ => ⟨S16x4x1024x1024, .f32⟩
  | .hbm, ⟨44, _⟩ => ⟨S16x4x1024x1024, .bf16⟩
  | .hbm, ⟨45, _⟩ => ⟨S16x4x32x1024, .f32⟩
  | .hbm, ⟨46, _⟩ => ⟨S16x4x32x1024, .bf16⟩
  | _, _ => ⟨S4x16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_call1_v0 : Ref sig .tc := ⟨.hbm, 29, rfl⟩
abbrev main_call1_v1 : Ref sig .tc := ⟨.hbm, 30, rfl⟩
abbrev main_call1_cst : Ref sig .tc := ⟨.hbm, 31, rfl⟩
abbrev main_call1_v2 : Ref sig .tc := ⟨.hbm, 32, rfl⟩
abbrev main_call1_v3 : Ref sig .tc := ⟨.hbm, 33, rfl⟩
abbrev main_call1_cst_0 : Ref sig .tc := ⟨.hbm, 34, rfl⟩
abbrev main_call1_v4 : Ref sig .tc := ⟨.hbm, 35, rfl⟩
abbrev main_call1_v5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩

abbrev nD : Nat := 1
abbrev τ : Topo := Topo.v7x

variable {F : FTy → Type} [FloatOps F]
-- ==== Kernel4.lean ====
abbrev S4x8192x1024 : Shape := ⟨3, ![4, 8192, 1024]⟩
abbrev S4x6x1024 : Shape := ⟨3, ![4, 6, 1024]⟩
abbrev S1024x3072 : Shape := ⟨2, ![1024, 3072]⟩
abbrev S_ : Shape := ⟨0, ![]⟩
abbrev S4x8x1024 : Shape := ⟨3, ![4, 8, 1024]⟩
abbrev S1 : Shape := ⟨1, ![1]⟩
abbrev S4x8192x3072 : Shape := ⟨3, ![4, 8192, 3072]⟩
abbrev S1x512x1024 : Shape := ⟨3, ![1, 512, 1024]⟩
abbrev S1x8x1024 : Shape := ⟨3, ![1, 8, 1024]⟩
abbrev S1x512x3072 : Shape := ⟨3, ![1, 512, 3072]⟩
abbrev S8x1024 : Shape := ⟨2, ![8, 1024]⟩
abbrev S512x1024 : Shape := ⟨2, ![512, 1024]⟩
abbrev S1x1024 : Shape := ⟨2, ![1, 1024]⟩
abbrev S1024x512 : Shape := ⟨2, ![1024, 512]⟩
abbrev S512x512 : Shape := ⟨2, ![512, 512]⟩
abbrev S1x512x512 : Shape := ⟨3, ![1, 512, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x3072, .f32⟩
  | .hbm, ⟨3, _⟩ => ⟨S_, .f32⟩
  | .hbm, ⟨4, _⟩ => ⟨S4x8x1024, .f32⟩
  | .hbm, ⟨5, _⟩ => ⟨S_, .i32⟩
  | .hbm, ⟨6, _⟩ => ⟨S1, .i32⟩
  | .hbm, ⟨7, _⟩ => ⟨S4x8x1024, .f32⟩
  | .hbm, ⟨8, _⟩ => ⟨S1024x3072, .bf16⟩
  | .hbm, ⟨9, _⟩ => ⟨S4x8192x3072, .bf16⟩
  | .local _ .vmem, ⟨0, _⟩ => ⟨S1x512x1024, .f32⟩
  | .local _ .vmem, ⟨1, _⟩ => ⟨S1x512x1024, .f32⟩
  | .local _ .vmem, ⟨2, _⟩ => ⟨S1x8x1024, .f32⟩
  | .local _ .vmem, ⟨3, _⟩ => ⟨S1x8x1024, .f32⟩
  | .local _ .vmem, ⟨4, _⟩ => ⟨S1024x3072, .bf16⟩
  | .local _ .vmem, ⟨5, _⟩ => ⟨S1x512x3072, .bf16⟩
  | .local _ .vmem, ⟨6, _⟩ => ⟨S1x512x3072, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel4Ideal.lean ====
variable {F : FTy → Type} [FloatOps F] [Named F]
def κ : String → Option EReal := fun
  | "scale" => some (((1 / 8) * (Real.log 2)⁻¹ : ℝ) : EReal)
  | _ => none
-- ==== Reference4Ideal.lean ====
abbrev S4x8192x1024 : Shape := ⟨3, ![4, 8192, 1024]⟩
abbrev S4x6x1024 : Shape := ⟨3, ![4, 6, 1024]⟩
abbrev S1024x3072 : Shape := ⟨2, ![1024, 3072]⟩
abbrev S4x1x1024 : Shape := ⟨3, ![4, 1, 1024]⟩
abbrev S_ : Shape := ⟨0, ![]⟩
abbrev S4x8192x3072 : Shape := ⟨3, ![4, 8192, 3072]⟩
abbrev S4x8192x2048 : Shape := ⟨3, ![4, 8192, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024x3072, .f32⟩
  | .hbm, ⟨3, _⟩ => ⟨S4x1x1024, .f32⟩
  | .hbm, ⟨4, _⟩ => ⟨S4x1x1024, .f32⟩
  | .hbm, ⟨5, _⟩ => ⟨S_, .f32⟩
  | .hbm, ⟨6, _⟩ => ⟨S4x1x1024, .f32⟩
  | .hbm, ⟨7, _⟩ => ⟨S4x1x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | .hbm, ⟨11, _⟩ => ⟨S4x8192x1024, .f32⟩
  | .hbm, ⟨12, _⟩ => ⟨S4x8192x3072, .f32⟩
  | .hbm, ⟨13, _⟩ => ⟨S4x8192x1024, .f32⟩
  | .hbm, ⟨14, _⟩ => ⟨S_, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S_, .f32⟩
  | .hbm, ⟨19, _⟩ => ⟨S4x8192x1024, .f32⟩
  | .hbm, ⟨20, _⟩ => ⟨S4x8192x1024, .f32⟩
  | .hbm, ⟨21, _⟩ => ⟨S4x8192x2048, .f32⟩
  | .hbm, ⟨22, _⟩ => ⟨S4x8192x3072, .f32⟩
  | .hbm, ⟨23, _⟩ => ⟨S4x8192x3072, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩
abbrev S4x8x1024 : Shape := ⟨3, ![4, 8, 1024]⟩
abbrev S1 : Shape := ⟨1, ![1]⟩
abbrev S1024x128 : Shape := ⟨2, ![1024, 128]⟩
abbrev S1024x256 : Shape := ⟨2, ![1024, 256]⟩
abbrev S1x1024 : Shape := ⟨2, ![1, 1024]⟩
abbrev S4x16x8192 : Shape := ⟨3, ![4, 16, 8192]⟩
abbrev S1x512x1024 : Shape := ⟨3, ![1, 512, 1024]⟩
abbrev S1x8x1024 : Shape := ⟨3, ![1, 8, 1024]⟩
abbrev S1x16x512 : Shape := ⟨3, ![1, 16, 512]⟩
abbrev S512x1024 : Shape := ⟨2, ![512, 1024]⟩
abbrev S8x1024 : Shape := ⟨2, ![8, 1024]⟩
abbrev S512 : Shape := ⟨1, ![512]⟩
abbrev S512x1 : Shape := ⟨2, ![512, 1]⟩
abbrev S512x256 : Shape := ⟨2, ![512, 256]⟩
abbrev S512x128 : Shape := ⟨2, ![512, 128]⟩
abbrev S128x512 : Shape := ⟨2, ![128, 512]⟩
abbrev S16x512 : Shape := ⟨2, ![16, 512]⟩
abbrev S1x512 : Shape := ⟨2, ![1, 512]⟩

abbrev nBuf : Space → Nat
  | .hbm => 30
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x16, .f32⟩
  | .hbm, ⟨7, _⟩ => ⟨S4x8192x1024, .bf16⟩
  | .hbm, ⟨8, _⟩ => ⟨S_, .f32⟩
  | .hbm, ⟨9, _⟩ => ⟨S4x8x1024, .f32⟩
  | .hbm, ⟨10, _⟩ => ⟨S_, .i32⟩
  | .hbm, ⟨11, _⟩ => ⟨S1, .i32⟩
  | .hbm, ⟨12, _⟩ => ⟨S4x8x1024, .f32⟩
  | .hbm, ⟨13, _⟩ => ⟨S1024x1024, .bf16⟩
  | .hbm, ⟨14, _⟩ => ⟨S_, .f32⟩
  | .hbm, ⟨15, _⟩ => ⟨S1024x128, .f32⟩
  | .hbm, ⟨16, _⟩ => ⟨S_, .i32⟩
  | .hbm, ⟨17, _⟩ => ⟨S1, .i32⟩
  | .hbm, ⟨18, _⟩ => ⟨S1024x128, .f32⟩
  | .hbm, ⟨19, _⟩ => ⟨S1024x128, .bf16⟩
  | .hbm, ⟨20, _⟩ => ⟨S1024x128, .f32⟩
  | .hbm, ⟨21, _⟩ => ⟨S1024x128, .bf16⟩
  | .hbm, ⟨22, _⟩ => ⟨S1024x128, .f32⟩
  | .hbm, ⟨23, _⟩ => ⟨S1024x128, .bf16⟩
  | .hbm, ⟨24, _⟩ => ⟨S1024x256, .bf16⟩
  | .hbm, ⟨25, _⟩ => ⟨S1x1024, .f32⟩
  | .hbm, ⟨26, _⟩ => ⟨S1x1024, .f32⟩
  | .hbm, ⟨27, _⟩ => ⟨S4x8192x1024, .f32⟩
  | .hbm, ⟨28, _⟩ => ⟨S4x8192x1024, .bf16⟩
  | .hbm, ⟨29, _⟩ => ⟨S4x16x8192, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .f32⟩
  | .local _ .vmem, ⟨3, _⟩ => ⟨S1x512x1024, .f32⟩
  | .local _ .vmem, ⟨4, _⟩ => ⟨S1x8x1024, .f32⟩
  | .local _ .vmem, ⟨5, _⟩ => ⟨S1x8x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x256, .bf16⟩
  | .local _ .vmem, ⟨10, _⟩ => ⟨S1x512x1024, .f32⟩
  | .local _ .vmem, ⟨11, _⟩ => ⟨S1x512x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S1x16x512, .f32⟩
  | .local _ .vmem, ⟨15, _⟩ => ⟨S1x16x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev main_v16_2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference5Ideal.lean ====
abbrev S4x8192x1024 : Shape := ⟨3, ![4, 8192, 1024]⟩
abbrev S4x6x1024 : Shape := ⟨3, ![4, 6, 1024]⟩
abbrev S1024x1024 : Shape := ⟨2, ![1024, 1024]⟩
abbrev S1024 : Shape := ⟨1, ![1024]⟩
abbrev S1024x16 : Shape := ⟨2, ![1024, 16]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x16 : Shape := ⟨3, ![4, 8192, 16]⟩
abbrev S4x16x8192 : Shape := ⟨3, ![4, 16, 8192]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x1024, .f32⟩
  | .hbm, ⟨2, _⟩ => ⟨S4x6x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x16, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x8192x1024, .f32⟩
  | .hbm, ⟨12, _⟩ => ⟨S4x8192x1024, .f32⟩
  | .hbm, ⟨13, _⟩ => ⟨S4x8192x1024, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S_, .f32⟩
  | .hbm, ⟨18, _⟩ => ⟨S4x8192, .f32⟩
  | .hbm, ⟨19, _⟩ => ⟨S4x8192x1, .f32⟩
  | .hbm, ⟨20, _⟩ => ⟨S_, .f32⟩
  | .hbm, ⟨21, _⟩ => ⟨S4x8192x1, .f32⟩
  | .hbm, ⟨22, _⟩ => ⟨S4x8192x1, .f32⟩
  | .hbm, ⟨23, _⟩ => ⟨S4x8192x1024, .f32⟩
  | .hbm, ⟨24, _⟩ => ⟨S4x8192x1024, .f32⟩
  | .hbm, ⟨25, _⟩ => ⟨S4x8192x1024, .f32⟩
  | .hbm, ⟨26, _⟩ => ⟨S_, .f32⟩
  | .hbm, ⟨27, _⟩ => ⟨S4x8192, .f32⟩
  | .hbm, ⟨28, _⟩ => ⟨S4x8192x1, .f32⟩
  | .hbm, ⟨29, _⟩ => ⟨S_, .f32⟩
  | .hbm, ⟨30, _⟩ => ⟨S4x8192x1, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S4x8192x1, .f32⟩
  | .hbm, ⟨36, _⟩ => ⟨S4x8192x1024, .f32⟩
  | .hbm, ⟨37, _⟩ => ⟨S4x8192x1024, .f32⟩
  | .hbm, ⟨38, _⟩ => ⟨S1x1x1024, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x16, .f32⟩
  | .hbm, ⟨52, _⟩ => ⟨S_, .f32⟩
  | .hbm, ⟨53, _⟩ => ⟨S4x8192, .f32⟩
  | .hbm, ⟨54, _⟩ => ⟨S_, .f32⟩
  | .hbm, ⟨55, _⟩ => ⟨S4x8192, .f32⟩
  | .hbm, ⟨56, _⟩ => ⟨S4x8192, .f32⟩
  | .hbm, ⟨57, _⟩ => ⟨S4x8192x1, .f32⟩
  | .hbm, ⟨58, _⟩ => ⟨S4x8192x16, .f32⟩
  | .hbm, ⟨59, _⟩ => ⟨S4x8192x16, .f32⟩
  | .hbm, ⟨60, _⟩ => ⟨S4x8192x16, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x16, .f32⟩
  | .hbm, ⟨65, _⟩ => ⟨S4x8192x16, .f32⟩
  | .hbm, ⟨66, _⟩ => ⟨S4x8192x1024, .bf16⟩
  | .hbm, ⟨67, _⟩ => ⟨S4x16x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_cst_7 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩

abbrev nD : Nat := 1
abbrev τ : Topo := Topo.v7x

variable {F : FTy → Type} [FloatOps F]
-- ==== Proof.Body.lean ====
module

public import proofs.«01_k».proof.Proof.Gen.KernelIdeal.Frame
public import proofs.«01_k».proof.Proof.Gen.KernelIdeal.Loops
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch's condition, from the score bound's leading element as the body loads it. -/
abbrev isLow (b : Vec F S1x1 .f32) : Prop :=
  Scalar.cmpi .ne (Scalar.extui (Scalar.cmpf .ole (k0_pay56 (k0_pay54 b)) (Scalar.ofBits .f32 0x42800000#32))) 0#32 = 1#1

/-- The second branch's condition: the first one's, negated by the body's own exclusive or. -/
abbrev isHigh (b : Vec F S1x1 .f32) : Prop :=
  Scalar.cmpi .ne (Scalar.extui (Scalar.xori (Scalar.cmpf .ole (k0_pay56 (k0_pay54 b)) (Scalar.ofBits .f32 0x42800000#32)) 1#1)) 0#32 = 1#1

/-- Exactly one of the two branches runs. -/
theorem isHigh_iff (b : Vec F S1x1 .f32) : isHigh b ↔ ¬isLow b := by
  have h : ∀ w : BitVec 1, Iff (Scalar.cmpi .ne (Scalar.extui (Scalar.xori w 1#1) : BitVec 32) 0#32 = 1#1) (¬(Scalar.cmpi .ne (Scalar.extui w : BitVec 32) 0#32 = 1#1)) := by decide
  exact h _

/-- The score bound's leading element as the body loads it out of a staging buffer holding the block `x5`. -/
abbrev bndAt (arg8 : Memref sig .tc .vmem S1x128 .f32) (harg8 : arg8.IsWhole) (x5 : Vec F S1x128 .f32) : Vec F S1x1 .f32 :=
  arg8.view.readAt (Elt F) (Rect.unit (s := S1x128) ![0, 0] S1x1.size inb_S1x128_S1x1_0_0).toLoadRect (harg8.unread x5)

set_option maxHeartbeats 4000000 in
/-- The body when the score bound is at most 64: every weight is taken against the bound itself. -/
def runLow (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x256x512 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole)
    (x0 : Vec F S1x256x512 .bf16) (x1 : Vec F S1x8192x128 .bf16) (x2 : Vec F S1x8192x128 .bf16) (x3 : Vec F S1x256x128 .bf16) (x4 : Vec F S1x256x128 .bf16) (x5 : Vec F S1x128 .f32) (hc0 : isLow (bndAt arg8 harg8 x5)) (hc1 : ¬isHigh (bndAt arg8 harg8 x5)) :
    { L6 : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__gqa_kernel i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gqa_kernel_eq_skeleton]; unfold cc0__gqa_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    iexists _; iexists _; isplitr; swap; · iexact HS3
    ipureintro; rfl

set_option maxHeartbeats 4000000 in
/-- The body when the score bound is above 64: a running maximum is kept. -/
def runHigh (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x256x512 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole)
    (x0 : Vec F S1x256x512 .bf16) (x1 : Vec F S1x8192x128 .bf16) (x2 : Vec F S1x8192x128 .bf16) (x3 : Vec F S1x256x128 .bf16) (x4 : Vec F S1x256x128 .bf16) (x5 : Vec F S1x128 .f32) (hc0 : ¬isLow (bndAt arg8 harg8 x5)) (hc1 : isHigh (bndAt arg8 harg8 x5)) :
    { L6 : List (View.Piece (Elt F) S1x256x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__gqa_kernel i arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__gqa_kernel_eq_skeleton]; unfold cc0__gqa_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; iexact H6
    isplitl [HS0]
    · iexists _; iexists _; isplitr; swap; · iexact HS0
      ipureintro; rfl
    isplitl [HS1]
    · iexists _; iexists _; isplitr; swap; · iexact HS1
      ipureintro; rfl
    isplitl [HS2]
    · iexists _; iexists _; isplitr; swap; · iexact HS2
      ipureintro; rfl
    iexists _; iexists _; isplitr; swap; · iexact HS3
    ipureintro; rfl

end Cert.KernelIdeal.Body

end
-- ==== Proof.Run.lean ====
module

public import proofs.«01_k».proof.Proof.Gen.KernelIdeal.Frame
public import proofs.«01_k».proof.Proof.Gen.KernelIdeal.Loops
public import proofs.«01_k».proof.Proof.Gen.KernelIdeal.Skeleton
public import proofs.«01_k».proof.Proof.Gen.KernelIdeal.Points
public import proofs.«01_k».proof.Proof.Body
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The point's memrefs -/

abbrev ms0 (t : Fin cfg0.N) : Memref sig .tc .vmem S1x256x512 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x8192x128 .bf16 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256x128 .bf16 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x256x128 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x128 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256x512 .bf16 := win0_6.stage (cfg0.slots t 6)
abbrev hs6 (t : Fin cfg0.N) : (ms6 t).IsWhole := hstage0_6 ((cfg0.slots t 6).cast nbuf0_6)
abbrev sc0 : Memref sig .tc .vmem S2048x128 .bf16 := Memref.whole cc0_scratch0
abbrev sc1 : Memref sig .tc .vmem S2048x1 .f32 := Memref.whole cc0_scratch1
abbrev sc2 : Memref sig .tc .vmem S2048x128 .f32 := Memref.whole cc0_scratch2
abbrev sc3 : Memref sig .tc .vmem S2048x128 .f32 := Memref.whole cc0_scratch3

/-- One staging buffer of the output, through which its contents are stated (which one does not matter). -/
abbrev VO : View sig .tc .vmem S1x256x512 .bf16 := (Memref.whole cc0_stg6_0 : Memref sig .tc .vmem S1x256x512 .bf16).view

/-- The region's invariant with the scratch buffers as memrefs held at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; try rfl

/-! ## What the body leaves -/

/-- The score bound's leading element at point `t`. -/
abbrev bndT (c : Dev nD) (t : Fin cfg0.N) : Vec F S1x1 .f32 := bndAt (ms5 t) (hs5 t) (iblk m c 5 t)

/-- The low branch's stores into the output at point `t`. -/
abbrev pcsS (c : Dev nD) (t : Fin cfg0.N) (h : isLow (bndT m c t)) :=
  runLow c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) h (fun hu => (isHigh_iff _).mp hu h)

/-- The high branch's stores into the output at point `t`. -/
abbrev pcsU (c : Dev nD) (t : Fin cfg0.N) (h : ¬isLow (bndT m c t)) :=
  runHigh c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) (iblk m c 0 t) (iblk m c 1 t) (iblk m c 2 t) (iblk m c 3 t) (iblk m c 4 t) (iblk m c 5 t) h ((isHigh_iff _).mpr h)

theorem coverS (c : Dev nD) (t : Fin cfg0.N) (h : isLow (bndT m c t)) (y : S1x256x512.Idx) :
    ∃ pc ∈ (pcsS m c t h).1, y ∈ pc.1.set :=
  View.cover_of_tiledL (pcsS m c t h).1 S1x256x128.size (by sl_kernel_rfl) y

theorem coverU (c : Dev nD) (t : Fin cfg0.N) (h : ¬isLow (bndT m c t)) (y : S1x256x512.Idx) :
    ∃ pc ∈ (pcsU m c t h).1, y ∈ pc.1.set :=
  View.cover_of_tiledL (pcsU m c t h).1 S1x256x128.size (by sl_kernel_rfl) y

open Classical in
/-- What the body leaves in the output's staging buffer at point `t`: the stores of the branch taken, read back. -/
def outAt (c : Dev nD) (t : Fin cfg0.N) : Vec F S1x256x512 .bf16 :=
  if h : isLow (bndT m c t) then VO.read (Elt F) (VO.writes (Elt F) VO.junk (pcsS m c t h).1)
  else VO.read (Elt F) (VO.writes (Elt F) VO.junk (pcsU m c t h).1)

theorem outAt_low (c : Dev nD) (t : Fin cfg0.N) (h : isLow (bndT m c t)) :
    outAt m c t = VO.read (Elt F) (VO.writes (Elt F) VO.junk (pcsS m c t h).1) := dif_pos h

theorem outAt_high (c : Dev nD) (t : Fin cfg0.N) (h : ¬isLow (bndT m c t)) :
    outAt m c t = VO.read (Elt F) (VO.writes (Elt F) VO.junk (pcsU m c t h).1) := dif_neg h

/-! ## The pipeline's proof data -/

/-- The arrays as the region finds them; every input's buffer at its block after the body, the output's at `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = outAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 (t : Fin cfg0.N) : cfg0.idle 5 (grid0.coords t) = false := rfl
theorem live_6 (t : Fin cfg0.N) : cfg0.idle 6 (grid0.coords t) = false := rfl

/-! ## The body obligation, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point: the inputs' memrefs hold their blocks, the score bound says which branch runs, and the run
    of that branch applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rw [show (dats m 0 c).leavesExact 5 t = owns (c : Thread nD τ) (ms5 t) fullShare ((dats m 0 c).after 5 t) from by
    unfold Dat.leavesExact; rw [live_5 t], after_5]
  rw [show (dats m 0 c).leavesExact 6 t = owns (c : Thread nD τ) (ms6 t) fullShare ((dats m 0 c).after 6 t) from by
    unfold Dat.leavesExact; rw [live_6 t], after_6]
  by_cases h : isLow (bndT m c t)
  · rw [outAt_low m c t h]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((pcsS m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%e6, H6⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverS m c t h)
  · rw [outAt_high m c t h]
    iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩, ⟨%d6, H6⟩⟩
    iapply ((pcsU m c t h).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    isplitl [HS3]; · iexact HS3
    iintro ⟨H0, H1, H2, H3, H4, H5, ⟨%e6, H6⟩, HS0, HS1, HS2, HS3⟩
    isplitl [HS0 HS1 HS2 HS3 Hg]
    · isplitl [HS0 HS1 HS2 HS3]
      · isplitl [HS0]; · iexact HS0
        isplitl [HS1]; · iexact HS1
        isplitl [HS2]; · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (coverU m c t h)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The whole program's run: the pipeline's arrays at what its write-backs leave, every other buffer as the host lines
    leave it, every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.FfnValue.lean ====
/-
  The value of the expert feed-forward call. Each expert's capacity rows are multiplied by two 1024 x 2048 matrices,
  gated, and multiplied by a 2048 x 1024 matrix. The kernel walks the 2048 hidden columns in two grid points of 1024,
  each in four pieces of 256, and keeps the partial product in a scratch between the two points.
-/
module

public import proofs.«01_k».proof.Defs
public import proofs.«01_k».proof.Proof.Gen.Kernel2Ideal.Value
public import Idealize.ShloMosaic.Lib.Claim
public import Idealize.ShloMosaic.Lib.Tactic
public import Idealize.ShloMosaic.Lib.Pointwise
public import Idealize.ShloMosaic.Lib.Pipeline.ValueKit

@[expose] public section

set_option maxRecDepth 16384

noncomputable section

namespace Cert.Kernel2Ideal.Ffn

open Cert.Kernel2Ideal Cert.Kernel2Ideal.Gen Idealize.ShloMosaic Idealize.ShloMosaic.TcCoe Idealize.SL.Sem

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-! ## Sums cut into pieces -/

/-- A sum over 1024 columns is the sum of its four quarters. -/
theorem sum_quarters (f : Fin 1024 → EReal) :
    ∑ k, f k = ∑ k : Fin 256, f ⟨k.val, by omega⟩ + ∑ k : Fin 256, f ⟨256 + k.val, by omega⟩
      + ∑ k : Fin 256, f ⟨512 + k.val, by omega⟩ + ∑ k : Fin 256, f ⟨768 + k.val, by omega⟩ := by
  refine (Fin.sum_univ_add (a := 768) (b := 256) f).trans (congrArg₂ (· + ·) ?_ rfl)
  refine (Fin.sum_univ_add (a := 512) (b := 256) _).trans (congrArg₂ (· + ·) ?_ rfl)
  exact (Fin.sum_univ_add (a := 256) (b := 256) _)

/-- A sum over 2048 columns is the sum of its two halves. -/
theorem sum_halves (f : Fin 2048 → EReal) :
    ∑ k, f k = ∑ k : Fin 1024, f ⟨k.val, by omega⟩ + ∑ k : Fin 1024, f ⟨1024 + k.val, by omega⟩ :=
  Fin.sum_univ_add (a := 1024) (b := 1024) f

/-! ## One grid point -/

/-- The gated product of two pre-activations. -/
def gated (u v : EReal) : EReal := Ideal.div u (1 + Ideal.exp (0 - u)) * v

/-- What one grid point adds to row `r`, column `j`: its block of rows through its 1024 hidden columns. -/
def part (x : Vec Ideal S1x1x1024x1024 .bf16) (a b w : Vec Ideal S1x1x1024x1024 .f32) (r j : Fin 1024) : EReal :=
  ∑ k : Fin 1024, gated (∑ d : Fin 1024, x (ix4 0 0 r d) * a (ix4 0 0 d k)) (∑ d : Fin 1024, x (ix4 0 0 r d) * b (ix4 0 0 d k))
    * w (ix4 0 0 k j)

section Point
variable (c : Dev nD) (i : grid0.Coords) (arg3 : Memref sig .tc .vmem S1x1x1024x1024 .bf16) (harg3 : arg3.IsWhole)
  (arg4 : Memref sig .tc .vmem S1x1x1024x1024 .f32) (harg4 : arg4.IsWhole) (arg5 : Memref sig .tc .vmem S1x1x1024x1024 .f32) (harg5 : arg5.IsWhole)
  (arg6 : Memref sig .tc .vmem S1x1x1024x1024 .f32) (harg6 : arg6.IsWhole) (arg7 : Memref sig .tc .vmem S1x1x1024x1024 .bf16) (harg7 : arg7.IsWhole)
  (arg8 : Memref sig .tc .vmem S1024x1024 .f32) (harg8 : arg8.IsWhole)
  (x0 : Vec Ideal S1x1x1024x1024 .bf16) (x1 x2 x3 : Vec Ideal S1x1x1024x1024 .f32)

/-- The first point of a pair leaves its part in the scratch. -/
theorem scratch_first (hc0 : cond0_0 i) (hc1 : ¬cond0_1 i) (hc2 : ¬cond0_2 i) (r j : Fin 1024) :
    sout0_A_0 c i arg3 harg3 arg4 harg4 arg5 harg5 arg6 harg6 arg7 harg7 arg8 harg8 hc0 hc1 hc2 x0 x1 x2 x3 (ix2 r j)
      = part x0 x1 x2 x3 r j := by
  unfold sout0_A_0
  rw [View.read_writes_eq_canon _ _ _ (scover0_A_0 c i arg3 harg3 arg4 harg4 arg5 harg5 arg6 harg6 arg7 harg7 arg8 harg8 hc0 hc1 hc2 x0 x1 x2 x3)]
  unfold kernelRun0_A
  dsimp only
  sl_unfold_words
  rw [View.canon_unit_zero zeros2]
  simp only [View.readAt_eq_ld, harg3.read_unread, harg4.read_unread, harg5.read_unread, harg6.read_unread,
    View.ld_unit_zero (S := S1x1x1024x1024) zeros4, shapeCast_self]
  rw [part, sum_quarters]
  pointwise [k0_pay9, k0_pay8, k0_pay7, k0_pay6, k0_pay5, k0_pay4, k0_pay3, k0_pay2, gated]

/-- The second point of a pair writes back what the scratch held plus its own part. -/
theorem output_second (hc0 : ¬cond0_0 i) (hc1 : ¬cond0_1 i) (hc2 : cond0_2 i) (s : Vec Ideal S1024x1024 .f32) (r j : Fin 1024) :
    out0_B_4 c i arg3 harg3 arg4 harg4 arg5 harg5 arg6 harg6 arg7 harg7 arg8 harg8 hc0 hc1 hc2 x0 x1 x2 x3 s (ix4 0 0 r j)
      = s (ix2 r j) + part x0 x1 x2 x3 r j := by
  unfold out0_B_4
  rw [View.read_writes_eq_canon _ _ _ (cover0_B_4 c i arg3 harg3 arg4 harg4 arg5 harg5 arg6 harg6 arg7 harg7 arg8 harg8 hc0 hc1 hc2 x0 x1 x2 x3 s)]
  unfold kernelRun0_B
  dsimp only
  sl_unfold_words
  rw [View.canon_unit_zero zeros4]
  simp only [View.readAt_eq_ld, harg3.read_unread, harg4.read_unread, harg5.read_unread, harg6.read_unread, harg8.read_unread,
    View.ld_unit_zero (S := S1x1x1024x1024) zeros4, View.ld_unit_zero (S := S1024x1024) zeros2, shapeCast_self]
  rw [part, sum_quarters]
  pointwise [k0_pay1, k0_pay8, k0_pay7, k0_pay6, k0_pay5, k0_pay4, k0_pay3, k0_pay2, gated]

end Point

/-! ## The blocks a point reads -/

variable (m : (ℓ : Loc nD τ sig) → Buf (Elt Ideal) ℓ)

/-- Point `t` works on expert `t / 8`, batch row `t / 2 mod 4` and half `t mod 2` of the hidden columns. -/
theorem index_facts : ∀ t : Fin cfg0.N, win0_0.index t = ![t.val / 8, t.val / 2 % 4, 0, 0]
    ∧ win0_1.index t = ![3, t.val / 8, 0, t.val % 2] ∧ win0_2.index t = ![3, t.val / 8, 0, t.val % 2]
    ∧ win0_3.index t = ![3, t.val / 8, t.val % 2, 0] := by
  decide +kernel

theorem blk1 (c : Dev nD) (t : Fin cfg0.N) (e : Fin 16) (f : Fin 2) (he : t.val / 8 = e.val) (hf : t.val % 2 = f.val) (d k : Fin 1024) :
    iblk m c 1 t (ix4 0 0 d k) = m ((c : Thread nD τ).loc main_arg1) (ix4 3 e d ⟨1024 * f.val + k.val, by omega⟩) := by
  have h := (index_facts t).2.1
  rw [he, hf] at h
  blk_ext [iblk, V_main_arg1, h]

theorem blk2 (c : Dev nD) (t : Fin cfg0.N) (e : Fin 16) (f : Fin 2) (he : t.val / 8 = e.val) (hf : t.val % 2 = f.val) (d k : Fin 1024) :
    iblk m c 2 t (ix4 0 0 d k) = m ((c : Thread nD τ).loc main_arg2) (ix4 3 e d ⟨1024 * f.val + k.val, by omega⟩) := by
  have h := (index_facts t).2.2.1
  rw [he, hf] at h
  blk_ext [iblk, V_main_arg2, h]

theorem blk3 (c : Dev nD) (t : Fin cfg0.N) (e : Fin 16) (f : Fin 2) (he : t.val / 8 = e.val) (hf : t.val % 2 = f.val) (k j : Fin 1024) :
    iblk m c 3 t (ix4 0 0 k j) = m ((c : Thread nD τ).loc main_arg3) (ix4 3 e ⟨1024 * f.val + k.val, by omega⟩ j) := by
  have h := (index_facts t).2.2.2
  rw [he, hf] at h
  blk_ext [iblk, V_main_arg3, h]

/-- The rows as the call finds them: transposed to expert first, with 64 rows of padding below. -/
theorem rows_entry (c : Dev nD) (e : Fin 16) (b : Fin 4) (r : Fin 1088) (d : Fin 1024) (hr : r.val < 1024) :
    V m c main_v2 (ix4 e b r d) = m ((c : Thread nD τ).loc main_arg0) (ix4 b e ⟨r.val, hr⟩ d) := by
  have h : V m c main_v2 = truncf .bf16 (pad S16x4x1088x1024 ![0, 0, 0, 0] ![0, 0, 64, 0] ![0, 0, 0, 0]
      (transpose S16x4x1024x1024 [1, 0, 2, 3] (m ((c : Thread nD τ).loc main_arg0)) transposes_S4x16x1024x1024_S16x4x1024x1024_1_0_2_3)
      (sitofp (F := Ideal) .f32 (constantI S_ 32 0#32)) pads_S16x4x1024x1024_S16x4x1088x1024_000_000_0640_000 h_S_) bitsLt_bf16_f32 := by
    simp only [V, hostOps0, hostOps0_1, hostOps0_2, List.flatten_cons, List.flatten_nil, List.append_nil, List.cons_append,
      List.nil_append, StableHlo.TRef.binary, StableHlo.TRef.unary, StableHlo.TRef.toBuf, StableHlo.TRef.ofBuf, cast_eq]
    after_results
  rw [h]
  pointwise
  exact dif_pos hr

theorem blk0 (c : Dev nD) (t : Fin cfg0.N) (e : Fin 16) (b : Fin 4) (he : t.val / 8 = e.val) (hb : t.val / 2 % 4 = b.val) (r d : Fin 1024) :
    X0_0 m c t (ix4 0 0 r d) = m ((c : Thread nD τ).loc main_arg0) (ix4 b e r d) := by
  have h := (index_facts t).1
  rw [he, hb] at h
  unfold X0_0 Pipeline.Window.fill
  rw [dif_pos (moved0_0 t _)]
  refine Eq.trans ?_ (rows_entry m c e b ⟨r.val, by omega⟩ d r.isLt)
  blk_ext [iblk, h]

/-! ## The whole call -/

/-- The feed-forward result at expert `e`, batch row `b`, capacity row `r`, column `j`. -/
def ffn (xs : Vec Ideal S4x16x1024x1024 .f32) (w1 w3 : Vec Ideal S4x16x1024x2048 .f32) (w2 : Vec Ideal S4x16x2048x1024 .f32)
    (e : Fin 16) (b : Fin 4) (r j : Fin 1024) : EReal :=
  ∑ k : Fin 2048, gated (∑ d : Fin 1024, xs (ix4 b e r d) * w1 (ix4 3 e d k)) (∑ d : Fin 1024, xs (ix4 b e r d) * w3 (ix4 3 e d k))
    * w2 (ix4 3 e k j)

/-- Its half `f`: hidden columns `1024 f` to `1024 f + 1023`. -/
def half (xs : Vec Ideal S4x16x1024x1024 .f32) (w1 w3 : Vec Ideal S4x16x1024x2048 .f32) (w2 : Vec Ideal S4x16x2048x1024 .f32)
    (e : Fin 16) (b : Fin 4) (f : Fin 2) (r j : Fin 1024) : EReal :=
  ∑ k : Fin 1024, gated (∑ d : Fin 1024, xs (ix4 b e r d) * w1 (ix4 3 e d ⟨1024 * f.val + k.val, by omega⟩))
      (∑ d : Fin 1024, xs (ix4 b e r d) * w3 (ix4 3 e d ⟨1024 * f.val + k.val, by omega⟩))
    * w2 (ix4 3 e ⟨1024 * f.val + k.val, by omega⟩ j)

theorem half_add_half (xs : Vec Ideal S4x16x1024x1024 .f32) (w1 w3 : Vec Ideal S4x16x1024x2048 .f32) (w2 : Vec Ideal S4x16x2048x1024 .f32)
    (e : Fin 16) (b : Fin 4) (r j : Fin 1024) :
    half xs w1 w3 w2 e b 0 r j + half xs w1 w3 w2 e b 1 r j = ffn xs w1 w3 w2 e b r j := by
  unfold ffn half
  rw [sum_halves]
  refine congrArg₂ (· + ·) (Finset.sum_congr rfl fun k _ => ?_) (Finset.sum_congr rfl fun k _ => ?_)
  · have h : (⟨1024 * (0 : Fin 2).val + k.val, by omega⟩ : Fin 2048) = ⟨k.val, by omega⟩ := Fin.ext (by simp)
    rw [h]
  · have h : (⟨1024 * (1 : Fin 2).val + k.val, by omega⟩ : Fin 2048) = ⟨1024 + k.val, by omega⟩ := Fin.ext (by simp)
    rw [h]

/-- A point's part, read off the arguments. -/
theorem part_blocks (c : Dev nD) (t : Fin cfg0.N) (e : Fin 16) (b : Fin 4) (f : Fin 2) (he : t.val / 8 = e.val)
    (hb : t.val / 2 % 4 = b.val) (hf : t.val % 2 = f.val) (r j : Fin 1024) :
    part (X0_0 m c t) (iblk m c 1 t) (iblk m c 2 t) (iblk m c 3 t) r j
      = half (m ((c : Thread nD τ).loc main_arg0)) (m ((c : Thread nD τ).loc main_arg1))
          (m ((c : Thread nD τ).loc main_arg2)) (m ((c : Thread nD τ).loc main_arg3)) e b f r j := by
  unfold part half
  refine Finset.sum_congr rfl fun k _ => ?_
  rw [blk3 m c t e f he hf]
  congr 2
  · exact Finset.sum_congr rfl fun d _ => by rw [blk0 m c t e b he hb, blk1 m c t e f he hf]
  · exact Finset.sum_congr rfl fun d _ => by rw [blk0 m c t e b he hb, blk2 m c t e f he hf]

/-- After the first point of a pair the scratch holds the first half. -/
theorem after_first (c : Dev nD) (t : Fin cfg0.N) (e : Fin 16) (b : Fin 4) (he : t.val / 8 = e.val)
    (hb : t.val / 2 % 4 = b.val) (hf : t.val % 2 = 0) (r j : Fin 1024) :
    (outsAt0 m c t.val t.isLt).2 (ix2 r j)
      = half (m ((c : Thread nD τ).loc main_arg0)) (m ((c : Thread nD τ).loc main_arg1))
          (m ((c : Thread nD τ).loc main_arg2)) (m ((c : Thread nD τ).loc main_arg3)) e b 0 r j := by
  rw [outsAt0_A m c t hf (by omega)]
  dsimp only
  rw [scratch_first]
  exact part_blocks m c t e b 0 he hb hf r j

/-- After the second point of a pair the output block holds the whole sum. -/
theorem after_second (c : Dev nD) (t : Fin cfg0.N) (e : Fin 16) (b : Fin 4) (he : t.val / 8 = e.val)
    (hb : t.val / 2 % 4 = b.val) (hf : t.val % 2 = 1) (r j : Fin 1024) :
    (outsAt0 m c t.val t.isLt).1 (ix4 0 0 r j)
      = ffn (m ((c : Thread nD τ).loc main_arg0)) (m ((c : Thread nD τ).loc main_arg1))
          (m ((c : Thread nD τ).loc main_arg2)) (m ((c : Thread nD τ).loc main_arg3)) e b r j := by
  rw [outsAt0_B m c t (by omega) hf]
  dsimp only
  rw [output_second, after_first m c ⟨t.val - 1, by omega⟩ e b (by dsimp only; omega) (by dsimp only; omega) (by dsimp only; omega),
    part_blocks m c t e b 1 he hb hf, half_add_half]

/-- What the result array ends holding. -/
theorem result (c : Dev nD) (e : Fin 16) (b : Fin 4) (r j : Fin 1024) :
    Value.G4 m c (ix4 e b r j) = ffn (m ((c : Thread nD τ).loc main_arg0)) (m ((c : Thread nD τ).loc main_arg1))
      (m ((c : Thread nD τ).loc main_arg2)) (m ((c : Thread nD τ).loc main_arg3)) e b r j := by
  have hp : Value.pt4Of (ix4 e b r j) = 8 * e.val + 2 * b.val + 1 := by
    show 2 * (4 * (e.val / 1 - 0) + 1 * (b.val / 1 - 0) + 1 * (r.val / 1024 - 0) + 1 * (j.val / 1024 - 0)) + 1 = _
    omega
  have hN : cfg0.N = 128 := N_0
  have hlt : 8 * e.val + 2 * b.val + 1 < cfg0.N := by omega
  have hl : Value.loc4Of (ix4 e b r j) = ix4 0 0 r j := by
    funext a; apply Fin.ext
    match a with
    | ⟨0, _⟩ => exact Nat.mod_one _
    | ⟨1, _⟩ => exact Nat.mod_one _
    | ⟨2, _⟩ => exact Nat.mod_eq_of_lt r.isLt
    | ⟨3, _⟩ => exact Nat.mod_eq_of_lt j.isLt
  unfold Value.G4
  rw [dif_pos (hp ▸ hlt), hl, Value.fold0_congr m c _ _ (8 * e.val + 2 * b.val + 1) (by omega) hp, ← Value.outsAt0_sweep m c _ hlt]
  exact after_second m c ⟨8 * e.val + 2 * b.val + 1, hlt⟩ e b (by dsimp only; omega) (by dsimp only; omega) (by dsimp only; omega) r j

end Cert.Kernel2Ideal.Ffn
-- ==== Proof.FfnClaim.lean ====
/-
  The feed-forward call against its reference: the kernel's result array and the plain products agree element by
  element over the extended reals.
-/
module

public import proofs.«01_k».proof.Proof.FfnValue
public import proofs.«01_k».proof.Proof.Gen.Reference2Ideal.Run
public import proofs.«01_k».proof.Proof.Gen.Reference2Ideal.Read
public import Idealize.ShloMosaic.Lib.IdealHost

@[expose] public section

set_option maxRecDepth 16384

noncomputable section

namespace Cert.Kernel2Ideal.Ffn

open Idealize.ShloMosaic Idealize.ShloMosaic.TcCoe Idealize.SL.Sem

/-- One plus an exponential is not zero. -/
theorem one_add_exp_ne_zero (x : EReal) : 1 + Ideal.exp x ≠ 0 := by
  have h : (0 : EReal) ≤ Ideal.exp x := by
    induction x with
    | bot => exact le_refl _
    | top => exact le_top
    | coe r => exact EReal.coe_nonneg.mpr (Real.exp_pos r).le
  exact (lt_of_lt_of_le zero_lt_one (le_add_of_nonneg_right h)).ne'

/-- The logistic form of the gate is the quotient form. -/
theorem gate_forms (u : EReal) : u * Ideal.div 1 (1 + Ideal.exp (-u)) = Ideal.div u (1 + Ideal.exp (0 - u)) := by
  rw [zero_sub]
  unfold Ideal.div
  rw [if_neg (one_add_exp_ne_zero _), if_neg (one_add_exp_ne_zero _), one_mul]

open Cert.Reference2Ideal Cert.Reference2Ideal.Read in
/-- The reference's result at an index. -/
theorem reference (x0 : Vec Ideal S4x16x1024x1024 .f32) (x1 x2 : Vec Ideal S4x16x1024x2048 .f32) (x3 : Vec Ideal S4x16x2048x1024 .f32)
    (e : Fin 16) (b : Fin 4) (r j : Fin 1024) :
    val_main_v15 (F := Ideal) x0 x1 x2 x3 (ix4 e b r j) = ffn x0 x1 x2 x3 e b r j := by
  pointwise [val_main_v15, val_main_v14, val_main_v13, val_main_v12, val_main_v11, val_main_v10, val_main_v9, val_main_v8,
    val_main_call0_v5, val_main_call0_v4, val_main_call0_v3, val_main_call0_v2, val_main_call0_v1, val_main_call0_v0,
    val_main_call0_cst, val_main_call0_cst_0, val_main_v7, val_main_v6, val_main_v5, val_main_v4, val_main_v3, val_main_v2,
    val_main_v1, val_main_v0, ffn, gated]
  refine Finset.sum_congr rfl fun k _ => ?_
  rw [gate_forms, mul_comm]
  simp only [mul_comm (x0 _)]

/-- The two programs end with equal results. -/
theorem algebraic : Cert.algebraic_Kernel2Ideal_Reference2Ideal := by
  intro m g m' g' _ hagree
  refine ⟨fun c => Value.G4 m c, Value.run m g, (θ_run _ _ _).mono (fun r h c => ⟨(h c).1.trans ?_, (h c).2⟩) (Cert.Reference2Ideal.Value.run m' g')⟩
  rw [Cert.Reference2Ideal.Read.val_main_v15_eq, (hagree c).1, (hagree c).2.1, (hagree c).2.2.1, (hagree c).2.2.2]
  funext i
  rw [eq_ix4 i]
  exact (reference _ _ _ _ _ _ _ _).trans (result m c _ _ _ _).symm

end Cert.Kernel2Ideal.Ffn
-- ==== Proof.AttnPre.lean ====
/-
  The attention claim's precondition read: where it holds, queries and keys are real numbers.
-/
module

public import proofs.«01_k».proof.Pre_scores_finite
public import Idealize.ShloMosaic.Lib.ReduceAll
public import Idealize.ShloMosaic.Lib.IdealHost
public import Idealize.ShloMosaic.Lib.Tactic

@[expose] public section
noncomputable section
namespace Cert.Pre_scores_finite
open Idealize.ShloMosaic

/-- The side conditions of the precondition's operations. -/
instance facts : Facts where
  bcast_S_S4x8192x16x64 := by decide
  reducesTo_S4x8192x16x64_S_d0_1_2_3 := by decide
  h_S_ := by decide
  bcast_S_S4x8192x4x64 := by decide
  reducesTo_S4x8192x4x64_S_d0_1_2_3 := by decide
  bcast_S_S4x256x4x64 := by decide
  reducesTo_S4x256x4x64_S_d0_1_2_3 := by decide

/-- An extended real whose absolute value is below plus infinity is a real number. -/
theorem real_of_lt (x : EReal) (h : Ideal.cmp .olt (max x (-x)) (Ideal.ofBits .f32 0x7F800000#32) = 1#1) : ∃ r : ℝ, x = (r : EReal) := by
  have ht : Ideal.ofBits .f32 0x7F800000#32 = ⊤ := by simp [Ideal.ofBits, Ideal.ieee]
  rw [ht] at h
  have hlt : max x (-x) < ⊤ := by
    by_contra hn
    have : Ideal.cmp .olt (max x (-x)) ⊤ = 0#1 := by unfold Ideal.cmp; exact congrArg BitVec.ofBool (decide_eq_false hn)
    rw [this] at h
    exact absurd h (by decide)
  induction x with
  | bot => simp at hlt
  | top => simp at hlt
  | coe r => exact ⟨r, rfl⟩

instance : Subsingleton S_.Idx := ⟨fun i j => funext fun a => a.elim0⟩

/-- Where the precondition holds, the queries and both sets of keys are real numbers. -/
theorem real_args [Facts] (x0 : FVec Ideal S4x8192x16x64 .f32) (x1 x2 : FVec Ideal S4x8192x4x64 .f32) (x3 x4 : FVec Ideal S4x256x4x64 .f32) (x5 x6 : FVec Ideal S64 .f32)
    (h : fn (F := Ideal) x0 x1 x2 x3 x4 x5 x6 = fun _ => 1#1) :
    (∀ i, ∃ r : ℝ, x0 i = (r : EReal)) ∧ (∀ i, ∃ r : ℝ, x1 i = (r : EReal)) ∧ ∀ i, ∃ r : ℝ, x3 i = (r : EReal) := by
  have h0 := congrFun h (fun a => a.elim0)
  obtain ⟨h01, h3⟩ := IntOp.andi_eq_one.mp h0
  obtain ⟨h1, h2⟩ := IntOp.andi_eq_one.mp h01
  exact ⟨fun i => real_of_lt _ (Host.reduce_andi_all _ _ _ _ _ h1 i), fun i => real_of_lt _ (Host.reduce_andi_all _ _ _ _ _ h2 i),
    fun i => real_of_lt _ (Host.reduce_andi_all _ _ _ _ _ h3 i)⟩

end Cert.Pre_scores_finite
end
-- ==== Proof.AttnHost.lean ====
/-
  What the host prepares for the attention region (queries, keys and values arranged by head pairs, the bound on the
  scores) and how it puts the region's columns back by head.
-/
module

public import proofs.«01_k».proof.Proof.Run
public import Idealize.ShloMosaic.Lib.Tactic
public import Idealize.ShloMosaic.Lib.Pointwise
public import Idealize.ShloMosaic.Lib.Pipeline.ValueKit

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem

/-- The latent projections side by side as the host lays them out. -/
def latOf (Q : Vec Ideal S4x8192x16x64 .f32) (K W : Vec Ideal S4x8192x4x64 .f32) : Vec Ideal S4x8192x1536 .bf16 :=
  truncf (F := Ideal) .bf16 (concatenate S4x8192x1536 2
      [⟨S4x8192x1024, shapeCast S4x8192x1024 (transpose S4x8192x2x4x2x2x32 [0, 1, 2, 4, 6, 3, 5]
          (shapeCast S4x8192x2x2x4x32x2 Q shapeCasts_S4x8192x16x64_S4x8192x2x2x4x32x2)
          transposes_S4x8192x2x2x4x32x2_S4x8192x2x4x2x2x32_0_1_2_4_6_3_5) shapeCasts_S4x8192x2x4x2x2x32_S4x8192x1024⟩,
        ⟨S4x8192x256, shapeCast S4x8192x256 (transpose S4x8192x2x2x2x32 [0, 1, 2, 5, 3, 4]
          (shapeCast S4x8192x2x2x32x2 K shapeCasts_S4x8192x4x64_S4x8192x2x2x32x2)
          transposes_S4x8192x2x2x32x2_S4x8192x2x2x2x32_0_1_2_5_3_4) shapeCasts_S4x8192x2x2x2x32_S4x8192x256⟩,
        ⟨S4x8192x256, shapeCast S4x8192x256 W shapeCasts_S4x8192x4x64_S4x8192x256⟩]
        concatenates_S4x8192x1024_S4x8192x256_S4x8192x256_S4x8192x1536_d2) bitsLt_bf16_f32

/-- The context projections side by side, with nothing where the queries would be. -/
def ctxOf (K W : Vec Ideal S4x256x4x64 .f32) : Vec Ideal S4x256x1536 .bf16 :=
  truncf (F := Ideal) .bf16 (concatenate S4x256x1536 2
      [⟨S4x256x1024, broadcastInDim S4x256x1024 ![] bcast_S_S4x256x1024 (constant (F := Ideal) S_ .f32 0x00000000#32)⟩,
        ⟨S4x256x256, shapeCast S4x256x256 (transpose S4x256x2x2x2x32 [0, 1, 2, 5, 3, 4]
          (shapeCast S4x256x2x2x32x2 K shapeCasts_S4x256x4x64_S4x256x2x2x32x2)
          transposes_S4x256x2x2x32x2_S4x256x2x2x2x32_0_1_2_5_3_4) shapeCasts_S4x256x2x2x2x32_S4x256x256⟩,
        ⟨S4x256x256, shapeCast S4x256x256 W shapeCasts_S4x256x4x64_S4x256x256⟩]
        concatenates_S4x256x1024_S4x256x256_S4x256x256_S4x256x1536_d2) bitsLt_bf16_f32

/-- The bound on the scores, from the largest query gain and the largest key gain. -/
def bndOf (g h : Vec Ideal S64 .f32) : Vec Ideal S1x128 .f32 :=
  mulf (broadcastInDim S1x128 ![] bcast_S_S1x128 (constant (F := Ideal) S_ .f32 0x42828F5C#32))
    (broadcastInDim S1x128 ![] bcast_S_S1x128 (mulf (mulf (Host.reduce FloatOps.maximumf (Host.absf g) (constant (F := Ideal) S_ .f32 0xFF800000#32) reducesTo_S64_S_d0 h_S_)
        (constant (F := Ideal) S_ .f32 0x3E38AA3B#32))
      (Host.reduce FloatOps.maximumf (Host.absf h) (constant (F := Ideal) S_ .f32 0xFF800000#32) reducesTo_S64_S_d0 h_S_)))

/-- The result's columns put back by head. -/
def outOf (o : Vec Ideal S4x8192x1024 .bf16) : Vec Ideal S4x8192x1024 .bf16 :=
  shapeCast S4x8192x1024 (transpose S4x8192x2x2x4x64 [0, 1, 2, 4, 3, 5] (shapeCast S4x8192x2x4x2x64 o shapeCasts_S4x8192x1024_S4x8192x2x4x2x64)
    transposes_S4x8192x2x4x2x64_S4x8192x2x2x4x64_0_1_2_4_3_5) shapeCasts_S4x8192x2x2x4x64_S4x8192x1024

section Entries
variable (Q : Vec Ideal S4x8192x16x64 .f32) (K W : Vec Ideal S4x8192x4x64 .f32) (KC WC : Vec Ideal S4x256x4x64 .f32) (b : Fin 4) (n : Fin 8192) (l : Fin 256)

theorem lat_q (j : Fin 1024) : latOf Q K W (ix3 b n ⟨j.val, by omega⟩)
    = Q (ix4 b n ⟨j.val / 512 * 8 + j.val / 32 % 2 * 4 + j.val / 128 % 4, by omega⟩ ⟨j.val % 32 * 2 + j.val / 64 % 2, by omega⟩) := by
  pointwise [latOf]

theorem lat_k (j : Fin 256) : latOf Q K W (ix3 b n ⟨1024 + j.val, by omega⟩)
    = K (ix4 b n ⟨j.val / 128 * 2 + j.val / 32 % 2, by omega⟩ ⟨j.val % 32 * 2 + j.val / 64 % 2, by omega⟩) := by
  pointwise [latOf]

theorem lat_v (j : Fin 256) : latOf Q K W (ix3 b n ⟨1280 + j.val, by omega⟩) = W (ix4 b n ⟨j.val / 64, by omega⟩ ⟨j.val % 64, by omega⟩) := by
  pointwise [latOf]
  rw [dif_neg (by omega), dif_neg (by omega)]
  congr 3 <;> omega

theorem ctx_k (j : Fin 256) : ctxOf KC WC (ix3 b l ⟨1024 + j.val, by omega⟩)
    = KC (ix4 b l ⟨j.val / 128 * 2 + j.val / 32 % 2, by omega⟩ ⟨j.val % 32 * 2 + j.val / 64 % 2, by omega⟩) := by
  pointwise [ctxOf]

theorem ctx_v (j : Fin 256) : ctxOf KC WC (ix3 b l ⟨1280 + j.val, by omega⟩) = WC (ix4 b l ⟨j.val / 64, by omega⟩ ⟨j.val % 64, by omega⟩) := by
  pointwise [ctxOf]
  rw [dif_neg (by omega), dif_neg (by omega)]
  congr 3 <;> omega

theorem out_at (o : Vec Ideal S4x8192x1024 .bf16) (j : Fin 1024) : outOf o (ix3 b n j)
    = o (ix3 b n ⟨j.val / 512 * 512 + j.val / 64 % 4 * 128 + j.val / 256 % 2 * 64 + j.val % 64, by omega⟩) := by
  pointwise [outOf]

theorem fold_abs_nonneg (g : Vec Ideal S64 .f32) :
    0 ≤ Finset.fold max (Ideal.ofBits FTy.f32 4286578688#32) (fun k : Fin 64 => FloatOps.absf (F := Ideal) (φ := .f32) (g (ix1 k))) Finset.univ := by
  rw [Finset.le_fold_max]
  refine Or.inr ⟨0, Finset.mem_univ _, ?_⟩
  show (0 : EReal) ≤ max (g (ix1 0)) (-g (ix1 0))
  rcases le_total 0 (g (ix1 0)) with h | h
  · exact le_max_of_le_left h
  · exact le_max_of_le_right (EReal.neg_nonneg.mpr h)

/-- The bound is not negative. -/
theorem bnd_nonneg (g h : Vec Ideal S64 .f32) (j : Fin 128) : 0 ≤ bndOf g h (ix2 0 j) := by
  pointwise [bndOf]
  refine mul_nonneg ?_ (mul_nonneg (mul_nonneg (fold_abs_nonneg g) ?_) (fold_abs_nonneg h))
  · simp [Ideal.ofBits, Ideal.ieee]; positivity
  · simp [Ideal.ofBits, Ideal.ieee]; positivity

/-- The low branch runs only when the bound is at most 64. -/
theorem le_of_low (b : Vec Ideal S1x1 .f32) (h : isLow b) : b (ix2 0 0) ≤ Ideal.ofBits .f32 0x42800000#32 := by
  have h1 : b (ix2 0 0) ≤ k0_pay56 (k0_pay54 b) := by
    pointwise [k0_pay56, k0_pay54]
    rw [Finset.le_fold_max]
    exact Or.inr ⟨default, Finset.mem_univ _, le_rfl⟩
  refine h1.trans ?_
  by_contra hn
  have h2 : Scalar.cmpf (F := Ideal) .ole (k0_pay56 (k0_pay54 b)) (Scalar.ofBits .f32 0x42800000#32) = 0#1 := by
    show Ideal.cmp .ole _ _ = _
    unfold Ideal.cmp
    exact congrArg BitVec.ofBool (decide_eq_false hn)
  unfold isLow at h
  rw [h2] at h
  exact absurd h (by decide)
end Entries

variable (m : (ℓ : Loc nD τ sig) → Buf (Elt Ideal) ℓ)

theorem entry_lat (c : Dev nD) : V m c main_v8 = latOf (m ((c : Thread nD τ).loc main_arg0)) (m ((c : Thread nD τ).loc main_arg1)) (m ((c : Thread nD τ).loc main_arg2)) := by
  unfold V V0
  simp only [hostOps0, List.flatten_cons, List.flatten_nil, List.append_nil, List.cons_append,
    List.nil_append, StableHlo.TRef.binary, StableHlo.TRef.unary, StableHlo.TRef.toBuf, StableHlo.TRef.ofBuf, cast_eq]
  after_results
  rfl

theorem entry_ctx (c : Dev nD) : V m c main_v15 = ctxOf (m ((c : Thread nD τ).loc main_arg3)) (m ((c : Thread nD τ).loc main_arg4)) := by
  unfold V V0
  simp only [hostOps0, List.flatten_cons, List.flatten_nil, List.append_nil, List.cons_append,
    List.nil_append, StableHlo.TRef.binary, StableHlo.TRef.unary, StableHlo.TRef.toBuf, StableHlo.TRef.ofBuf, cast_eq]
  after_results
  rfl

theorem entry_bnd (c : Dev nD) : V m c main_v24 = bndOf (m ((c : Thread nD τ).loc main_arg5)) (m ((c : Thread nD τ).loc main_arg6)) := by
  unfold V V0
  simp only [hostOps0, List.flatten_cons, List.flatten_nil, List.append_nil, List.cons_append,
    List.nil_append, StableHlo.TRef.binary, StableHlo.TRef.unary, StableHlo.TRef.toBuf, StableHlo.TRef.ofBuf, cast_eq]
  after_results
  rfl

end Cert.KernelIdeal.Attn
end
-- ==== Proof.AttnLoop.lean ====
/-
  The attention body's two inner loops as recursions over the blocks of 1024 keys.
-/
module

public import proofs.«01_k».proof.Proof.Gen.KernelIdeal.Loops
public import proofs.«01_k».proof.Proof.Gen.KernelIdeal.Skeleton
public import Idealize.ShloMosaic.Lib.Tactic
public import Idealize.ShloMosaic.Lib.Pointwise
public import Idealize.ShloMosaic.Lib.Pipeline.ValueKit

@[expose] public section
set_option maxRecDepth 16384
noncomputable section
namespace Cert.KernelIdeal.Attn
open Cert.KernelIdeal Cert.KernelIdeal.Gen Idealize.ShloMosaic Idealize.ShloMosaic.TcCoe Idealize.SL.Sem

theorem zeros2 : (![0, 0] : Fin 2 → Nat) = fun _ => 0 := funext fun a => by fin_cases a <;> rfl
theorem zeros3 : (![0, 0, 0] : Fin 3 → Nat) = fun _ => 0 := funext fun a => by fin_cases a <;> rfl

/-- Block `t` of 1024 rows of an array of 8192 rows. -/
def rowsOf (x : Vec Ideal S1x8192x128 .bf16) (t : ℕ) : Vec Ideal S1x1024x128 .bf16 :=
  fun i => x (ix3 0 ⟨(1024 * t + (i 1).val) % 8192, Nat.mod_lt _ (by norm_num)⟩ (i 2))

/-- The low branch's two accumulators after `t` blocks. -/
def lowState (w : FVec Ideal S1x1 .f32) (x y : Vec Ideal S1x8192x128 .bf16) (q : Vec Ideal S2048x128 .bf16) (l a : Vec Ideal S2048x128 .f32) :
    ℕ → Vec Ideal S2048x128 .f32 × Vec Ideal S2048x128 .f32
  | 0 => (l, a)
  | t + 1 => (k0_pay3 w (rowsOf x t) q (lowState w x y q l a t).1, k0_pay4 w (rowsOf x t) (rowsOf y t) q (lowState w x y q l a t).2)

/-- The high branch's maximum and two accumulators after `t` blocks. -/
def highState (x y : Vec Ideal S1x8192x128 .bf16) (q : Vec Ideal S2048x128 .bf16) (mx : Vec Ideal S2048x1 .f32) (l a : Vec Ideal S2048x128 .f32) :
    ℕ → Vec Ideal S2048x1 .f32 × Vec Ideal S2048x128 .f32 × Vec Ideal S2048x128 .f32
  | 0 => (mx, l, a)
  | t + 1 => (k0_pay13 (k0_pay7 (rowsOf x t) q (highState x y q mx l a t).1),
      k0_pay10 (rowsOf x t) q (highState x y q mx l a t).1 (highState x y q mx l a t).2.1,
      k0_pay12 (k0_pay5 (rowsOf y t)) (k0_pay8 (rowsOf x t) q (highState x y q mx l a t).1) (k0_pay9 (rowsOf x t) q (highState x y q mx l a t).1)
        (highState x y q mx l a t).2.2)

theorem low_trips : k0_t1_loop.trips = 8 := by decide +kernel
theorem high_trips : k0_t2_loop.trips = 8 := by decide +kernel

section Point
variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x256x512 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole)

/-- What one trip of the low branch stores. -/
theorem low_trip (v0 : IVec S1x128 32) (b : FVec Ideal S1x1 .f32) (X4 X5 X10 f12 f13) (t : Fin k0_t1_loop.trips) :
    tripL_k0_t1 (F := Ideal) Variants.none c none i arg3 harg3 arg4 harg4 arg5 harg5 arg6 harg6 arg7 harg7 arg8 harg8 arg9 harg9 arg10 harg10 arg11 harg11 arg12 harg12 arg13 harg13 v0 b X4 X5 X10 t f12 f13
      = ([(⟨Rect.unit (s := S2048x128) ![0, 0] S2048x128.size inb_S2048x128_S2048x128_0_0, k0_pay3 (k0_pay55 b) (View.readAt (Elt Ideal) arg4.view (Rect.unit (s := S1x8192x128) (k0_off1 t) S1x1024x128.size (k0_off1_inb t)).toLoadRect X4) (View.readAt (Elt Ideal) arg10.view (Rect.unit (s := S2048x128) ![0, 0] S2048x128.size inb_S2048x128_S2048x128_0_0).toLoadRect X10) (View.readAt (Elt Ideal) arg12.view (Rect.unit (s := S2048x128) ![0, 0] S2048x128.size inb_S2048x128_S2048x128_0_0).toLoadRect f12)⟩ : View.Piece (Elt Ideal) S2048x128 .f32)],
         [(⟨Rect.unit (s := S2048x128) ![0, 0] S2048x128.size inb_S2048x128_S2048x128_0_0, k0_pay4 (k0_pay55 b) (View.readAt (Elt Ideal) arg4.view (Rect.unit (s := S1x8192x128) (k0_off1 t) S1x1024x128.size (k0_off1_inb t)).toLoadRect X4) (View.readAt (Elt Ideal) arg5.view (Rect.unit (s := S1x8192x128) (k0_off1 t) S1x1024x128.size (k0_off1_inb t)).toLoadRect X5) (View.readAt (Elt Ideal) arg10.view (Rect.unit (s := S2048x128) ![0, 0] S2048x128.size inb_S2048x128_S2048x128_0_0).toLoadRect X10) (View.readAt (Elt Ideal) arg13.view (Rect.unit (s := S2048x128) ![0, 0] S2048x128.size inb_S2048x128_S2048x128_0_0).toLoadRect f13)⟩ : View.Piece (Elt Ideal) S2048x128 .f32)]) := by
  unfold tripL_k0_t1 trip_k0_t1
  rfl

/-- What one trip of the high branch stores. -/
theorem high_trip (X4 X5 X10 f11 f12 f13) (t : Fin k0_t2_loop.trips) :
    tripL_k0_t2 (F := Ideal) Variants.none c none i arg3 harg3 arg4 harg4 arg5 harg5 arg6 harg6 arg7 harg7 arg8 harg8 arg9 harg9 arg10 harg10 arg11 harg11 arg12 harg12 arg13 harg13 X4 X5 X10 t f11 f12 f13
      = ([(⟨Rect.unit (s := S2048x1) ![0, 0] S2048x1.size inb_S2048x1_S2048x1_0_0, k0_pay13 (k0_pay7 (View.readAt (Elt Ideal) arg4.view (Rect.unit (s := S1x8192x128) (k0_off2 t) S1x1024x128.size (k0_off2_inb t)).toLoadRect X4) (View.readAt (Elt Ideal) arg10.view (Rect.unit (s := S2048x128) ![0, 0] S2048x128.size inb_S2048x128_S2048x128_0_0).toLoadRect X10) (View.readAt (Elt Ideal) arg11.view (Rect.unit (s := S2048x1) ![0, 0] S2048x1.size inb_S2048x1_S2048x1_0_0).toLoadRect f11))⟩ : View.Piece (Elt Ideal) S2048x1 .f32)],
         [(⟨Rect.unit (s := S2048x128) ![0, 0] S2048x128.size inb_S2048x128_S2048x128_0_0, k0_pay10 (View.readAt (Elt Ideal) arg4.view (Rect.unit (s := S1x8192x128) (k0_off2 t) S1x1024x128.size (k0_off2_inb t)).toLoadRect X4) (View.readAt (Elt Ideal) arg10.view (Rect.unit (s := S2048x128) ![0, 0] S2048x128.size inb_S2048x128_S2048x128_0_0).toLoadRect X10) (View.readAt (Elt Ideal) arg11.view (Rect.unit (s := S2048x1) ![0, 0] S2048x1.size inb_S2048x1_S2048x1_0_0).toLoadRect f11) (View.readAt (Elt Ideal) arg12.view (Rect.unit (s := S2048x128) ![0, 0] S2048x128.size inb_S2048x128_S2048x128_0_0).toLoadRect f12)⟩ : View.Piece (Elt Ideal) S2048x128 .f32)],
         [(⟨Rect.unit (s := S2048x128) ![0, 0] S2048x128.size inb_S2048x128_S2048x128_0_0, k0_pay12 (k0_pay5 (View.readAt (Elt Ideal) arg5.view (Rect.unit (s := S1x8192x128) (k0_off2 t) S1x1024x128.size (k0_off2_inb t)).toLoadRect X5)) (k0_pay8 (View.readAt (Elt Ideal) arg4.view (Rect.unit (s := S1x8192x128) (k0_off2 t) S1x1024x128.size (k0_off2_inb t)).toLoadRect X4) (View.readAt (Elt Ideal) arg10.view (Rect.unit (s := S2048x128) ![0, 0] S2048x128.size inb_S2048x128_S2048x128_0_0).toLoadRect X10) (View.readAt (Elt Ideal) arg11.view (Rect.unit (s := S2048x1) ![0, 0] S2048x1.size inb_S2048x1_S2048x1_0_0).toLoadRect f11)) (k0_pay9 (View.readAt (Elt Ideal) arg4.view (Rect.unit (s := S1x8192x128) (k0_off2 t) S1x1024x128.size (k0_off2_inb t)).toLoadRect X4) (View.readAt (Elt Ideal) arg10.view (Rect.unit (s := S2048x128) ![0, 0] S2048x128.size inb_S2048x128_S2048x128_0_0).toLoadRect X10) (View.readAt (Elt Ideal) arg11.view (Rect.unit (s := S2048x1) ![0, 0] S2048x1.size inb_S2048x1_S2048x1_0_0).toLoadRect f11)) (View.readAt (Elt Ideal) arg13.view (Rect.unit (s := S2048x128) ![0, 0] S2048x128.size inb_S2048x128_S2048x128_0_0).toLoadRect f13)⟩ : View.Piece (Elt Ideal) S2048x128 .f32)]) := by
  unfold tripL_k0_t2 trip_k0_t2
  rfl

theorem low_rows (x : Vec Ideal S1x8192x128 .bf16) (t : Fin k0_t1_loop.trips) :
    View.ld x (Rect.unit (s := S1x8192x128) (k0_off1 t) S1x1024x128.size (k0_off1_inb t)) = rowsOf x t.val := by
  have ht : t.val < 8 := lt_of_lt_of_eq t.isLt low_trips
  have h := k0_off1_eq t
  funext y
  show x _ = x _
  refine congrArg x (funext fun a => Fin.ext ?_)
  have hy : (y 1).val < 1024 := (y 1).isLt
  have hy0 : (y 0).val < 1 := (y 0).isLt
  have e : ((Rect.unit (s := S1x8192x128) (k0_off1 t) S1x1024x128.size (k0_off1_inb t)).idx y a).val = (![0, 1024 * t.val, 0] : Fin 3 → ℕ) a + 1 * (y a).val :=
    congrArg (· + 1 * (y a).val) (congrFun h a)
  refine e.trans ?_
  fin_cases a
  · show 0 + 1 * (y 0).val = 0; omega
  · show 1024 * t.val + 1 * (y 1).val = (1024 * t.val + (y 1).val) % 8192; omega
  · show 0 + 1 * (y 2).val = (y 2).val; omega

theorem high_rows (x : Vec Ideal S1x8192x128 .bf16) (t : Fin k0_t2_loop.trips) :
    View.ld x (Rect.unit (s := S1x8192x128) (k0_off2 t) S1x1024x128.size (k0_off2_inb t)) = rowsOf x t.val := by
  have ht : t.val < 8 := lt_of_lt_of_eq t.isLt high_trips
  have h := k0_off2_eq t
  funext y
  show x _ = x _
  refine congrArg x (funext fun a => Fin.ext ?_)
  have hy : (y 1).val < 1024 := (y 1).isLt
  have hy0 : (y 0).val < 1 := (y 0).isLt
  have e : ((Rect.unit (s := S1x8192x128) (k0_off2 t) S1x1024x128.size (k0_off2_inb t)).idx y a).val = (![0, 1024 * t.val, 0] : Fin 3 → ℕ) a + 1 * (y a).val :=
    congrArg (· + 1 * (y a).val) (congrFun h a)
  refine e.trans ?_
  fin_cases a
  · show 0 + 1 * (y 0).val = 0; omega
  · show 1024 * t.val + 1 * (y 1).val = (1024 * t.val + (y 1).val) % 8192; omega
  · show 0 + 1 * (y 2).val = (y 2).val; omega

/-- A store through the whole buffer leaves its payload. -/
theorem read_one {S : Shape} {e : EltTy} (v : View sig .tc .vmem S e) {off : Fin S.rank → Nat} (h : off = fun _ => 0) (inb : ∀ a, off a + S.size a ≤ S.size a)
    (f : v.ty.Contents (Elt Ideal)) (w : S.Idx → Elt Ideal e) :
    v.read (Elt Ideal) (v.writes (Elt Ideal) f [(⟨Rect.unit off S.size inb, w⟩ : View.Piece (Elt Ideal) S e)]) = w := by
  rw [View.read_writes_eq_canon _ _ _ (fun y => ⟨_, List.mem_singleton_self _, View.mem_set_unit_zero h inb y⟩), View.canon_unit_zero h]

/-- The low branch's accumulators after `t` trips of its loop. -/
theorem low_loop (v0 : IVec S1x128 32) (b : FVec Ideal S1x1 .f32) (x y : Vec Ideal S1x8192x128 .bf16) (X10 G12 G13) (t : ℕ) (ht : t ≤ 8) :
    arg12.view.read (Elt Ideal) (arg12.view.writes (Elt Ideal) G12 (pb_k0_t1 (F := Ideal) Variants.none c none i arg3 harg3 arg4 harg4 arg5 harg5 arg6 harg6 arg7 harg7 arg8 harg8 arg9 harg9 arg10 harg10 arg11 harg11 arg12 harg12 arg13 harg13 v0 b (harg4.unread x) (harg5.unread y) X10 G12 G13 t).1)
        = (lowState (k0_pay55 b) x y (arg10.view.read (Elt Ideal) X10) (arg12.view.read (Elt Ideal) G12) (arg13.view.read (Elt Ideal) G13) t).1
    ∧ arg13.view.read (Elt Ideal) (arg13.view.writes (Elt Ideal) G13 (pb_k0_t1 (F := Ideal) Variants.none c none i arg3 harg3 arg4 harg4 arg5 harg5 arg6 harg6 arg7 harg7 arg8 harg8 arg9 harg9 arg10 harg10 arg11 harg11 arg12 harg12 arg13 harg13 v0 b (harg4.unread x) (harg5.unread y) X10 G12 G13 t).2)
        = (lowState (k0_pay55 b) x y (arg10.view.read (Elt Ideal) X10) (arg12.view.read (Elt Ideal) G12) (arg13.view.read (Elt Ideal) G13) t).2 := by
  induction t with
  | zero => exact ⟨rfl, rfl⟩
  | succ t ih =>
    obtain ⟨h1, h2⟩ := ih (by omega)
    have hs := pb_k0_t1_succ (F := Ideal) Variants.none c none i arg3 harg3 arg4 harg4 arg5 harg5 arg6 harg6 arg7 harg7 arg8 harg8 arg9 harg9 arg10 harg10 arg11 harg11 arg12 harg12 arg13 harg13 v0 b (harg4.unread x) (harg5.unread y) X10 G12 G13 ⟨t, by rw [low_trips]; omega⟩
    have e4 : ∀ t, View.readAt (Elt Ideal) arg4.view (Rect.unit (s := S1x8192x128) (k0_off1 t) S1x1024x128.size (k0_off1_inb t)).toLoadRect (harg4.unread x) = rowsOf x t.val := fun t => by
      rw [View.readAt_eq_ld, harg4.read_unread]; exact low_rows x t
    have e5 : ∀ t, View.readAt (Elt Ideal) arg5.view (Rect.unit (s := S1x8192x128) (k0_off1 t) S1x1024x128.size (k0_off1_inb t)).toLoadRect (harg5.unread y) = rowsOf y t.val := fun t => by
      rw [View.readAt_eq_ld, harg5.read_unread]; exact low_rows y t
    rw [low_trip, e4, e5] at hs
    dsimp only at hs
    rw [hs]
    dsimp only [lowState]
    rw [View.writes_append, View.writes_append, read_one _ zeros2, read_one _ zeros2, ← h1, ← h2]
    simp only [View.readAt_eq_ld, View.ld_unit_zero (S := S2048x128) zeros2]
    exact ⟨trivial, trivial⟩

/-- The high branch's maximum and accumulators after `t` trips of its loop. -/
theorem high_loop (x y : Vec Ideal S1x8192x128 .bf16) (X10 G11 G12 G13) (t : ℕ) (ht : t ≤ 8) :
    arg11.view.read (Elt Ideal) (arg11.view.writes (Elt Ideal) G11 (pb_k0_t2 (F := Ideal) Variants.none c none i arg3 harg3 arg4 harg4 arg5 harg5 arg6 harg6 arg7 harg7 arg8 harg8 arg9 harg9 arg10 harg10 arg11 harg11 arg12 harg12 arg13 harg13 (harg4.unread x) (harg5.unread y) X10 G11 G12 G13 t).1)
        = (highState x y (arg10.view.read (Elt Ideal) X10) (arg11.view.read (Elt Ideal) G11) (arg12.view.read (Elt Ideal) G12) (arg13.view.read (Elt Ideal) G13) t).1
    ∧ arg12.view.read (Elt Ideal) (arg12.view.writes (Elt Ideal) G12 (pb_k0_t2 (F := Ideal) Variants.none c none i arg3 harg3 arg4 harg4 arg5 harg5 arg6 harg6 arg7 harg7 arg8 harg8 arg9 harg9 arg10 harg10 arg11 harg11 arg12 harg12 arg13 harg13 (harg4.unread x) (harg5.unread y) X10 G11 G12 G13 t).2.1)
        = (highState x y (arg10.view.read (Elt Ideal) X10) (arg11.view.read (Elt Ideal) G11) (arg12.view.read (Elt Ideal) G12) (arg13.view.read (Elt Ideal) G13) t).2.1
    ∧ arg13.view.read (Elt Ideal) (arg13.view.writes (Elt Ideal) G13 (pb_k0_t2 (F := Ideal) Variants.none c none i arg3 harg3 arg4 harg4 arg5 harg5 arg6 harg6 arg7 harg7 arg8 harg8 arg9 harg9 arg10 harg10 arg11 harg11 arg12 harg12 arg13 harg13 (harg4.unread x) (harg5.unread y) X10 G11 G12 G13 t).2.2)
        = (highState x y (arg10.view.read (Elt Ideal) X10) (arg11.view.read (Elt Ideal) G11) (arg12.view.read (Elt Ideal) G12) (arg13.view.read (Elt Ideal) G13) t).2.2 := by
  induction t with
  | zero => exact ⟨rfl, rfl, rfl⟩
  | succ t ih =>
    obtain ⟨h1, h2, h3⟩ := ih (by omega)
    have hs := pb_k0_t2_succ (F := Ideal) Variants.none c none i arg3 harg3 arg4 harg4 arg5 harg5 arg6 harg6 arg7 harg7 arg8 harg8 arg9 harg9 arg10 harg10 arg11 harg11 arg12 harg12 arg13 harg13 (harg4.unread x) (harg5.unread y) X10 G11 G12 G13 ⟨t, by rw [high_trips]; omega⟩
    have e4 : ∀ t, View.readAt (Elt Ideal) arg4.view (Rect.unit (s := S1x8192x128) (k0_off2 t) S1x1024x128.size (k0_off2_inb t)).toLoadRect (harg4.unread x) = rowsOf x t.val := fun t => by
      rw [View.readAt_eq_ld, harg4.read_unread]; exact high_rows x t
    have e5 : ∀ t, View.readAt (Elt Ideal) arg5.view (Rect.unit (s := S1x8192x128) (k0_off2 t) S1x1024x128.size (k0_off2_inb t)).toLoadRect (harg5.unread y) = rowsOf y t.val := fun t => by
      rw [View.readAt_eq_ld, harg5.read_unread]; exact high_rows y t
    rw [high_trip, e4, e5] at hs
    dsimp only at hs
    rw [hs]
    dsimp only [highState]
    rw [View.writes_append, View.writes_append, View.writes_append, read_one _ zeros2, read_one _ zeros2, read_one _ zeros2, ← h1, ← h2, ← h3]
    simp only [View.readAt_eq_ld, View.ld_unit_zero (S := S2048x128) zeros2, View.ld_unit_zero (S := S2048x1) zeros2]
    exact ⟨trivial, trivial, trivial⟩

end Point
end Cert.KernelIdeal.Attn
end
-- ==== Proof.AttnMask.lean ====
/-
  The masked, scaled queries each branch of the attention body stores: element by element, a lane of the other head of
  the pair is zero and a lane of the head's own is the query times the scale.
-/
module

public import proofs.«01_k».proof.Proof.Gen.KernelIdeal.Skeleton
public import Idealize.ShloMosaic.Lib.Tactic
public import Idealize.ShloMosaic.Lib.Pointwise
public import Idealize.ShloMosaic.Lib.Pipeline.ValueKit

@[expose] public section
set_option maxRecDepth 16384
noncomputable section
namespace Cert.KernelIdeal.Attn
open Cert.KernelIdeal Cert.KernelIdeal.Gen Idealize.ShloMosaic Idealize.ShloMosaic.TcCoe Idealize.SL.Sem

/-- A choice by a one-bit word that holds exactly when `p`. -/
theorem sel_of {α : Type} (p : Prop) [Decidable p] (w : BitVec 1) (a b : α) (h : w = if p then 1#1 else 0#1) :
    Scalar.select w a b = if p then a else b := by
  subst h; by_cases hp : p <;> simp [Scalar.select, hp]

/-- The score scale as the kernel's constant names it. -/
def scale : EReal := Named.named (F := Ideal) (φ := .f32) κ "scale" 0x3E38AA3B#32

/-- The masked, scaled queries: row `256 h + r` keeps of slab `h / 2` the lanes of the key head `h % 2`. -/
def maskedAt (x : Vec Ideal S1x256x512 .bf16) (r : Fin 2048) (j : Fin 128) : EReal :=
  if j.val / 32 % 2 = r.val / 256 % 2 then
    x (ix3 0 ⟨r.val % 256, Nat.mod_lt _ (by norm_num)⟩ ⟨128 * (r.val / 512) + j.val, by have := r.isLt; have := j.isLt; omega⟩) * scale
  else 0

def masked (x : Vec Ideal S1x256x512 .bf16) : Vec Ideal S2048x128 .bf16 := fun i => maskedAt x (i 0) (i 1)

theorem masked_store0 (x : Vec Ideal S1x256x512 .bf16) (r : Fin 256) (j : Fin 128) :
    k0_pay25 (k0_pay21 (View.ld x (Rect.unit (s := S1x256x512) ![0, 0, 0] S1x256x128.size inb_S1x256x512_S1x256x128_0_0_0))) (2#32) k0_pay22 k0_pay23 k0_pay24 0#1 (ix2 r j)
      = if j.val / 32 % 2 = 0 then x (ix3 0 r ⟨0 + j.val, by omega⟩) * scale else 0 := by
  pointwise [k0_pay25, k0_pay21, k0_pay22, k0_pay23, k0_pay24]
  refine sel_of _ _ _ _ ?_; clear x r; revert j; decide +kernel

theorem masked_store1 (x : Vec Ideal S1x256x512 .bf16) (r : Fin 256) (j : Fin 128) :
    k0_pay27 (k0_pay21 (View.ld x (Rect.unit (s := S1x256x512) ![0, 0, 0] S1x256x128.size inb_S1x256x512_S1x256x128_0_0_0))) (2#32) (k0_pay26 (iota Kind.tc S1x128 32 [1] iota_S1x128_d1_w32)) 0#32 (ix2 r j)
      = if j.val / 32 % 2 = 1 then x (ix3 0 r ⟨0 + j.val, by omega⟩) * scale else 0 := by
  pointwise [k0_pay27, k0_pay21, k0_pay26]
  refine sel_of _ _ _ _ ?_; clear x r; revert j; decide +kernel

theorem masked_store2 (x : Vec Ideal S1x256x512 .bf16) (r : Fin 256) (j : Fin 128) :
    k0_pay32 (iota Kind.tc S1x128 32 [1] iota_S1x128_d1_w32) (k0_pay28 (View.ld x (Rect.unit (s := S1x256x512) ![0, 0, 128] S1x256x128.size inb_S1x256x512_S1x256x128_0_0_128))) (k0_pay29 (iota Kind.tc S1x128 32 [1] iota_S1x128_d1_w32)) (k0_pay30 (iota Kind.tc S1x128 32 [1] iota_S1x128_d1_w32)) k0_pay31 (ix2 r j)
      = if j.val / 32 % 2 = 0 then x (ix3 0 r ⟨128 + j.val, by omega⟩) * scale else 0 := by
  pointwise [k0_pay32, k0_pay28, k0_pay29, k0_pay30, k0_pay31]
  refine sel_of _ _ _ _ ?_; clear x r; revert j; decide +kernel

theorem masked_store3 (x : Vec Ideal S1x256x512 .bf16) (r : Fin 256) (j : Fin 128) :
    k0_pay35 (iota Kind.tc S1x128 32 [1] iota_S1x128_d1_w32) (k0_pay28 (View.ld x (Rect.unit (s := S1x256x512) ![0, 0, 128] S1x256x128.size inb_S1x256x512_S1x256x128_0_0_128))) (32#32) (k0_pay33 (iota Kind.tc S1x128 32 [1] iota_S1x128_d1_w32)) (k0_pay34 (iota Kind.tc S1x128 32 [1] iota_S1x128_d1_w32)) 1#32 (ix2 r j)
      = if j.val / 32 % 2 = 1 then x (ix3 0 r ⟨128 + j.val, by omega⟩) * scale else 0 := by
  pointwise [k0_pay35, k0_pay28, k0_pay33, k0_pay34]
  refine sel_of _ _ _ _ ?_; clear x r; revert j; decide +kernel

theorem masked_store4 (x : Vec Ideal S1x256x512 .bf16) (r : Fin 256) (j : Fin 128) :
    k0_pay41 (k0_pay38 (k0_pay36 (View.ld x (Rect.unit (s := S1x256x512) ![0, 0, 256] S1x256x128.size inb_S1x256x512_S1x256x128_0_0_256))) k0_pay37) (k0_pay39 (iota Kind.tc S1x128 32 [1] iota_S1x128_d1_w32)) k0_pay40 (ix2 r j)
      = if j.val / 32 % 2 = 0 then x (ix3 0 r ⟨256 + j.val, by omega⟩) * scale else 0 := by
  pointwise [k0_pay41, k0_pay38, k0_pay36, k0_pay37, k0_pay39, k0_pay40]
  refine sel_of _ _ _ _ ?_; clear x r; revert j; decide +kernel

theorem masked_store5 (x : Vec Ideal S1x256x512 .bf16) (r : Fin 256) (j : Fin 128) :
    k0_pay45 (k0_pay38 (k0_pay36 (View.ld x (Rect.unit (s := S1x256x512) ![0, 0, 256] S1x256x128.size inb_S1x256x512_S1x256x128_0_0_256))) k0_pay37) (k0_pay42 (iota Kind.tc S1x128 32 [1] iota_S1x128_d1_w32)) (k0_pay43 (iota Kind.tc S1x128 32 [1] iota_S1x128_d1_w32)) k0_pay44 (ix2 r j)
      = if j.val / 32 % 2 = 1 then x (ix3 0 r ⟨256 + j.val, by omega⟩) * scale else 0 := by
  pointwise [k0_pay45, k0_pay38, k0_pay36, k0_pay37, k0_pay42, k0_pay43, k0_pay44]
  refine sel_of _ _ _ _ ?_; clear x r; revert j; decide +kernel

theorem masked_store6 (x : Vec Ideal S1x256x512 .bf16) (r : Fin 256) (j : Fin 128) :
    k0_pay48 (k0_pay46 (View.ld x (Rect.unit (s := S1x256x512) ![0, 0, 384] S1x256x128.size inb_S1x256x512_S1x256x128_0_0_384))) (k0_pay47 (iota Kind.tc S1x128 32 [1] iota_S1x128_d1_w32)) 2#32 0#1 (ix2 r j)
      = if j.val / 32 % 2 = 0 then x (ix3 0 r ⟨384 + j.val, by omega⟩) * scale else 0 := by
  pointwise [k0_pay48, k0_pay46, k0_pay47]
  refine sel_of _ _ _ _ ?_; clear x r; revert j; decide +kernel

theorem masked_store7 (x : Vec Ideal S1x256x512 .bf16) (r : Fin 256) (j : Fin 128) :
    k0_pay51 (k0_pay46 (View.ld x (Rect.unit (s := S1x256x512) ![0, 0, 384] S1x256x128.size inb_S1x256x512_S1x256x128_0_0_384))) (k0_pay49 (iota Kind.tc S1x128 32 [1] iota_S1x128_d1_w32)) (k0_pay50 (iota Kind.tc S1x128 32 [1] iota_S1x128_d1_w32)) (ix2 r j)
      = if j.val / 32 % 2 = 1 then x (ix3 0 r ⟨384 + j.val, by omega⟩) * scale else 0 := by
  pointwise [k0_pay51, k0_pay46, k0_pay49, k0_pay50]
  refine sel_of _ _ _ _ ?_; clear x r; revert j; decide +kernel

theorem out_store0 (a l : Vec Ideal S2048x128 .f32) (r : Fin 256) (j : Fin 128) :
    k0_pay67 (k0_pay63 a l) (k0_pay64 a l) (k0_pay65 (iota Kind.tc S1x128 32 [1] iota_S1x128_d1_w32)) (k0_pay66 (iota Kind.tc S1x128 32 [1] iota_S1x128_d1_w32)) (ix3 0 r j)
      = if j.val / 64 = 0 then k0_pay62 a l (ix2 ⟨0 + r.val, by omega⟩ j) else k0_pay62 a l (ix2 ⟨256 + r.val, by omega⟩ j) := by
  pointwise [k0_pay67, k0_pay63, k0_pay64, k0_pay65, k0_pay66]
  refine sel_of _ _ _ _ ?_; clear a l r; revert j; decide +kernel

theorem out_store1 (a l : Vec Ideal S2048x128 .f32) (r : Fin 256) (j : Fin 128) :
    k0_pay69 (k0_pay68 (iota Kind.tc S1x128 32 [1] iota_S1x128_d1_w32) (k0_pay62 a l)) (ix3 0 r j)
      = if j.val / 64 = 0 then k0_pay62 a l (ix2 ⟨512 + r.val, by omega⟩ j) else k0_pay62 a l (ix2 ⟨768 + r.val, by omega⟩ j) := by
  pointwise [k0_pay69, k0_pay68]
  refine sel_of _ _ _ _ ?_; clear a l r; revert j; decide +kernel

theorem out_store2 (a l : Vec Ideal S2048x128 .f32) (r : Fin 256) (j : Fin 128) :
    k0_pay70 (iota Kind.tc S1x128 32 [1] iota_S1x128_d1_w32) (k0_pay62 a l) (ix3 0 r j)
      = if j.val / 64 = 0 then k0_pay62 a l (ix2 ⟨1024 + r.val, by omega⟩ j) else k0_pay62 a l (ix2 ⟨1280 + r.val, by omega⟩ j) := by
  pointwise [k0_pay70]
  refine sel_of _ _ _ _ ?_; clear a l r; revert j; decide +kernel

theorem out_store3 (a l : Vec Ideal S2048x128 .f32) (r : Fin 256) (j : Fin 128) :
    k0_pay1 (iota Kind.tc S1x128 32 [1] iota_S1x128_d1_w32) (k0_pay71 (k0_pay62 a l)) (k0_pay72 (k0_pay62 a l)) (64#32) (k0_pay73 (iota Kind.tc S1x128 32 [1] iota_S1x128_d1_w32)) (k0_pay74 (iota Kind.tc S1x128 32 [1] iota_S1x128_d1_w32)) (ix3 0 r j)
      = if j.val / 64 = 0 then k0_pay62 a l (ix2 ⟨1536 + r.val, by omega⟩ j) else k0_pay62 a l (ix2 ⟨1792 + r.val, by omega⟩ j) := by
  pointwise [k0_pay1, k0_pay71, k0_pay72, k0_pay73, k0_pay74]
  refine sel_of _ _ _ _ ?_; clear a l r; revert j; decide +kernel

end Cert.KernelIdeal.Attn
end
-- ==== Proof.AttnStores.lean ====
/-
  The output stores of each branch of the attention body: which element each of the four writes.
-/
module

public import proofs.«01_k».proof.Proof.Body
public import proofs.«01_k».proof.Proof.AttnLoop
public import proofs.«01_k».proof.Proof.AttnMask

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem

/-- The eight stores that leave the masked queries, last first. -/
def maskPieces (x : Vec Ideal S1x256x512 .bf16) : List (View.Piece (Elt Ideal) S2048x128 .bf16) :=
  [⟨Rect.unit (s := S2048x128) ![1792, 0] S256x128.size inb_S2048x128_S256x128_1792_0, k0_pay51 (k0_pay46 (View.ld x (Rect.unit (s := S1x256x512) ![0, 0, 384] S1x256x128.size inb_S1x256x512_S1x256x128_0_0_384))) (k0_pay49 (iota Kind.tc S1x128 32 [1] iota_S1x128_d1_w32)) (k0_pay50 (iota Kind.tc S1x128 32 [1] iota_S1x128_d1_w32))⟩,
   ⟨Rect.unit (s := S2048x128) ![1536, 0] S256x128.size inb_S2048x128_S256x128_1536_0, k0_pay48 (k0_pay46 (View.ld x (Rect.unit (s := S1x256x512) ![0, 0, 384] S1x256x128.size inb_S1x256x512_S1x256x128_0_0_384))) (k0_pay47 (iota Kind.tc S1x128 32 [1] iota_S1x128_d1_w32)) 2#32 0#1⟩,
   ⟨Rect.unit (s := S2048x128) ![1280, 0] S256x128.size inb_S2048x128_S256x128_1280_0, k0_pay45 (k0_pay38 (k0_pay36 (View.ld x (Rect.unit (s := S1x256x512) ![0, 0, 256] S1x256x128.size inb_S1x256x512_S1x256x128_0_0_256))) k0_pay37) (k0_pay42 (iota Kind.tc S1x128 32 [1] iota_S1x128_d1_w32)) (k0_pay43 (iota Kind.tc S1x128 32 [1] iota_S1x128_d1_w32)) k0_pay44⟩,
   ⟨Rect.unit (s := S2048x128) ![1024, 0] S256x128.size inb_S2048x128_S256x128_1024_0, k0_pay41 (k0_pay38 (k0_pay36 (View.ld x (Rect.unit (s := S1x256x512) ![0, 0, 256] S1x256x128.size inb_S1x256x512_S1x256x128_0_0_256))) k0_pay37) (k0_pay39 (iota Kind.tc S1x128 32 [1] iota_S1x128_d1_w32)) k0_pay40⟩,
   ⟨Rect.unit (s := S2048x128) ![768, 0] S256x128.size inb_S2048x128_S256x128_768_0, k0_pay35 (iota Kind.tc S1x128 32 [1] iota_S1x128_d1_w32) (k0_pay28 (View.ld x (Rect.unit (s := S1x256x512) ![0, 0, 128] S1x256x128.size inb_S1x256x512_S1x256x128_0_0_128))) (32#32) (k0_pay33 (iota Kind.tc S1x128 32 [1] iota_S1x128_d1_w32)) (k0_pay34 (iota Kind.tc S1x128 32 [1] iota_S1x128_d1_w32)) 1#32⟩,
   ⟨Rect.unit (s := S2048x128) ![512, 0] S256x128.size inb_S2048x128_S256x128_512_0, k0_pay32 (iota Kind.tc S1x128 32 [1] iota_S1x128_d1_w32) (k0_pay28 (View.ld x (Rect.unit (s := S1x256x512) ![0, 0, 128] S1x256x128.size inb_S1x256x512_S1x256x128_0_0_128))) (k0_pay29 (iota Kind.tc S1x128 32 [1] iota_S1x128_d1_w32)) (k0_pay30 (iota Kind.tc S1x128 32 [1] iota_S1x128_d1_w32)) k0_pay31⟩,
   ⟨Rect.unit (s := S2048x128) ![256, 0] S256x128.size inb_S2048x128_S256x128_256_0, k0_pay27 (k0_pay21 (View.ld x (Rect.unit (s := S1x256x512) ![0, 0, 0] S1x256x128.size inb_S1x256x512_S1x256x128_0_0_0))) (2#32) (k0_pay26 (iota Kind.tc S1x128 32 [1] iota_S1x128_d1_w32)) 0#32⟩,
   ⟨Rect.unit (s := S2048x128) ![0, 0] S256x128.size inb_S2048x128_S256x128_0_0, k0_pay25 (k0_pay21 (View.ld x (Rect.unit (s := S1x256x512) ![0, 0, 0] S1x256x128.size inb_S1x256x512_S1x256x128_0_0_0))) (2#32) k0_pay22 k0_pay23 k0_pay24 0#1⟩]

/-- The four stores of the output, last first, from the two accumulators. -/
def outPieces (a l : Vec Ideal S2048x128 .f32) : List (View.Piece (Elt Ideal) S1x256x512 .bf16) :=
  [⟨Rect.unit (s := S1x256x512) ![0, 0, 384] S1x256x128.size inb_S1x256x512_S1x256x128_0_0_384, k0_pay1 (iota Kind.tc S1x128 32 [1] iota_S1x128_d1_w32) (k0_pay71 (k0_pay62 a l)) (k0_pay72 (k0_pay62 a l)) (64#32) (k0_pay73 (iota Kind.tc S1x128 32 [1] iota_S1x128_d1_w32)) (k0_pay74 (iota Kind.tc S1x128 32 [1] iota_S1x128_d1_w32))⟩,
   ⟨Rect.unit (s := S1x256x512) ![0, 0, 256] S1x256x128.size inb_S1x256x512_S1x256x128_0_0_256, k0_pay70 (iota Kind.tc S1x128 32 [1] iota_S1x128_d1_w32) (k0_pay62 a l)⟩,
   ⟨Rect.unit (s := S1x256x512) ![0, 0, 128] S1x256x128.size inb_S1x256x512_S1x256x128_0_0_128, k0_pay69 (k0_pay68 (iota Kind.tc S1x128 32 [1] iota_S1x128_d1_w32) (k0_pay62 a l))⟩,
   ⟨Rect.unit (s := S1x256x512) ![0, 0, 0] S1x256x128.size inb_S1x256x512_S1x256x128_0_0_0, k0_pay67 (k0_pay63 a l) (k0_pay64 a l) (k0_pay65 (iota Kind.tc S1x128 32 [1] iota_S1x128_d1_w32)) (k0_pay66 (iota Kind.tc S1x128 32 [1] iota_S1x128_d1_w32))⟩]

theorem ix2_cases {n m : ℕ} (P : (⟨2, ![n, m]⟩ : Shape).Idx → Prop) (h : ∀ (a : Fin n) (b : Fin m), P (ix2 a b)) (x) : P x := by
  rw [eq_ix2 x]; exact h _ _

theorem ix3_cases {n m k : ℕ} (P : (⟨3, ![n, m, k]⟩ : Shape).Idx → Prop) (h : ∀ (a : Fin n) (b : Fin m) (d : Fin k), P (ix3 a b d)) (x) : P x := by
  rw [eq_ix3 x]; exact h _ _ _

theorem masked_at (x : Vec Ideal S1x256x512 .bf16) (r : Fin 2048) (h s : ℕ) (r' : Fin 256) (j : Fin 128) (i : S2048x128.Idx)
    (h0 : (i 0).val = 256 * h + r'.val) (h1 : (i 1).val = j.val) (hs : s = 128 * (h / 2)) (hb : s + j.val < 512) :
    masked x i = if j.val / 32 % 2 = h % 2 then x (ix3 0 r' ⟨s + j.val, hb⟩) * scale else 0 := by
  have hr' := r'.isLt
  have e1 : (i 0).val / 256 = h := by omega
  have e2 : (i 0).val % 256 = r'.val := by omega
  have e3 : (i 0).val / 512 = h / 2 := by omega
  have e4 : (i 1) = j := Fin.ext h1
  unfold masked maskedAt
  rw [e4]
  simp only [e1, e2, e3, hs]

/-- The eight stores leave the masked queries. -/
theorem maskPieces_canon (x : Vec Ideal S1x256x512 .bf16) : View.canon (maskPieces x) = masked x := by
  funext y
  refine View.canon_apply_of_pieces (masked x) _ ?_ y ?_
  · unfold maskPieces
    simp only [List.mem_cons, List.not_mem_nil, or_false]
    rintro p (rfl | rfl | rfl | rfl | rfl | rfl | rfl | rfl) z
    · revert z; refine ix2_cases _ fun r j => (masked_store7 x r j).trans ?_
      exact (masked_at x 0 7 384 r j _ (by show 1792 + 1 * r.val = _; omega) (by show 0 + 1 * j.val = _; omega) rfl (by omega)).symm
    · revert z; refine ix2_cases _ fun r j => (masked_store6 x r j).trans ?_
      exact (masked_at x 0 6 384 r j _ (by show 1536 + 1 * r.val = _; omega) (by show 0 + 1 * j.val = _; omega) rfl (by omega)).symm
    · revert z; refine ix2_cases _ fun r j => (masked_store5 x r j).trans ?_
      exact (masked_at x 0 5 256 r j _ (by show 1280 + 1 * r.val = _; omega) (by show 0 + 1 * j.val = _; omega) rfl (by omega)).symm
    · revert z; refine ix2_cases _ fun r j => (masked_store4 x r j).trans ?_
      exact (masked_at x 0 4 256 r j _ (by show 1024 + 1 * r.val = _; omega) (by show 0 + 1 * j.val = _; omega) rfl (by omega)).symm
    · revert z; refine ix2_cases _ fun r j => (masked_store3 x r j).trans ?_
      exact (masked_at x 0 3 128 r j _ (by show 768 + 1 * r.val = _; omega) (by show 0 + 1 * j.val = _; omega) rfl (by omega)).symm
    · revert z; refine ix2_cases _ fun r j => (masked_store2 x r j).trans ?_
      exact (masked_at x 0 2 128 r j _ (by show 512 + 1 * r.val = _; omega) (by show 0 + 1 * j.val = _; omega) rfl (by omega)).symm
    · revert z; refine ix2_cases _ fun r j => (masked_store1 x r j).trans ?_
      exact (masked_at x 0 1 0 r j _ (by show 256 + 1 * r.val = _; omega) (by show 0 + 1 * j.val = _; omega) rfl (by omega)).symm
    · revert z; refine ix2_cases _ fun r j => (masked_store0 x r j).trans ?_
      exact (masked_at x 0 0 0 r j _ (by show 0 + 1 * r.val = _; omega) (by show 0 + 1 * j.val = _; omega) rfl (by omega)).symm
  · exact View.cover_of_tiledL (maskPieces x) S256x128.size (by sl_kernel_rfl) y

/-- The output block from the two accumulators: lane `64 e + d` of slab `g` comes from head row `512 g + 256 e`. -/
def outVec (a l : Vec Ideal S2048x128 .f32) : Vec Ideal S1x256x512 .bf16 := fun i =>
  k0_pay62 a l (ix2 ⟨512 * ((i 2).val / 128) + 256 * ((i 2).val % 128 / 64) + (i 1).val, by
    have h1 : (i 1).val < 256 := (i 1).isLt
    have h2 : (i 2).val < 512 := (i 2).isLt
    omega⟩ ⟨(i 2).val % 128, Nat.mod_lt _ (by norm_num)⟩)

theorem outVec_at (a l : Vec Ideal S2048x128 .f32) (g : ℕ) (r : Fin 256) (j : Fin 128) (i : S1x256x512.Idx) (h1 : (i 1).val = r.val)
    (h2 : (i 2).val = 128 * g + j.val) (hg : 512 * g + r.val < 2048) (hg' : 512 * g + 256 + r.val < 2048) :
    outVec a l i = if j.val / 64 = 0 then k0_pay62 a l (ix2 ⟨512 * g + r.val, hg⟩ j) else k0_pay62 a l (ix2 ⟨512 * g + 256 + r.val, hg'⟩ j) := by
  have hj := j.isLt
  have e1 : (i 2).val / 128 = g := by omega
  have e2 : (i 2).val % 128 = j.val := by omega
  unfold outVec
  by_cases h : j.val / 64 = 0
  · rw [if_pos h]; congr 2; · exact Fin.ext (by show 512 * ((i 2).val / 128) + 256 * ((i 2).val % 128 / 64) + (i 1).val = _; rw [e1, e2, h, h1]; simp)
    exact Fin.ext e2
  · have h' : j.val / 64 = 1 := by omega
    rw [if_neg h]; congr 2; · exact Fin.ext (by show 512 * ((i 2).val / 128) + 256 * ((i 2).val % 128 / 64) + (i 1).val = _; rw [e1, e2, h', h1])
    exact Fin.ext e2

/-- The four stores leave the output block. -/
theorem outPieces_canon (a l : Vec Ideal S2048x128 .f32) : View.canon (outPieces a l) = outVec a l := by
  funext y
  refine View.canon_apply_of_pieces (outVec a l) _ ?_ y ?_
  · unfold outPieces
    simp only [List.mem_cons, List.not_mem_nil, or_false]
    rintro p (rfl | rfl | rfl | rfl) z
    · revert z; refine ix3_cases _ fun o r j => ?_
      obtain rfl : o = 0 := Subsingleton.elim _ _
      refine (out_store3 a l r j).trans ?_
      exact (outVec_at a l 3 r j _ (by show 0 + 1 * r.val = _; omega) (by show 384 + 1 * j.val = _; omega) (by omega) (by omega)).symm
    · revert z; refine ix3_cases _ fun o r j => ?_
      obtain rfl : o = 0 := Subsingleton.elim _ _
      refine (out_store2 a l r j).trans ?_
      exact (outVec_at a l 2 r j _ (by show 0 + 1 * r.val = _; omega) (by show 256 + 1 * j.val = _; omega) (by omega) (by omega)).symm
    · revert z; refine ix3_cases _ fun o r j => ?_
      obtain rfl : o = 0 := Subsingleton.elim _ _
      refine (out_store1 a l r j).trans ?_
      exact (outVec_at a l 1 r j _ (by show 0 + 1 * r.val = _; omega) (by show 128 + 1 * j.val = _; omega) (by omega) (by omega)).symm
    · revert z; refine ix3_cases _ fun o r j => ?_
      obtain rfl : o = 0 := Subsingleton.elim _ _
      refine (out_store0 a l r j).trans ?_
      exact (outVec_at a l 0 r j _ (by show 0 + 1 * r.val = _; omega) (by show 0 + 1 * j.val = _; omega) (by omega) (by omega)).symm
  · exact View.cover_of_tiledL (outPieces a l) S1x256x128.size (by sl_kernel_rfl) y

end Cert.KernelIdeal.Attn
end
-- ==== Proof.AttnBlock.lean ====
/-
  The output block of each branch of the attention body, element by element, in terms of its loop's last state.
-/
module

public import proofs.«01_k».proof.Proof.AttnStores

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem

/-- The low branch's two accumulators (denominators by lane, numerators) from the point's blocks and the bound's first entry. -/
def lowAcc (b : FVec Ideal S1x1 .f32) (x0 : Vec Ideal S1x256x512 .bf16) (x1 x2 : Vec Ideal S1x8192x128 .bf16) (x3 x4 : Vec Ideal S1x256x128 .bf16) :
    Vec Ideal S2048x128 .f32 × Vec Ideal S2048x128 .f32 :=
  (k0_pay58 b x3 (masked x0) (lowState (k0_pay55 b) x1 x2 (masked x0) (k0_pay52 (F := Ideal)) (k0_pay53 (F := Ideal)) 8).1,
    k0_pay59 b x3 x4 (masked x0) (lowState (k0_pay55 b) x1 x2 (masked x0) (k0_pay52 (F := Ideal)) (k0_pay53 (F := Ideal)) 8).2)

/-- The high branch's state after the 8192 latent keys. -/
def highAt (x0 : Vec Ideal S1x256x512 .bf16) (x1 x2 : Vec Ideal S1x8192x128 .bf16) :
    Vec Ideal S2048x1 .f32 × Vec Ideal S2048x128 .f32 × Vec Ideal S2048x128 .f32 :=
  highState x1 x2 (masked x0) (k0_pay11 (F := Ideal)) (k0_pay52 (F := Ideal)) (k0_pay53 (F := Ideal)) 8

/-- The high branch's two accumulators from the point's blocks. -/
def highAcc (x0 : Vec Ideal S1x256x512 .bf16) (x1 x2 : Vec Ideal S1x8192x128 .bf16) (x3 x4 : Vec Ideal S1x256x128 .bf16) :
    Vec Ideal S2048x128 .f32 × Vec Ideal S2048x128 .f32 :=
  (k0_pay19 x3 (masked x0) (highAt x0 x1 x2).1 (highAt x0 x1 x2).2.1,
    k0_pay60 (k0_pay14 x4) (k0_pay18 x3 (masked x0) (highAt x0 x1 x2).1) (highAt x0 x1 x2).2.2 (k0_pay20 x3 (masked x0) (highAt x0 x1 x2).1))

/-- Reading the whole of what pieces over one whole store left. -/
theorem read_over {S : Shape} {e : EltTy} (v : View sig .tc .vmem S e) {off : Fin S.rank → Nat} (h : off = fun _ => 0) (inb : ∀ a, off a + S.size a ≤ S.size a)
    (L P : List (View.Piece (Elt Ideal) S e)) :
    v.readCov (L ++ P) (Rect.unit off S.size inb).toLoadRect = v.read (Elt Ideal) (v.writes (Elt Ideal) (v.writes (Elt Ideal) v.junk P) L) := by
  unfold View.readCov
  rw [View.readAt_eq_ld, View.ld_unit_zero h, View.writes_append]

theorem read_mask (v : View sig .tc .vmem S2048x128 .bf16) (x : Vec Ideal S1x256x512 .bf16) :
    v.read (Elt Ideal) (v.writes (Elt Ideal) v.junk (maskPieces x)) = masked x := by
  rw [← maskPieces_canon]; exact funext fun y => View.read_writes_junk_apply_eq_canon v y _

section Point
variable (c : Dev nD) (i : grid0.Coords) (arg3 : Memref sig .tc .vmem S1x256x512 .bf16) (harg3 : arg3.IsWhole) (arg4 : Memref sig .tc .vmem S1x8192x128 .bf16) (harg4 : arg4.IsWhole) (arg5 : Memref sig .tc .vmem S1x8192x128 .bf16) (harg5 : arg5.IsWhole) (arg6 : Memref sig .tc .vmem S1x256x128 .bf16) (harg6 : arg6.IsWhole) (arg7 : Memref sig .tc .vmem S1x256x128 .bf16) (harg7 : arg7.IsWhole) (arg8 : Memref sig .tc .vmem S1x128 .f32) (harg8 : arg8.IsWhole) (arg9 : Memref sig .tc .vmem S1x256x512 .bf16) (harg9 : arg9.IsWhole) (arg10 : Memref sig .tc .vmem S2048x128 .bf16) (harg10 : arg10.IsWhole) (arg11 : Memref sig .tc .vmem S2048x1 .f32) (harg11 : arg11.IsWhole) (arg12 : Memref sig .tc .vmem S2048x128 .f32) (harg12 : arg12.IsWhole) (arg13 : Memref sig .tc .vmem S2048x128 .f32) (harg13 : arg13.IsWhole)
  (x0 : Vec Ideal S1x256x512 .bf16) (x1 x2 : Vec Ideal S1x8192x128 .bf16) (x3 x4 : Vec Ideal S1x256x128 .bf16) (x5 : Vec Ideal S1x128 .f32)

set_option maxHeartbeats 1000000 in
/-- What the low branch stores into the output, as it reads its own scratch buffers. -/
theorem low_list (hc0 : isLow (bndAt arg8 harg8 x5)) (hc1 : ¬isHigh (bndAt arg8 harg8 x5)) :
    (runLow c i arg3 harg3 arg4 harg4 arg5 harg5 arg6 harg6 arg7 harg7 arg8 harg8 arg9 harg9 arg10 harg10 arg11 harg11 arg12 harg12 arg13 harg13 x0 x1 x2 x3 x4 x5 hc0 hc1).1
      = outPieces (arg13.view.readCov ((⟨(Rect.unit (s := S2048x128) ![0, 0] S2048x128.size inb_S2048x128_S2048x128_0_0), k0_pay59 (k0_pay54 (View.readAt (Elt Ideal) arg8.view (Rect.unit (s := S1x128) ![0, 0] S1x1.size inb_S1x128_S1x1_0_0).toLoadRect (harg8.unread x5))) (View.readAt (Elt Ideal) arg6.view (Rect.unit (s := S1x256x128) ![0, 0, 0] S1x256x128.size inb_S1x256x128_S1x256x128_0_0_0).toLoadRect (harg6.unread x3)) (View.readAt (Elt Ideal) arg7.view (Rect.unit (s := S1x256x128) ![0, 0, 0] S1x256x128.size inb_S1x256x128_S1x256x128_0_0_0).toLoadRect (harg7.unread x4)) (arg10.view.readCov (maskPieces (arg3.view.read (Elt Ideal) (harg3.unread x0))) (Rect.unit (s := S2048x128) ![0, 0] S2048x128.size inb_S2048x128_S2048x128_0_0).toLoadRect) (arg13.view.readCov ((pb_k0_t1 (F := Ideal) Variants.none c none i arg3 harg3 arg4 harg4 arg5 harg5 arg6 harg6 arg7 harg7 arg8 harg8 arg9 harg9 arg10 harg10 arg11 harg11 arg12 harg12 arg13 harg13 (iota Kind.tc S1x128 32 [1] iota_S1x128_d1_w32) (k0_pay54 (View.readAt (Elt Ideal) arg8.view (Rect.unit (s := S1x128) ![0, 0] S1x1.size inb_S1x128_S1x1_0_0).toLoadRect (harg8.unread x5))) (harg4.unread x1) (harg5.unread x2) (arg10.view.writes (Elt Ideal) arg10.view.junk (maskPieces (arg3.view.read (Elt Ideal) (harg3.unread x0)))) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t1_loop.trips).2 ++ [(⟨(Rect.unit (s := S2048x128) ![0, 0] S2048x128.size inb_S2048x128_S2048x128_0_0), (k0_pay53 (F := Ideal))⟩ : View.Piece (Elt Ideal) S2048x128 .f32)]) (Rect.unit (s := S2048x128) ![0, 0] S2048x128.size inb_S2048x128_S2048x128_0_0).toLoadRect)⟩ : View.Piece (Elt Ideal) S2048x128 .f32) :: ((pb_k0_t1 (F := Ideal) Variants.none c none i arg3 harg3 arg4 harg4 arg5 harg5 arg6 harg6 arg7 harg7 arg8 harg8 arg9 harg9 arg10 harg10 arg11 harg11 arg12 harg12 arg13 harg13 (iota Kind.tc S1x128 32 [1] iota_S1x128_d1_w32) (k0_pay54 (View.readAt (Elt Ideal) arg8.view (Rect.unit (s := S1x128) ![0, 0] S1x1.size inb_S1x128_S1x1_0_0).toLoadRect (harg8.unread x5))) (harg4.unread x1) (harg5.unread x2) (arg10.view.writes (Elt Ideal) arg10.view.junk (maskPieces (arg3.view.read (Elt Ideal) (harg3.unread x0)))) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t1_loop.trips).2 ++ [(⟨(Rect.unit (s := S2048x128) ![0, 0] S2048x128.size inb_S2048x128_S2048x128_0_0), (k0_pay53 (F := Ideal))⟩ : View.Piece (Elt Ideal) S2048x128 .f32)])) (Rect.unit (s := S2048x128) ![0, 0] S2048x128.size inb_S2048x128_S2048x128_0_0).toLoadRect)
        (arg12.view.readCov ((⟨(Rect.unit (s := S2048x128) ![0, 0] S2048x128.size inb_S2048x128_S2048x128_0_0), k0_pay58 (k0_pay54 (View.readAt (Elt Ideal) arg8.view (Rect.unit (s := S1x128) ![0, 0] S1x1.size inb_S1x128_S1x1_0_0).toLoadRect (harg8.unread x5))) (View.readAt (Elt Ideal) arg6.view (Rect.unit (s := S1x256x128) ![0, 0, 0] S1x256x128.size inb_S1x256x128_S1x256x128_0_0_0).toLoadRect (harg6.unread x3)) (arg10.view.readCov (maskPieces (arg3.view.read (Elt Ideal) (harg3.unread x0))) (Rect.unit (s := S2048x128) ![0, 0] S2048x128.size inb_S2048x128_S2048x128_0_0).toLoadRect) (arg12.view.readCov ((pb_k0_t1 (F := Ideal) Variants.none c none i arg3 harg3 arg4 harg4 arg5 harg5 arg6 harg6 arg7 harg7 arg8 harg8 arg9 harg9 arg10 harg10 arg11 harg11 arg12 harg12 arg13 harg13 (iota Kind.tc S1x128 32 [1] iota_S1x128_d1_w32) (k0_pay54 (View.readAt (Elt Ideal) arg8.view (Rect.unit (s := S1x128) ![0, 0] S1x1.size inb_S1x128_S1x1_0_0).toLoadRect (harg8.unread x5))) (harg4.unread x1) (harg5.unread x2) (arg10.view.writes (Elt Ideal) arg10.view.junk (maskPieces (arg3.view.read (Elt Ideal) (harg3.unread x0)))) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t1_loop.trips).1 ++ [(⟨(Rect.unit (s := S2048x128) ![0, 0] S2048x128.size inb_S2048x128_S2048x128_0_0), (k0_pay52 (F := Ideal))⟩ : View.Piece (Elt Ideal) S2048x128 .f32)]) (Rect.unit (s := S2048x128) ![0, 0] S2048x128.size inb_S2048x128_S2048x128_0_0).toLoadRect)⟩ : View.Piece (Elt Ideal) S2048x128 .f32) :: ((pb_k0_t1 (F := Ideal) Variants.none c none i arg3 harg3 arg4 harg4 arg5 harg5 arg6 harg6 arg7 harg7 arg8 harg8 arg9 harg9 arg10 harg10 arg11 harg11 arg12 harg12 arg13 harg13 (iota Kind.tc S1x128 32 [1] iota_S1x128_d1_w32) (k0_pay54 (View.readAt (Elt Ideal) arg8.view (Rect.unit (s := S1x128) ![0, 0] S1x1.size inb_S1x128_S1x1_0_0).toLoadRect (harg8.unread x5))) (harg4.unread x1) (harg5.unread x2) (arg10.view.writes (Elt Ideal) arg10.view.junk (maskPieces (arg3.view.read (Elt Ideal) (harg3.unread x0)))) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t1_loop.trips).1 ++ [(⟨(Rect.unit (s := S2048x128) ![0, 0] S2048x128.size inb_S2048x128_S2048x128_0_0), (k0_pay52 (F := Ideal))⟩ : View.Piece (Elt Ideal) S2048x128 .f32)])) (Rect.unit (s := S2048x128) ![0, 0] S2048x128.size inb_S2048x128_S2048x128_0_0).toLoadRect) := by
  unfold runLow
  rfl

set_option maxHeartbeats 1000000 in
/-- What the high branch stores into the output, as it reads its own scratch buffers. -/
theorem high_list (hc0 : ¬isLow (bndAt arg8 harg8 x5)) (hc1 : isHigh (bndAt arg8 harg8 x5)) :
    (runHigh c i arg3 harg3 arg4 harg4 arg5 harg5 arg6 harg6 arg7 harg7 arg8 harg8 arg9 harg9 arg10 harg10 arg11 harg11 arg12 harg12 arg13 harg13 x0 x1 x2 x3 x4 x5 hc0 hc1).1
      = outPieces (arg13.view.readCov ((⟨(Rect.unit (s := S2048x128) ![0, 0] S2048x128.size inb_S2048x128_S2048x128_0_0), k0_pay60 (k0_pay14 (View.readAt (Elt Ideal) arg7.view (Rect.unit (s := S1x256x128) ![0, 0, 0] S1x256x128.size inb_S1x256x128_S1x256x128_0_0_0).toLoadRect (harg7.unread x4))) (k0_pay18 (View.readAt (Elt Ideal) arg6.view (Rect.unit (s := S1x256x128) ![0, 0, 0] S1x256x128.size inb_S1x256x128_S1x256x128_0_0_0).toLoadRect (harg6.unread x3)) (arg10.view.readCov (maskPieces (arg3.view.read (Elt Ideal) (harg3.unread x0))) (Rect.unit (s := S2048x128) ![0, 0] S2048x128.size inb_S2048x128_S2048x128_0_0).toLoadRect) (arg11.view.readCov ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).1 ++ [(⟨(Rect.unit (s := S2048x1) ![0, 0] S2048x1.size inb_S2048x1_S2048x1_0_0), (k0_pay11 (F := Ideal))⟩ : View.Piece (Elt Ideal) S2048x1 .f32)]) (Rect.unit (s := S2048x1) ![0, 0] S2048x1.size inb_S2048x1_S2048x1_0_0).toLoadRect)) (arg13.view.readCov ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).2.2 ++ [(⟨(Rect.unit (s := S2048x128) ![0, 0] S2048x128.size inb_S2048x128_S2048x128_0_0), (k0_pay53 (F := Ideal))⟩ : View.Piece (Elt Ideal) S2048x128 .f32)]) (Rect.unit (s := S2048x128) ![0, 0] S2048x128.size inb_S2048x128_S2048x128_0_0).toLoadRect) (k0_pay20 (View.readAt (Elt Ideal) arg6.view (Rect.unit (s := S1x256x128) ![0, 0, 0] S1x256x128.size inb_S1x256x128_S1x256x128_0_0_0).toLoadRect (harg6.unread x3)) (arg10.view.readCov (maskPieces (arg3.view.read (Elt Ideal) (harg3.unread x0))) (Rect.unit (s := S2048x128) ![0, 0] S2048x128.size inb_S2048x128_S2048x128_0_0).toLoadRect) (arg11.view.readCov ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).1 ++ [(⟨(Rect.unit (s := S2048x1) ![0, 0] S2048x1.size inb_S2048x1_S2048x1_0_0), (k0_pay11 (F := Ideal))⟩ : View.Piece (Elt Ideal) S2048x1 .f32)]) (Rect.unit (s := S2048x1) ![0, 0] S2048x1.size inb_S2048x1_S2048x1_0_0).toLoadRect))⟩ : View.Piece (Elt Ideal) S2048x128 .f32) :: ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).2.2 ++ [(⟨(Rect.unit (s := S2048x128) ![0, 0] S2048x128.size inb_S2048x128_S2048x128_0_0), (k0_pay53 (F := Ideal))⟩ : View.Piece (Elt Ideal) S2048x128 .f32)])) (Rect.unit (s := S2048x128) ![0, 0] S2048x128.size inb_S2048x128_S2048x128_0_0).toLoadRect)
        (arg12.view.readCov ((⟨(Rect.unit (s := S2048x128) ![0, 0] S2048x128.size inb_S2048x128_S2048x128_0_0), k0_pay19 (View.readAt (Elt Ideal) arg6.view (Rect.unit (s := S1x256x128) ![0, 0, 0] S1x256x128.size inb_S1x256x128_S1x256x128_0_0_0).toLoadRect (harg6.unread x3)) (arg10.view.readCov (maskPieces (arg3.view.read (Elt Ideal) (harg3.unread x0))) (Rect.unit (s := S2048x128) ![0, 0] S2048x128.size inb_S2048x128_S2048x128_0_0).toLoadRect) (arg11.view.readCov ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).1 ++ [(⟨(Rect.unit (s := S2048x1) ![0, 0] S2048x1.size inb_S2048x1_S2048x1_0_0), (k0_pay11 (F := Ideal))⟩ : View.Piece (Elt Ideal) S2048x1 .f32)]) (Rect.unit (s := S2048x1) ![0, 0] S2048x1.size inb_S2048x1_S2048x1_0_0).toLoadRect) (arg12.view.readCov ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).2.1 ++ [(⟨(Rect.unit (s := S2048x128) ![0, 0] S2048x128.size inb_S2048x128_S2048x128_0_0), (k0_pay52 (F := Ideal))⟩ : View.Piece (Elt Ideal) S2048x128 .f32)]) (Rect.unit (s := S2048x128) ![0, 0] S2048x128.size inb_S2048x128_S2048x128_0_0).toLoadRect)⟩ : View.Piece (Elt Ideal) S2048x128 .f32) :: ((pb_k0_t2 (F := Ideal) Variants.none c none i arg3 harg3 arg4 harg4 arg5 harg5 arg6 harg6 arg7 harg7 arg8 harg8 arg9 harg9 arg10 harg10 arg11 harg11 arg12 harg12 arg13 harg13 (harg4.unread x1) (harg5.unread x2) (arg10.view.writes (Elt Ideal) arg10.view.junk (maskPieces (arg3.view.read (Elt Ideal) (harg3.unread x0)))) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) k0_t2_loop.trips).2.1 ++ [(⟨(Rect.unit (s := S2048x128) ![0, 0] S2048x128.size inb_S2048x128_S2048x128_0_0), (k0_pay52 (F := Ideal))⟩ : View.Piece (Elt Ideal) S2048x128 .f32)])) (Rect.unit (s := S2048x128) ![0, 0] S2048x128.size inb_S2048x128_S2048x128_0_0).toLoadRect) := by
  unfold runHigh
  rfl

/-- The low branch's output block. -/
theorem low_value (hc0 : isLow (bndAt arg8 harg8 x5)) (hc1 : ¬isHigh (bndAt arg8 harg8 x5)) :
    View.canon (runLow c i arg3 harg3 arg4 harg4 arg5 harg5 arg6 harg6 arg7 harg7 arg8 harg8 arg9 harg9 arg10 harg10 arg11 harg11 arg12 harg12 arg13 harg13 x0 x1 x2 x3 x4 x5 hc0 hc1).1
      = outVec (lowAcc (bndAt arg8 harg8 x5) x0 x1 x2 x3 x4).2 (lowAcc (bndAt arg8 harg8 x5) x0 x1 x2 x3 x4).1 := by
  rw [low_list, outPieces_canon]
  have hl := low_loop c i arg3 harg3 arg4 harg4 arg5 harg5 arg6 harg6 arg7 harg7 arg8 harg8 arg9 harg9 arg10 harg10 arg11 harg11 arg12 harg12 arg13 harg13 (iota Kind.tc S1x128 32 [1] iota_S1x128_d1_w32) (bndAt arg8 harg8 x5) x1 x2 (arg10.view.writes (Elt Ideal) arg10.view.junk (maskPieces x0)) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) 8 le_rfl
  rw [read_mask, read_one _ zeros2, read_one _ zeros2] at hl
  simp only [harg3.read_unread, View.readCov_cons_toLoadRect, low_trips, read_over (S := S2048x128) _ zeros2]
  rw [show (k0_pay54 (View.readAt (Elt Ideal) arg8.view (Rect.unit (s := S1x128) ![0, 0] S1x1.size inb_S1x128_S1x1_0_0).toLoadRect (harg8.unread x5))) = bndAt arg8 harg8 x5 by simp only [k0_pay54, shapeCast_self], hl.1, hl.2]
  simp only [View.readCov, View.readAt_eq_ld, View.ld_unit_zero (S := S2048x128) zeros2, View.ld_unit_zero (S := S1x256x128) zeros3, read_mask, harg6.read_unread, harg7.read_unread]
  rfl

/-- The high branch's output block. -/
theorem high_value (hc0 : ¬isLow (bndAt arg8 harg8 x5)) (hc1 : isHigh (bndAt arg8 harg8 x5)) :
    View.canon (runHigh c i arg3 harg3 arg4 harg4 arg5 harg5 arg6 harg6 arg7 harg7 arg8 harg8 arg9 harg9 arg10 harg10 arg11 harg11 arg12 harg12 arg13 harg13 x0 x1 x2 x3 x4 x5 hc0 hc1).1
      = outVec (highAcc x0 x1 x2 x3 x4).2 (highAcc x0 x1 x2 x3 x4).1 := by
  rw [high_list, outPieces_canon]
  have hl := high_loop c i arg3 harg3 arg4 harg4 arg5 harg5 arg6 harg6 arg7 harg7 arg8 harg8 arg9 harg9 arg10 harg10 arg11 harg11 arg12 harg12 arg13 harg13 x1 x2 (arg10.view.writes (Elt Ideal) arg10.view.junk (maskPieces x0)) (arg11.view.writes (Elt Ideal) arg11.view.junk [(⟨(Rect.unit (s := S2048x1) ![0, 0] S2048x1.size inb_S2048x1_S2048x1_0_0), (k0_pay11 (F := Ideal))⟩ : View.Piece (Elt Ideal) S2048x1 .f32)]) (arg12.view.writes (Elt Ideal) arg12.view.junk [(⟨(Rect.unit (s := S2048x128) ![0, 0] S2048x128.size inb_S2048x128_S2048x128_0_0), (k0_pay52 (F := Ideal))⟩ : View.Piece (Elt Ideal) S2048x128 .f32)]) (arg13.view.writes (Elt Ideal) arg13.view.junk [(⟨(Rect.unit (s := S2048x128) ![0, 0] S2048x128.size inb_S2048x128_S2048x128_0_0), (k0_pay53 (F := Ideal))⟩ : View.Piece (Elt Ideal) S2048x128 .f32)]) 8 le_rfl
  rw [read_mask, read_one _ zeros2, read_one _ zeros2, read_one _ zeros2] at hl
  simp only [harg3.read_unread, View.readCov_cons_toLoadRect, high_trips, read_over (S := S2048x1) _ zeros2, read_over (S := S2048x128) _ zeros2]
  rw [hl.1, hl.2.1, hl.2.2]
  simp only [View.readCov, View.readAt_eq_ld, View.ld_unit_zero (S := S2048x128) zeros2, View.ld_unit_zero (S := S1x256x128) zeros3, read_mask, harg6.read_unread, harg7.read_unread]
  rfl

end Point
end Cert.KernelIdeal.Attn
end
-- ==== Proof.AttnPay.lean ====
/-
  The arithmetic blocks of the attention body, element by element: scores, running maxima, sums and weighted values.
-/
module

public import proofs.«01_k».proof.Proof.Gen.KernelIdeal.Skeleton
public import Idealize.ShloMosaic.Lib.Tactic
public import Idealize.ShloMosaic.Lib.Pointwise
public import Idealize.ShloMosaic.Lib.Pipeline.ValueKit

@[expose] public section
set_option maxRecDepth 16384
noncomputable section
namespace Cert.KernelIdeal.Attn
open Cert.KernelIdeal Cert.KernelIdeal.Gen Idealize.ShloMosaic Idealize.ShloMosaic.TcCoe Idealize.SL.Sem

/-- The score of row `r` against key `n` of a block of 1024 keys. -/
def score (q : Vec Ideal S2048x128 .bf16) (k : Vec Ideal S1x1024x128 .bf16) (r : Fin 2048) (n : Fin 1024) : EReal :=
  ∑ d : Fin 128, q (ix2 r d) * k (ix3 0 n d)

/-- The score of row `r` against context key `n`. -/
def scoreC (q : Vec Ideal S2048x128 .bf16) (k : Vec Ideal S1x256x128 .bf16) (r : Fin 2048) (n : Fin 256) : EReal :=
  ∑ d : Fin 128, q (ix2 r d) * k (ix3 0 n d)

/-- The eight lane tiles of 1024 columns added at lane `j`. -/
def lanes8 (f : Fin 1024 → EReal) (j : Fin 128) : EReal :=
  f ⟨j.val, by omega⟩ + f ⟨128 + j.val, by omega⟩ + f ⟨256 + j.val, by omega⟩ + f ⟨384 + j.val, by omega⟩ + f ⟨512 + j.val, by omega⟩
    + f ⟨640 + j.val, by omega⟩ + f ⟨768 + j.val, by omega⟩ + f ⟨896 + j.val, by omega⟩

/-- The two lane tiles of 256 columns added at lane `j`. -/
def lanes2 (f : Fin 256 → EReal) (j : Fin 128) : EReal := f ⟨j.val, by omega⟩ + f ⟨128 + j.val, by omega⟩

variable (w b : FVec Ideal S1x1 .f32) (k v : Vec Ideal S1x1024x128 .bf16) (kc vc : Vec Ideal S1x256x128 .bf16) (q : Vec Ideal S2048x128 .bf16)
  (l a : Vec Ideal S2048x128 .f32) (mx : Vec Ideal S2048x1 .f32) (r : Fin 2048) (j : Fin 128)

/-- The reference the low branch subtracts: the bound less 64. -/
def lowRef (b : FVec Ideal S1x1 .f32) : EReal := b (ix2 0 0) - Ideal.ofBits .f32 0x42800000#32

theorem low_l : k0_pay3 (k0_pay55 b) k q l (ix2 r j) = l (ix2 r j) + lanes8 (fun n => Ideal.exp2 (score q k r n - lowRef b)) j := by
  pointwise [k0_pay3, k0_pay2, k0_pay55, score, lanes8, lowRef]
  rfl

theorem low_a : k0_pay4 (k0_pay55 b) k v q a (ix2 r j)
    = a (ix2 r j) + ∑ n : Fin 1024, Ideal.exp2 (score q k r n - lowRef b) * v (ix3 0 n j) := by
  pointwise [k0_pay4, k0_pay2, k0_pay55, score, lowRef]
  rfl

theorem low_lc : k0_pay58 b kc q l (ix2 r j) = l (ix2 r j) + lanes2 (fun n => Ideal.exp2 (scoreC q kc r n - lowRef b)) j := by
  pointwise [k0_pay58, k0_pay57, k0_pay55, scoreC, lanes2, lowRef]
  rfl

theorem low_ac : k0_pay59 b kc vc q a (ix2 r j)
    = a (ix2 r j) + ∑ n : Fin 256, Ideal.exp2 (scoreC q kc r n - lowRef b) * vc (ix3 0 n j) := by
  pointwise [k0_pay59, k0_pay57, k0_pay55, scoreC, lowRef]
  rfl

theorem zero_l : k0_pay52 (F := Ideal) (ix2 r j) = 0 := by pointwise [k0_pay52]
theorem zero_a : k0_pay53 (F := Ideal) (ix2 r j) = 0 := by pointwise [k0_pay53]

theorem high_m0 : k0_pay11 (F := Ideal) (ix2 r 0) = Ideal.ofBits .f32 0xF149F2CA#32 := by
  pointwise [k0_pay11]
  try rfl

/-- The new running maximum after a block of 1024 keys. -/
theorem high_m : k0_pay7 k q mx (ix2 r 0) = max (mx (ix2 r 0)) (Finset.univ.fold max (Ideal.ofBits .f32 0xFF800000#32) (fun n => score q k r n)) := by
  pointwise [k0_pay7, k0_pay6, score]

theorem high_m' : k0_pay13 (k0_pay7 k q mx) = k0_pay7 k q mx := by
  simp only [k0_pay13, shapeCast_self]

theorem high_s (n : Fin 1024) : k0_pay6 k q (ix2 r n) = score q k r n := by
  pointwise [k0_pay6, score]

theorem high_l : k0_pay10 k q mx l (ix2 r j)
    = Ideal.exp2 (mx (ix2 r 0) - k0_pay7 k q mx (ix2 r 0)) * l (ix2 r j) + lanes8 (fun n => Ideal.exp2 (score q k r n - k0_pay7 k q mx (ix2 r 0))) j := by
  simp only [← high_s]
  pointwise [k0_pay10, k0_pay8, k0_pay9, lanes8]
  rfl

theorem high_a : k0_pay12 (k0_pay5 v) (k0_pay8 k q mx) (k0_pay9 k q mx) a (ix2 r j)
    = Ideal.exp2 (mx (ix2 r 0) - k0_pay7 k q mx (ix2 r 0)) * a (ix2 r j)
      + ∑ n : Fin 1024, Ideal.exp2 (score q k r n - k0_pay7 k q mx (ix2 r 0)) * v (ix3 0 n j) := by
  simp only [← high_s]
  pointwise [k0_pay12, k0_pay8, k0_pay9, k0_pay5]
  rfl

/-- The running maximum after the context keys. -/
theorem high_mc : k0_pay16 kc q mx (ix2 r 0) = max (mx (ix2 r 0)) (Finset.univ.fold max (Ideal.ofBits .f32 0xFF800000#32) (fun n => scoreC q kc r n)) := by
  pointwise [k0_pay16, k0_pay15, scoreC]

theorem high_sc (n : Fin 256) : k0_pay15 kc q (ix2 r n) = scoreC q kc r n := by
  pointwise [k0_pay15, scoreC]

theorem high_lc : k0_pay19 kc q mx l (ix2 r j)
    = Ideal.exp2 (mx (ix2 r 0) - k0_pay16 kc q mx (ix2 r 0)) * l (ix2 r j) + lanes2 (fun n => Ideal.exp2 (scoreC q kc r n - k0_pay16 kc q mx (ix2 r 0))) j := by
  simp only [← high_sc]
  pointwise [k0_pay19, k0_pay17, k0_pay18, lanes2]
  rfl

theorem high_ac : k0_pay60 (k0_pay14 vc) (k0_pay18 kc q mx) a (k0_pay20 kc q mx) (ix2 r j)
    = Ideal.exp2 (mx (ix2 r 0) - k0_pay16 kc q mx (ix2 r 0)) * a (ix2 r j)
      + ∑ n : Fin 256, Ideal.exp2 (scoreC q kc r n - k0_pay16 kc q mx (ix2 r 0)) * vc (ix3 0 n j) := by
  simp only [← high_sc]
  pointwise [k0_pay60, k0_pay17, k0_pay18, k0_pay14, k0_pay20]
  rfl

theorem quotient : k0_pay62 a l (ix2 r j) = Ideal.div (a (ix2 r j)) (∑ x, l (ix2 r x)) := by
  pointwise [k0_pay62]

theorem bound_same : k0_pay54 b = b := by simp only [k0_pay54, shapeCast_self]

end Cert.KernelIdeal.Attn
end
-- ==== Proof.AttnDef.lean ====
/-
  One row of softmax attention over latent and context keys, as the reference computes it.
-/
module

public import Idealize.ShloMosaic.Lib.Tactic
public import Idealize.ShloMosaic.Lib.Pointwise
public import Idealize.ShloMosaic.Lib.Pipeline.ValueKit

@[expose] public section
noncomputable section
namespace Cert.Attn
open Idealize.ShloMosaic

/-- Minus infinity, as a maximum's first value. -/
def bot32 : EReal := Ideal.ofBits .f32 0xFF800000#32

/-- The greatest of a row's 8192 latent and 256 context scores. -/
def rowMax (sL : Fin 8192 → EReal) (sC : Fin 256 → EReal) : EReal :=
  max bot32 (Finset.univ.fold max bot32 (fun x : Fin 8448 => if h : x.val < 8192 then sL ⟨x.val, h⟩ else sC ⟨x.val - 8192, by omega⟩))

/-- The softmax's denominator of a row. -/
def rowSum (sL : Fin 8192 → EReal) (sC : Fin 256 → EReal) : EReal :=
  ∑ x, Ideal.exp (sL x - rowMax sL sC) + ∑ x, Ideal.exp (sC x - rowMax sL sC)

/-- One row and column of attention: the softmax weights of the row times the column's values. -/
def rowAttn (sL : Fin 8192 → EReal) (sC : Fin 256 → EReal) (v : Fin 8192 → EReal) (vc : Fin 256 → EReal) : EReal :=
  ∑ x, Ideal.div (Ideal.exp (sL x - rowMax sL sC)) (rowSum sL sC) * v x
    + ∑ x, Ideal.div (Ideal.exp (sC x - rowMax sL sC)) (rowSum sL sC) * vc x

end Cert.Attn
end
-- ==== Proof.AttnSoftmax.lean ====
/-
  The arithmetic of a softmax computed block by block: sums and maxima of extended reals that are real, and the identity
  between a running, rescaled sum and the sum relative to the row's largest score.
-/
module

public import proofs.«01_k».proof.Proof.AttnDef

@[expose] public section
noncomputable section
namespace Cert.Attn
open Idealize.ShloMosaic

theorem bot32_eq : bot32 = ⊥ := by
  simp [bot32, Ideal.ofBits, Ideal.ieee]

theorem coe_sum {ι : Type} (S : Finset ι) (f : ι → ℝ) : ((∑ n ∈ S, f n : ℝ) : EReal) = ∑ n ∈ S, (f n : EReal) := by
  classical
  induction S using Finset.induction_on with
  | empty => simp
  | insert a S ha ih => rw [Finset.sum_insert ha, Finset.sum_insert ha, EReal.coe_add, ih]

/-- A real factor that is not negative goes into a sum of extended reals. -/
theorem coe_mul_sum {ι : Type} (S : Finset ι) (a : ℝ) (ha : 0 ≤ a) (f : ι → EReal) : (a : EReal) * ∑ n ∈ S, f n = ∑ n ∈ S, (a : EReal) * f n := by
  classical
  induction S using Finset.induction_on with
  | empty => simp
  | insert b S hb ih =>
    rw [Finset.sum_insert hb, Finset.sum_insert hb,
      EReal.left_distrib_of_nonneg_of_ne_top (EReal.coe_nonneg.mpr ha) (EReal.coe_ne_top a), ih]

theorem coe_mul_add (a : ℝ) (ha : 0 ≤ a) (x y : EReal) : (a : EReal) * (x + y) = a * x + a * y :=
  EReal.left_distrib_of_nonneg_of_ne_top (EReal.coe_nonneg.mpr ha) (EReal.coe_ne_top a) x y

/-- The greatest of a real and of finitely many reals is a real. -/
theorem max_fold_real {n : ℕ} (μ : ℝ) (f : Fin n → ℝ) : ∃ M : ℝ, max (μ : EReal) (Finset.univ.fold max bot32 (fun i => (f i : EReal))) = M := by
  have h1 : max (μ : EReal) (Finset.univ.fold max bot32 (fun i => (f i : EReal))) ≠ ⊤ := by
    apply ne_of_lt
    rw [max_lt_iff, Finset.fold_max_lt, bot32_eq]
    exact ⟨EReal.coe_lt_top _, bot_lt_top, fun i _ => EReal.coe_lt_top _⟩
  have h2 : max (μ : EReal) (Finset.univ.fold max bot32 (fun i => (f i : EReal))) ≠ ⊥ :=
    ne_of_gt (lt_of_lt_of_le (EReal.bot_lt_coe μ) (le_max_left _ _))
  exact ⟨_, (EReal.coe_toReal h1 h2).symm⟩

theorem rowMax_real (xL : Fin 8192 → ℝ) (xC : Fin 256 → ℝ) : ∃ M : ℝ, rowMax (fun n => (xL n : EReal)) (fun n => (xC n : EReal)) = M := by
  let g : Fin 8448 → ℝ := fun x => if h : x.val < 8192 then xL ⟨x.val, h⟩ else xC ⟨x.val - 8192, by omega⟩
  have hg : (fun x : Fin 8448 => if h : x.val < 8192 then (xL ⟨x.val, h⟩ : EReal) else (xC ⟨x.val - 8192, by omega⟩ : EReal)) = fun x => (g x : EReal) := by
    funext x; dsimp only [g]; split <;> rfl
  unfold rowMax
  rw [hg]
  obtain ⟨M, hM⟩ := max_fold_real (g 0) g
  refine ⟨M, hM ▸ ?_⟩
  have h0 : (g 0 : EReal) ≤ Finset.univ.fold max bot32 (fun i => (g i : EReal)) := Finset.le_fold_max _ |>.mpr (Or.inr ⟨0, Finset.mem_univ _, le_rfl⟩)
  rw [bot32_eq] at h0 ⊢
  rw [max_eq_right h0, max_eq_right bot_le]

/-- `2 ^ (x / log 2 − μ)` is `exp (x − M)` times a constant of the row. -/
theorem exp2_scaled (x μ M : ℝ) : Ideal.exp2 (((x * (Real.log 2)⁻¹ : ℝ) : EReal) - (μ : EReal)) = ((Real.exp (M - μ * Real.log 2) * Real.exp (x - M) : ℝ) : EReal) := by
  rw [← EReal.coe_sub, Ideal.exp2_coe]
  congr 1
  have hl : Real.log 2 ≠ 0 := (Real.log_pos (by norm_num)).ne'
  show (2 : ℝ) ^ (x * (Real.log 2)⁻¹ - μ) = _
  rw [Real.rpow_def_of_pos (by norm_num), ← Real.exp_add]
  congr 1
  field_simp
  ring

/-- A row's quotient of sums of powers of two, at any real reference, is the row's softmax attention. -/
theorem row (xL : Fin 8192 → ℝ) (xC : Fin 256 → ℝ) (μ : ℝ) (v : Fin 8192 → EReal) (vc : Fin 256 → EReal) :
    Ideal.div (∑ n, Ideal.exp2 (((xL n * (Real.log 2)⁻¹ : ℝ) : EReal) - (μ : EReal)) * v n + ∑ n, Ideal.exp2 (((xC n * (Real.log 2)⁻¹ : ℝ) : EReal) - (μ : EReal)) * vc n)
        (∑ n, Ideal.exp2 (((xL n * (Real.log 2)⁻¹ : ℝ) : EReal) - (μ : EReal)) + ∑ n, Ideal.exp2 (((xC n * (Real.log 2)⁻¹ : ℝ) : EReal) - (μ : EReal)))
      = rowAttn (fun n => (xL n : EReal)) (fun n => (xC n : EReal)) v vc := by
  obtain ⟨M, hM⟩ := rowMax_real xL xC
  have hD : rowSum (fun n => (xL n : EReal)) (fun n => (xC n : EReal)) = ((∑ n, Real.exp (xL n - M) + ∑ n, Real.exp (xC n - M) : ℝ) : EReal) := by
    unfold rowSum
    rw [hM, EReal.coe_add, coe_sum, coe_sum]
    simp only [← EReal.coe_sub, Ideal.exp_coe]
  have hpos : 0 < ∑ n, Real.exp (xL n - M) + ∑ n, Real.exp (xC n - M) :=
    add_pos (Finset.sum_pos (fun _ _ => Real.exp_pos _) ⟨0, Finset.mem_univ _⟩) (Finset.sum_pos (fun _ _ => Real.exp_pos _) ⟨0, Finset.mem_univ _⟩)
  unfold rowAttn
  rw [hD, hM]
  generalize hDr : ∑ n, Real.exp (xL n - M) + ∑ n, Real.exp (xC n - M) = D at hpos ⊢
  have hc : 0 < Real.exp (M - μ * Real.log 2) := Real.exp_pos _
  simp only [exp2_scaled _ μ M, ← coe_sum, ← EReal.coe_add, ← Finset.mul_sum, ← mul_add]
  rw [hDr]
  generalize Real.exp (M - μ * Real.log 2) = a at hc ⊢
  simp only [← EReal.coe_sub, Ideal.exp_coe, Ideal.div_coe hpos.ne', Ideal.div_coe (mul_pos hc hpos).ne']
  simp only [EReal.coe_mul a, mul_assoc]
  rw [← coe_mul_sum _ a hc.le, ← coe_mul_sum _ a hc.le, ← coe_mul_add a hc.le, mul_comm, ← mul_assoc, ← EReal.coe_mul]
  have e : 1 / (a * D) * a = 1 / D := by field_simp
  rw [e, coe_mul_add _ (by positivity), coe_mul_sum _ _ (by positivity), coe_mul_sum _ _ (by positivity)]
  simp only [mul_left_comm]

/-- The sum over the first `t` blocks of 1024 of the 8192 latent columns. -/
def part (f : Fin 8192 → EReal) (t : ℕ) : EReal :=
  ∑ i ∈ Finset.range t, ∑ n : Fin 1024, f ⟨(1024 * i + n.val) % 8192, Nat.mod_lt _ (by norm_num)⟩

theorem part_zero (f : Fin 8192 → EReal) : part f 0 = 0 := by simp [part]

theorem part_succ (f : Fin 8192 → EReal) (t : ℕ) :
    part f (t + 1) = part f t + ∑ n : Fin 1024, f ⟨(1024 * t + n.val) % 8192, Nat.mod_lt _ (by norm_num)⟩ := by
  simp [part, Finset.sum_range_succ]

theorem part_all (f : Fin 8192 → EReal) : part f 8 = ∑ n, f n := by
  unfold part
  rw [Finset.sum_range, ← Equiv.sum_comp (finProdFinEquiv (m := 8) (n := 1024)) f, Fintype.sum_prod_type]
  refine Finset.sum_congr rfl fun i _ => Finset.sum_congr rfl fun n _ => congrArg f (Fin.ext ?_)
  simp only [finProdFinEquiv_apply_val]
  omega

theorem mul_part (a : ℝ) (ha : 0 ≤ a) (f : Fin 8192 → EReal) (t : ℕ) : (a : EReal) * part f t = part (fun n => (a : EReal) * f n) t := by
  unfold part
  rw [coe_mul_sum _ a ha]
  exact Finset.sum_congr rfl fun i _ => coe_mul_sum _ a ha _

/-- A sum of 1024 columns by eight lane tiles. -/
theorem sum_1024 (f : Fin 1024 → EReal) : ∑ n, f n = ∑ i : Fin 8, ∑ j : Fin 128, f ⟨128 * i.val + j.val, by omega⟩ := by
  rw [← Equiv.sum_comp (finProdFinEquiv (m := 8) (n := 128)) f, Fintype.sum_prod_type]
  refine Finset.sum_congr rfl fun i _ => Finset.sum_congr rfl fun n _ => congrArg f (Fin.ext ?_)
  simp only [finProdFinEquiv_apply_val]
  omega

theorem sum_256 (f : Fin 256 → EReal) : ∑ n, f n = ∑ i : Fin 2, ∑ j : Fin 128, f ⟨128 * i.val + j.val, by omega⟩ := by
  rw [← Equiv.sum_comp (finProdFinEquiv (m := 2) (n := 128)) f, Fintype.sum_prod_type]
  refine Finset.sum_congr rfl fun i _ => Finset.sum_congr rfl fun n _ => congrArg f (Fin.ext ?_)
  simp only [finProdFinEquiv_apply_val]
  omega

/-- Moving a power of two from one real reference to another. -/
theorem exp2_shift (s μ μ' : ℝ) : Ideal.exp2 ((μ : EReal) - (μ' : EReal)) * Ideal.exp2 ((s : EReal) - (μ : EReal)) = Ideal.exp2 ((s : EReal) - (μ' : EReal)) := by
  simp only [← EReal.coe_sub, Ideal.exp2_coe, ← EReal.coe_mul]
  congr 1
  show (2 : ℝ) ^ (μ - μ') * (2 : ℝ) ^ (s - μ) = (2 : ℝ) ^ (s - μ')
  rw [← Real.rpow_add (by norm_num)]
  congr 1
  ring

theorem exp2_real (s μ : ℝ) : ∃ p : ℝ, 0 ≤ p ∧ Ideal.exp2 ((s : EReal) - (μ : EReal)) = p :=
  ⟨(2 : ℝ) ^ (s - μ), by positivity, by rw [← EReal.coe_sub, Ideal.exp2_coe]; rfl⟩

end Cert.Attn
end
-- ==== Proof.AttnState.lean ====
/-
  The state of the attention body's loops after any number of key blocks, and a row of each branch's result as attention.
-/
module

public import proofs.«01_k».proof.Proof.AttnBlock
public import proofs.«01_k».proof.Proof.AttnPay
public import proofs.«01_k».proof.Proof.AttnSoftmax

@[expose] public section
set_option maxRecDepth 16384
noncomputable section
namespace Cert.KernelIdeal.Attn
open Cert.KernelIdeal Cert.KernelIdeal.Gen Cert.KernelIdeal.Body Idealize.ShloMosaic Idealize.ShloMosaic.TcCoe Cert.Attn

/-- The score of row `r` against latent key `n`, among all 8192. -/
def latScore (q : Vec Ideal S2048x128 .bf16) (x : Vec Ideal S1x8192x128 .bf16) (r : Fin 2048) (n : Fin 8192) : EReal :=
  ∑ d : Fin 128, q (ix2 r d) * x (ix3 0 n d)

theorem sum_lanes8 (f : Fin 1024 → EReal) : ∑ j, lanes8 f j = ∑ n, f n := by
  rw [sum_1024, Fin.sum_univ_eight]
  unfold lanes8
  simp only [Finset.sum_add_distrib]
  congr 8
  · exact funext fun j => congrArg f (Fin.ext (by simp))

theorem sum_lanes2 (f : Fin 256 → EReal) : ∑ j, lanes2 f j = ∑ n, f n := by
  rw [sum_256, Fin.sum_univ_two]
  unfold lanes2
  simp only [Finset.sum_add_distrib]
  congr 2
  · exact funext fun j => congrArg f (Fin.ext (by simp))

section
variable (b : FVec Ideal S1x1 .f32) (x0 : Vec Ideal S1x256x512 .bf16) (x y : Vec Ideal S1x8192x128 .bf16) (kc vc : Vec Ideal S1x256x128 .bf16)
  (q : Vec Ideal S2048x128 .bf16) (r : Fin 2048)

theorem low_acc (l a : Vec Ideal S2048x128 .f32) (t : ℕ) (j : Fin 128) : (lowState (k0_pay55 b) x y q l a t).2 (ix2 r j)
    = a (ix2 r j) + part (fun n => Ideal.exp2 (latScore q x r n - lowRef b) * y (ix3 0 n j)) t := by
  induction t with
  | zero => rw [part_zero, add_zero]; rfl
  | succ t ih =>
    show k0_pay4 (k0_pay55 b) (rowsOf x t) (rowsOf y t) q (lowState (k0_pay55 b) x y q l a t).2 (ix2 r j) = _
    rw [low_a, ih, part_succ, add_assoc]
    rfl

theorem low_den (l a : Vec Ideal S2048x128 .f32) (t : ℕ) : ∑ j, (lowState (k0_pay55 b) x y q l a t).1 (ix2 r j)
    = ∑ j, l (ix2 r j) + part (fun n => Ideal.exp2 (latScore q x r n - lowRef b)) t := by
  induction t with
  | zero => rw [part_zero, add_zero]; rfl
  | succ t ih =>
    show ∑ j, k0_pay3 (k0_pay55 b) (rowsOf x t) q (lowState (k0_pay55 b) x y q l a t).1 (ix2 r j) = _
    simp only [low_l]
    rw [Finset.sum_add_distrib, sum_lanes8, ih, part_succ, add_assoc]
    rfl

/-- The low branch's row: any block of values over sums of powers of two at the bound less 64. -/
theorem low_row (xL : Fin 8192 → ℝ) (xC : Fin 256 → ℝ) (μ : ℝ)
    (hL : ∀ n, latScore (masked x0) x r n = ((xL n * (Real.log 2)⁻¹ : ℝ) : EReal)) (hC : ∀ n, scoreC (masked x0) kc r n = ((xC n * (Real.log 2)⁻¹ : ℝ) : EReal))
    (hμ : lowRef b = μ) (j : Fin 128) :
    k0_pay62 (lowAcc b x0 x y kc vc).2 (lowAcc b x0 x y kc vc).1 (ix2 r j)
      = rowAttn (fun n => (xL n : EReal)) (fun n => (xC n : EReal)) (fun n => y (ix3 0 n j)) (fun n => vc (ix3 0 n j)) := by
  rw [quotient, ← row xL xC μ]
  unfold lowAcc
  simp only [low_ac, low_lc]
  rw [Finset.sum_add_distrib, sum_lanes2, low_acc, low_den, part_all, part_all, zero_a]
  simp only [zero_l, Finset.sum_const_zero, zero_add, hL, hC, hμ]

/-- The running maximum's first value is a real. -/
theorem first_real : ∃ μ : ℝ, Ideal.ofBits .f32 0xF149F2CA#32 = (μ : EReal) :=
  ⟨_, by simp [Ideal.ofBits, Ideal.ieee]; rfl⟩

/-- The high branch's row after `t` blocks: the running maximum is a real, and the sums are at it. -/
theorem high_row (s : Fin 8192 → ℝ) (hs : ∀ n, latScore q x r n = (s n : EReal)) (t : ℕ) :
    ∃ μ : ℝ, (highState x y q (k0_pay11 (F := Ideal)) (k0_pay52 (F := Ideal)) (k0_pay53 (F := Ideal)) t).1 (ix2 r 0) = (μ : EReal)
      ∧ ∑ j, (highState x y q (k0_pay11 (F := Ideal)) (k0_pay52 (F := Ideal)) (k0_pay53 (F := Ideal)) t).2.1 (ix2 r j) = part (fun n => Ideal.exp2 ((s n : EReal) - (μ : EReal))) t
      ∧ ∀ j, (highState x y q (k0_pay11 (F := Ideal)) (k0_pay52 (F := Ideal)) (k0_pay53 (F := Ideal)) t).2.2 (ix2 r j) = part (fun n => Ideal.exp2 ((s n : EReal) - (μ : EReal)) * y (ix3 0 n j)) t := by
  induction t with
  | zero =>
    obtain ⟨μ, hμ⟩ := first_real
    refine ⟨μ, ?_, ?_, fun j => ?_⟩
    · show k0_pay11 (F := Ideal) (ix2 r 0) = _
      rw [high_m0, hμ]
    · show ∑ j, k0_pay52 (F := Ideal) (ix2 r j) = _
      simp only [zero_l, Finset.sum_const_zero, part_zero]
    · show k0_pay53 (F := Ideal) (ix2 r j) = _
      rw [zero_a, part_zero]
  | succ t ih =>
    obtain ⟨μ, hm, hl, ha⟩ := ih
    generalize hst : highState x y q (k0_pay11 (F := Ideal)) (k0_pay52 (F := Ideal)) (k0_pay53 (F := Ideal)) t = st at hm hl ha
    obtain ⟨M, hM⟩ := max_fold_real μ (fun n : Fin 1024 => s ⟨(1024 * t + n.val) % 8192, Nat.mod_lt _ (by norm_num)⟩)
    have hn : ∀ n : Fin 1024, score q (rowsOf x t) r n = (s ⟨(1024 * t + n.val) % 8192, Nat.mod_lt _ (by norm_num)⟩ : EReal) := fun n => hs _
    have hnew : k0_pay7 (rowsOf x t) q st.1 (ix2 r 0) = (M : EReal) := by
      rw [high_m, hm, ← hM]; simp only [hn]; rfl
    obtain ⟨p, hp, hpe⟩ := exp2_real μ M
    refine ⟨M, ?_, ?_, fun j => ?_⟩
    · show k0_pay13 (k0_pay7 (rowsOf x t) q (highState x y q (k0_pay11 (F := Ideal)) (k0_pay52 (F := Ideal)) (k0_pay53 (F := Ideal)) t).1) (ix2 r 0) = _
      rw [high_m', hst, hnew]
    · show ∑ j, k0_pay10 (rowsOf x t) q (highState x y q (k0_pay11 (F := Ideal)) (k0_pay52 (F := Ideal)) (k0_pay53 (F := Ideal)) t).1 (highState x y q (k0_pay11 (F := Ideal)) (k0_pay52 (F := Ideal)) (k0_pay53 (F := Ideal)) t).2.1 (ix2 r j) = _
      rw [hst]
      simp only [high_l, hnew, hm, hn]
      rw [Finset.sum_add_distrib, sum_lanes8, hpe, ← coe_mul_sum _ p hp, hl, mul_part p hp, ← hpe, part_succ]
      simp only [exp2_shift]
    · show k0_pay12 (k0_pay5 (rowsOf y t)) (k0_pay8 (rowsOf x t) q (highState x y q (k0_pay11 (F := Ideal)) (k0_pay52 (F := Ideal)) (k0_pay53 (F := Ideal)) t).1) (k0_pay9 (rowsOf x t) q (highState x y q (k0_pay11 (F := Ideal)) (k0_pay52 (F := Ideal)) (k0_pay53 (F := Ideal)) t).1)
        (highState x y q (k0_pay11 (F := Ideal)) (k0_pay52 (F := Ideal)) (k0_pay53 (F := Ideal)) t).2.2 (ix2 r j) = _
      rw [hst, high_a, hnew, hm, ha, hpe, mul_part p hp, ← hpe, part_succ]
      simp only [hn, ← mul_assoc, exp2_shift]
      rfl

/-- The high branch's row. -/
theorem high_row_all (xL : Fin 8192 → ℝ) (xC : Fin 256 → ℝ)
    (hL : ∀ n, latScore (masked x0) x r n = ((xL n * (Real.log 2)⁻¹ : ℝ) : EReal)) (hC : ∀ n, scoreC (masked x0) kc r n = ((xC n * (Real.log 2)⁻¹ : ℝ) : EReal)) (j : Fin 128) :
    k0_pay62 (highAcc x0 x y kc vc).2 (highAcc x0 x y kc vc).1 (ix2 r j)
      = rowAttn (fun n => (xL n : EReal)) (fun n => (xC n : EReal)) (fun n => y (ix3 0 n j)) (fun n => vc (ix3 0 n j)) := by
  obtain ⟨μ, hm, hl, ha⟩ := high_row x y (masked x0) r _ hL 8
  unfold highAcc
  rw [show highState x y (masked x0) (k0_pay11 (F := Ideal)) (k0_pay52 (F := Ideal)) (k0_pay53 (F := Ideal)) 8 = highAt x0 x y from rfl] at hm hl ha
  generalize highAt x0 x y = st at hm hl ha ⊢
  obtain ⟨M, hM⟩ := max_fold_real μ (fun n : Fin 256 => xC n * (Real.log 2)⁻¹)
  have hnew : k0_pay16 kc (masked x0) st.1 (ix2 r 0) = (M : EReal) := by
    rw [high_mc, hm, ← hM]; simp only [hC]; rfl
  obtain ⟨p, hp, hpe⟩ := exp2_real μ M
  rw [quotient, ← row xL xC M]
  simp only [high_ac, high_lc, hnew, hm]
  rw [Finset.sum_add_distrib, sum_lanes2, hpe, ← coe_mul_sum _ p hp, hl, ha, mul_part p hp, mul_part p hp, part_all, part_all, ← hpe]
  simp only [← mul_assoc, exp2_shift, hC]

end
end Cert.KernelIdeal.Attn
end
-- ==== Proof.AttnBlocks.lean ====
/-
  The blocks of the attention region's input windows at a grid point, as entries of the prepared arrays.
-/
module

public import proofs.«01_k».proof.Proof.AttnHost
public import proofs.«01_k».proof.Proof.AttnState

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem Cert.Attn

/-- The lanes kept by the mask are the 64 dimensions of the head, each once. -/
theorem sum_kept (w : ℕ) (hw : w < 2) (h : Fin 64 → EReal) :
    (∑ d : Fin 128, if d.val / 32 % 2 = w then h ⟨d.val % 32 * 2 + d.val / 64 % 2, by omega⟩ else 0) = ∑ e, h e := by
  rw [← Finset.sum_filter]
  refine Finset.sum_nbij' (fun d => ⟨d.val % 32 * 2 + d.val / 64 % 2, by omega⟩) (fun e => ⟨e.val % 2 * 64 + w * 32 + e.val / 2, by omega⟩) ?_ ?_ ?_ ?_ ?_
  · intro d _; exact Finset.mem_univ _
  · intro e _; rw [Finset.mem_filter]; refine ⟨Finset.mem_univ _, ?_⟩; dsimp only; clear h; interval_cases w <;> revert e <;> decide
  · intro d hd; rw [Finset.mem_filter] at hd; have hd := hd.2; apply Fin.ext; dsimp only; clear h; interval_cases w <;> revert d <;> decide
  · intro e _; apply Fin.ext; dsimp only; clear h; interval_cases w <;> revert e <;> decide
  · intro d _; rfl

variable (m : (ℓ : Loc nD τ sig) → Buf (Elt Ideal) ℓ)

/-- Point `t` works on batch row `t / 64`, slab `t / 32 mod 2` and the query block `t mod 32`. -/
theorem index_facts : ∀ t : Fin cfg0.N, win0_0.index t = ![t.val / 64, t.val % 32, t.val / 32 % 2]
    ∧ win0_1.index t = ![t.val / 64, 0, 8 + t.val / 32 % 2] ∧ win0_2.index t = ![t.val / 64, 0, 10 + t.val / 32 % 2]
    ∧ win0_3.index t = ![t.val / 64, 0, 8 + t.val / 32 % 2] ∧ win0_4.index t = ![t.val / 64, 0, 10 + t.val / 32 % 2]
    ∧ win0_5.index t = ![0, 0] ∧ win0_6.index t = ![t.val / 64, t.val % 32, t.val / 32 % 2] := by
  decide +kernel

section Blocks
variable (c : Dev nD) (t : Fin cfg0.N) (b : Fin 4) (u : Fin 32) (p : Fin 2) (hb : t.val / 64 = b.val) (hu : t.val % 32 = u.val) (hp : t.val / 32 % 2 = p.val)
include hb hp

include hu in
theorem blk0 (s : Fin 256) (d : Fin 512) : iblk m c 0 t (ix3 0 s d) = V m c main_v8 (ix3 b ⟨256 * u.val + s.val, by omega⟩ ⟨512 * p.val + d.val, by omega⟩) := by
  have h := (index_facts t).1
  rw [hb, hu, hp] at h
  blk_ext [iblk, h]

theorem blk1 (n : Fin 8192) (d : Fin 128) : iblk m c 1 t (ix3 0 n d) = V m c main_v8 (ix3 b n ⟨128 * (8 + p.val) + d.val, by omega⟩) := by
  have h := (index_facts t).2.1
  rw [hb, hp] at h
  blk_ext [iblk, h]

theorem blk2 (n : Fin 8192) (d : Fin 128) : iblk m c 2 t (ix3 0 n d) = V m c main_v8 (ix3 b n ⟨128 * (10 + p.val) + d.val, by omega⟩) := by
  have h := (index_facts t).2.2.1
  rw [hb, hp] at h
  blk_ext [iblk, h]

theorem blk3 (n : Fin 256) (d : Fin 128) : iblk m c 3 t (ix3 0 n d) = V m c main_v15 (ix3 b n ⟨128 * (8 + p.val) + d.val, by omega⟩) := by
  have h := (index_facts t).2.2.2.1
  rw [hb, hp] at h
  blk_ext [iblk, h]

theorem blk4 (n : Fin 256) (d : Fin 128) : iblk m c 4 t (ix3 0 n d) = V m c main_v15 (ix3 b n ⟨128 * (10 + p.val) + d.val, by omega⟩) := by
  have h := (index_facts t).2.2.2.2.1
  rw [hb, hp] at h
  blk_ext [iblk, h]
end Blocks

theorem blk5 (c : Dev nD) (t : Fin cfg0.N) (j : Fin 128) : iblk m c 5 t (ix2 0 j) = V m c main_v24 (ix2 0 j) := by
  have h := (index_facts t).2.2.2.2.2.1
  blk_ext [iblk, h]

theorem bnd_block (c : Dev nD) (t : Fin cfg0.N) : bndT m c t (ix2 0 0) = V m c main_v24 (ix2 0 0) := by
  unfold bndT bndAt
  rw [View.readAt_eq_ld, (hs5 t).read_unread, ← blk5 m c t 0]
  exact congrArg (iblk m c 5 t) (funext fun a => by fin_cases a <;> rfl)

/-- In the low branch the reference subtracted is a real. -/
theorem lowRef_real (c : Dev nD) (t : Fin cfg0.N) (h : isLow (bndT m c t)) : ∃ μ : ℝ, lowRef (bndT m c t) = (μ : EReal) := by
  have h1 := le_of_low _ h
  have h2 : 0 ≤ bndT m c t (ix2 0 0) := by rw [bnd_block, entry_bnd]; exact bnd_nonneg _ _ _
  have h64 : Ideal.ofBits .f32 0x42800000#32 = ((64 : ℝ) : EReal) := by
    simp [Ideal.ofBits, Ideal.ieee]
    rw [← EReal.coe_mul]
    norm_num
  unfold lowRef
  rw [h64] at h1 ⊢
  have e := EReal.coe_toReal (ne_of_lt (lt_of_le_of_lt h1 (EReal.coe_lt_top _))) (ne_of_gt (lt_of_lt_of_le EReal.bot_lt_zero h2))
  rw [← e]
  exact ⟨_, (EReal.coe_sub _ _).symm⟩

end Cert.KernelIdeal.Attn
end
-- ==== Proof.AttnPoint.lean ====
/-
  What a grid point of the attention region leaves in its output block: rows of attention over the program's arguments.
-/
module

public import proofs.«01_k».proof.Proof.AttnBlocks

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem Cert.Attn

theorem scale_eq : scale = (((1 / 8) * (Real.log 2)⁻¹ : ℝ) : EReal) :=
  IdealRules.named_const.ideal_named_scalar _ _ _ _ rfl

/-- A row of masked, scaled queries against a key, both real where the mask keeps them: the head's inner product over eight, over `log 2`. -/
theorem masked_sum (x0 : Vec Ideal S1x256x512 .bf16) (R : Fin 2048) (y : Fin 128 → EReal) (w : ℕ) (hw : R.val / 256 % 2 = w) (qf kf : Fin 64 → ℝ)
    (hq : ∀ d : Fin 128, d.val / 32 % 2 = w → x0 (ix3 0 ⟨R.val % 256, Nat.mod_lt _ (by norm_num)⟩ ⟨128 * (R.val / 512) + d.val, by have := R.isLt; omega⟩)
      = (qf ⟨d.val % 32 * 2 + d.val / 64 % 2, by omega⟩ : EReal))
    (hk : ∀ d : Fin 128, d.val / 32 % 2 = w → y d = (kf ⟨d.val % 32 * 2 + d.val / 64 % 2, by omega⟩ : EReal))
    (hy : ∀ d : Fin 128, ∃ z : ℝ, y d = (z : EReal)) :
    ∑ d : Fin 128, masked x0 (ix2 R d) * y d = (((∑ e, qf e * kf e) * (1 / 8) * (Real.log 2)⁻¹ : ℝ) : EReal) := by
  rw [Finset.sum_mul, Finset.sum_mul, coe_sum, ← sum_kept w (by omega)]
  refine Finset.sum_congr rfl fun d _ => ?_
  show maskedAt x0 R d * y d = _
  unfold maskedAt
  rw [hw]
  split
  · rename_i h
    rw [hq d h, hk d h, scale_eq, ← EReal.coe_mul, ← EReal.coe_mul]
    congr 1
    ring
  · rw [zero_mul]

variable (m : (ℓ : Loc nD τ sig) → Buf (Elt Ideal) ℓ)

section Rows
variable (c : Dev nD) (t : Fin cfg0.N) (b : Fin 4) (u : Fin 32) (p : Fin 2) (hb : t.val / 64 = b.val) (hu : t.val % 32 = u.val) (hp : t.val / 32 % 2 = p.val)
  (q : S4x8192x16x64.Idx → ℝ) (k : S4x8192x4x64.Idx → ℝ) (kc : S4x256x4x64.Idx → ℝ)
  (hq : ∀ i, (m ((c : Thread nD τ).loc main_arg0) : Vec Ideal S4x8192x16x64 .f32) i = (q i : EReal))
  (hk : ∀ i, (m ((c : Thread nD τ).loc main_arg1) : Vec Ideal S4x8192x4x64 .f32) i = (k i : EReal))
  (hkc : ∀ i, (m ((c : Thread nD τ).loc main_arg3) : Vec Ideal S4x256x4x64 .f32) i = (kc i : EReal))
  (g : Fin 4) (w : Fin 2) (s : Fin 256)

/-- The reference's latent scores, in the reals. -/
def xLat (b : Fin 4) (r : Fin 8192) (H : Fin 16) (G : Fin 4) (n : Fin 8192) : ℝ := (∑ e, q (ix4 b r H e) * k (ix4 b n G e)) * (1 / 8)

/-- The reference's context scores, in the reals. -/
def xCtx (b : Fin 4) (r : Fin 8192) (H : Fin 16) (G : Fin 4) (n : Fin 256) : ℝ := (∑ e, q (ix4 b r H e) * kc (ix4 b n G e)) * (1 / 8)

include hb hu hp hq

theorem query (d : Fin 128) (R : Fin 2048) (hR : R.val = 512 * g.val + 256 * w.val + s.val) (h : d.val / 32 % 2 = w.val) :
    iblk m c 0 t (ix3 0 ⟨R.val % 256, Nat.mod_lt _ (by norm_num)⟩ ⟨128 * (R.val / 512) + d.val, by have := R.isLt; omega⟩)
      = (q (ix4 b ⟨256 * u.val + s.val, by omega⟩ ⟨8 * p.val + 4 * w.val + g.val, by omega⟩ ⟨d.val % 32 * 2 + d.val / 64 % 2, by omega⟩) : EReal) := by
  rw [blk0 m c t b u p hb hu hp, entry_lat]
  refine (lat_q _ _ _ b ⟨256 * u.val + R.val % 256, by omega⟩ ⟨512 * p.val + (128 * (R.val / 512) + d.val), by omega⟩).trans ?_
  rw [hq]
  have e1 : R.val / 512 = g.val := by omega
  have e2 : R.val % 256 = s.val := by omega
  have e3 : (512 * p.val + (128 * (R.val / 512) + d.val)) / 512 = p.val := by omega
  have e4 : (512 * p.val + (128 * (R.val / 512) + d.val)) / 32 % 2 = w.val := by rw [← h]; omega
  have e5 : (512 * p.val + (128 * (R.val / 512) + d.val)) / 128 % 4 = g.val := by omega
  have e6 : (512 * p.val + (128 * (R.val / 512) + d.val)) % 32 = d.val % 32 := by omega
  have e7 : (512 * p.val + (128 * (R.val / 512) + d.val)) / 64 % 2 = d.val / 64 % 2 := by omega
  congr 3 <;> (apply Fin.ext; dsimp only)
  · rw [e2]
  · rw [e3, e4, e5]; omega
  · rw [e6, e7]

include hk in
theorem lat_score (R : Fin 2048) (hR : R.val = 512 * g.val + 256 * w.val + s.val) (n : Fin 8192) :
    latScore (masked (iblk m c 0 t)) (iblk m c 1 t) R n
      = ((xLat q k b ⟨256 * u.val + s.val, by omega⟩ ⟨8 * p.val + 4 * w.val + g.val, by omega⟩ ⟨2 * p.val + w.val, by omega⟩ n * (Real.log 2)⁻¹ : ℝ) : EReal) := by
  have hkey : ∀ d : Fin 128, iblk m c 1 t (ix3 0 n d) = (k (ix4 b n ⟨2 * p.val + d.val / 32 % 2, by omega⟩ ⟨d.val % 32 * 2 + d.val / 64 % 2, by omega⟩) : EReal) := fun d => by
    rw [blk1 m c t b u p hb hp, entry_lat]
    rw [show (⟨128 * (8 + p.val) + d.val, by omega⟩ : Fin 1536) = ⟨1024 + (⟨128 * p.val + d.val, by omega⟩ : Fin 256).val, by dsimp only; omega⟩ from Fin.ext (by dsimp only; omega), lat_k, hk]
    congr 3 <;> (apply Fin.ext; dsimp only; omega)
  unfold latScore xLat
  refine masked_sum _ R (fun d => iblk m c 1 t (ix3 0 n d)) w.val (by omega) _ _ (fun d h => query m c t b u p hb hu hp q hq g w s d R hR h) (fun d h => (hkey d).trans ?_) (fun d => ⟨_, hkey d⟩)
  congr 4; omega

include hkc in
theorem ctx_score (R : Fin 2048) (hR : R.val = 512 * g.val + 256 * w.val + s.val) (n : Fin 256) :
    scoreC (masked (iblk m c 0 t)) (iblk m c 3 t) R n
      = ((xCtx q kc b ⟨256 * u.val + s.val, by omega⟩ ⟨8 * p.val + 4 * w.val + g.val, by omega⟩ ⟨2 * p.val + w.val, by omega⟩ n * (Real.log 2)⁻¹ : ℝ) : EReal) := by
  have hkey : ∀ d : Fin 128, iblk m c 3 t (ix3 0 n d) = (kc (ix4 b n ⟨2 * p.val + d.val / 32 % 2, by omega⟩ ⟨d.val % 32 * 2 + d.val / 64 % 2, by omega⟩) : EReal) := fun d => by
    rw [blk3 m c t b u p hb hp, entry_ctx]
    rw [show (⟨128 * (8 + p.val) + d.val, by omega⟩ : Fin 1536) = ⟨1024 + (⟨128 * p.val + d.val, by omega⟩ : Fin 256).val, by dsimp only; omega⟩ from Fin.ext (by dsimp only; omega), ctx_k, hkc]
    congr 3 <;> (apply Fin.ext; dsimp only; omega)
  unfold scoreC xCtx
  refine masked_sum _ R (fun d => iblk m c 3 t (ix3 0 n d)) w.val (by omega) _ _ (fun d h => query m c t b u p hb hu hp q hq g w s d R hR h) (fun d h => (hkey d).trans ?_) (fun d => ⟨_, hkey d⟩)
  congr 4; omega

include hk hkc in
/-- What a point leaves at row `s`, lane `j` of group `g`'s tile. -/
theorem out_row (j : Fin 512) :
    outAt m c t (ix3 0 s j)
      = rowAttn
        (fun n => (xLat q k b ⟨256 * u.val + s.val, by omega⟩ ⟨8 * p.val + 4 * (j.val / 64 % 2) + j.val / 128, by omega⟩ ⟨2 * p.val + j.val / 64 % 2, by omega⟩ n : EReal))
        (fun n => (xCtx q kc b ⟨256 * u.val + s.val, by omega⟩ ⟨8 * p.val + 4 * (j.val / 64 % 2) + j.val / 128, by omega⟩ ⟨2 * p.val + j.val / 64 % 2, by omega⟩ n : EReal))
        (fun n => (m ((c : Thread nD τ).loc main_arg2) : Vec Ideal S4x8192x4x64 .f32) (ix4 b n ⟨2 * p.val + j.val / 64 % 2, by omega⟩ ⟨j.val % 64, by omega⟩))
        (fun n => (m ((c : Thread nD τ).loc main_arg4) : Vec Ideal S4x256x4x64 .f32) (ix4 b n ⟨2 * p.val + j.val / 64 % 2, by omega⟩ ⟨j.val % 64, by omega⟩)) := by
  have hv : ∀ n, iblk m c 2 t (ix3 0 n ⟨j.val % 128, by omega⟩)
      = (m ((c : Thread nD τ).loc main_arg2) : Vec Ideal S4x8192x4x64 .f32) (ix4 b n ⟨2 * p.val + j.val / 64 % 2, by omega⟩ ⟨j.val % 64, by omega⟩) := fun n => by
    rw [blk2 m c t b u p hb hp, entry_lat]
    rw [show (⟨128 * (10 + p.val) + (⟨j.val % 128, by omega⟩ : Fin 128).val, by dsimp only; omega⟩ : Fin 1536) = ⟨1280 + (⟨128 * p.val + j.val % 128, by omega⟩ : Fin 256).val, by dsimp only; omega⟩ from Fin.ext (by dsimp only; omega), lat_v]
    congr 2 <;> (apply Fin.ext; dsimp only; omega)
  have hvc : ∀ n, iblk m c 4 t (ix3 0 n ⟨j.val % 128, by omega⟩)
      = (m ((c : Thread nD τ).loc main_arg4) : Vec Ideal S4x256x4x64 .f32) (ix4 b n ⟨2 * p.val + j.val / 64 % 2, by omega⟩ ⟨j.val % 64, by omega⟩) := fun n => by
    rw [blk4 m c t b u p hb hp, entry_ctx]
    rw [show (⟨128 * (10 + p.val) + (⟨j.val % 128, by omega⟩ : Fin 128).val, by dsimp only; omega⟩ : Fin 1536) = ⟨1280 + (⟨128 * p.val + j.val % 128, by omega⟩ : Fin 256).val, by dsimp only; omega⟩ from Fin.ext (by dsimp only; omega), ctx_v]
    congr 2 <;> (apply Fin.ext; dsimp only; omega)
  have hL := lat_score m c t b u p hb hu hp q k hq hk ⟨j.val / 128, by omega⟩ ⟨j.val / 64 % 2, by omega⟩ s ⟨512 * (j.val / 128) + 256 * (j.val % 128 / 64) + s.val, by omega⟩ (by dsimp only; omega)
  have hC := ctx_score m c t b u p hb hu hp q kc hq hkc ⟨j.val / 128, by omega⟩ ⟨j.val / 64 % 2, by omega⟩ s ⟨512 * (j.val / 128) + 256 * (j.val % 128 / 64) + s.val, by omega⟩ (by dsimp only; omega)
  simp only [← hv, ← hvc]
  by_cases h : isLow (bndT m c t)
  · obtain ⟨μ, hμ⟩ := lowRef_real m c t h
    rw [outAt_low m c t h, View.read_writes_junk_apply_eq_canon, low_value]
    exact low_row (bndT m c t) (iblk m c 0 t) (iblk m c 1 t) (iblk m c 2 t) (iblk m c 3 t) (iblk m c 4 t) _ _ _ μ hL hC hμ ⟨j.val % 128, by omega⟩
  · rw [outAt_high m c t h, View.read_writes_junk_apply_eq_canon, high_value]
    exact high_row_all (iblk m c 0 t) (iblk m c 1 t) (iblk m c 2 t) (iblk m c 3 t) (iblk m c 4 t) _ _ _ hL hC ⟨j.val % 128, by omega⟩

end Rows
end Cert.KernelIdeal.Attn
end
-- ==== Proof.AttnArr.lean ====
/-
  The attention region's result array from the blocks its grid points write, and the program's result from it.
-/
module

public import proofs.«01_k».proof.Proof.AttnPoint

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem Cert.Attn

variable (m : (ℓ : Loc nD τ sig) → Buf (Elt Ideal) ℓ) (g : Dev nD → PrngReg)

/-- The grid point that writes the block holding an element of the result. -/
def ptOf (b : Fin 4) (n : Fin 8192) (d : Fin 1024) : Fin cfg0.N :=
  ⟨64 * b.val + 32 * (d.val / 512) + n.val / 256, lt_of_lt_of_eq (by omega) N_0.symm⟩

/-- The region's result array: each element as the point that writes its block leaves it. -/
def arr (c : Dev nD) : Vec Ideal S4x8192x1024 .bf16 := fun i =>
  outAt m c (ptOf (i 0) (i 1) (i 2)) (ix3 0 ⟨(i 1).val % 256, Nat.mod_lt _ (by norm_num)⟩ ⟨(i 2).val % 512, Nat.mod_lt _ (by norm_num)⟩)

theorem flushed_eq (c : Dev nD) (t : Fin cfg0.N) :
    (dats m 0 c).flushed 6 t = ((cfg0.win 6).blk t).view.read (Elt Ideal) (arr m c) := by
  show (cfg0.win 6).cut (grid0.coords t) ((dats m 0 c).after 6 t) = _
  rw [after_6]
  have ht : t.val < 256 := lt_of_lt_of_eq t.isLt N_0
  have h := (index_facts t).2.2.2.2.2.2
  have e0 : win0_6.index t (0 : Fin 3) = t.val / 64 := congrFun h 0
  have e1 : win0_6.index t (1 : Fin 3) = t.val % 32 := congrFun h 1
  have e2 : win0_6.index t (2 : Fin 3) = t.val / 32 % 2 := congrFun h 2
  funext y
  have hy0 : (y 0).val < 1 := (y 0).isLt
  have hy1 : (y 1).val < 256 := (y 1).isLt
  have hy2 : (y 2).val < 512 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 256 + 1 * (y 1).val := rfl
  have hb2 : (((cfg0.win 6).blk t).view.emb y 2).val = win0_6.index t (2 : Fin 3) * 512 + 1 * (y 2).val := rfl
  show outAt m c t ((cfg0.win 6).xinj (grid0.coords t) y) = arr m c (((cfg0.win 6).blk t).view.emb y)
  have hp : ptOf (((cfg0.win 6).blk t).view.emb y 0) (((cfg0.win 6).blk t).view.emb y 1) (((cfg0.win 6).blk t).view.emb y 2) = t := by
    apply Fin.ext
    show 64 * (((cfg0.win 6).blk t).view.emb y 0).val + 32 * ((((cfg0.win 6).blk t).view.emb y 2).val / 512) + (((cfg0.win 6).blk t).view.emb y 1).val / 256 = t.val
    rw [hb0, hb1, hb2]
    omega
  have hl : (ix3 0 ⟨(((cfg0.win 6).blk t).view.emb y 1).val % 256, Nat.mod_lt _ (by norm_num)⟩ ⟨(((cfg0.win 6).blk t).view.emb y 2).val % 512, Nat.mod_lt _ (by norm_num)⟩ : S1x256x512.Idx)
      = (cfg0.win 6).xinj (grid0.coords t) y := by
    funext a; apply Fin.ext
    match a with
    | ⟨0, _⟩ => show 0 = (y 0).val; omega
    | ⟨1, _⟩ => show (((cfg0.win 6).blk t).view.emb y 1).val % 256 = (y 1).val; rw [hb1]; omega
    | ⟨2, _⟩ => show (((cfg0.win 6).blk t).view.emb y 2).val % 512 = (y 2).val; rw [hb2]; omega
  unfold arr
  rw [hp, hl]

theorem mem_block (t : Fin cfg0.N) (i : S4x8192x1024.Idx) :
    i ∈ ((cfg0.win 6).blk t).view.set ↔ ∀ a : Fin 3, win0_6.index t a * S1x256x512.size a ≤ (i a).val ∧ (i a).val < win0_6.index t a * S1x256x512.size a + S1x256x512.size a := by
  show i ∈ ((View.whole main_v25).slice (win0_6.rect t)).set ↔ _
  rw [View.set_slice_whole, Rect.mem_set_unit]
  exact Iff.rfl

/-- The blocks tile the array. -/
theorem array_eq (c : Dev nD) : (dats m 0 c).arrAt 6 cfg0.N = arr m c :=
  (dats m 0 c).arrAt_eq_of_cover 6 _ (fun t _ => flushed_eq m c t) (fun i => ⟨ptOf (i 0) (i 1) (i 2), flush0_6 _, by
    have hi0 : (i 0).val < 4 := (i 0).isLt
    have hi1 : (i 1).val < 8192 := (i 1).isLt
    have hi2 : (i 2).val < 1024 := (i 2).isLt
    have hv : (ptOf (i 0) (i 1) (i 2)).val = 64 * (i 0).val + 32 * ((i 2).val / 512) + (i 1).val / 256 := rfl
    have h := (index_facts (ptOf (i 0) (i 1) (i 2))).2.2.2.2.2.2
    have e0 : win0_6.index (ptOf (i 0) (i 1) (i 2)) (0 : Fin 3) = (ptOf (i 0) (i 1) (i 2)).val / 64 := congrFun h 0
    have e1 : win0_6.index (ptOf (i 0) (i 1) (i 2)) (1 : Fin 3) = (ptOf (i 0) (i 1) (i 2)).val % 32 := congrFun h 1
    have e2 : win0_6.index (ptOf (i 0) (i 1) (i 2)) (2 : Fin 3) = (ptOf (i 0) (i 1) (i 2)).val / 32 % 2 := congrFun h 2
    rw [hv] at e0 e1 e2
    rw [mem_block]
    intro a
    match a with
    | ⟨0, _⟩ => show win0_6.index (ptOf (i 0) (i 1) (i 2)) (0 : Fin 3) * 1 ≤ (i 0).val ∧ (i 0).val < win0_6.index (ptOf (i 0) (i 1) (i 2)) (0 : Fin 3) * 1 + 1; rw [e0]; omega
    | ⟨1, _⟩ => show win0_6.index (ptOf (i 0) (i 1) (i 2)) (1 : Fin 3) * 256 ≤ (i 1).val ∧ (i 1).val < win0_6.index (ptOf (i 0) (i 1) (i 2)) (1 : Fin 3) * 256 + 256; rw [e1]; omega
    | ⟨2, _⟩ => show win0_6.index (ptOf (i 0) (i 1) (i 2)) (2 : Fin 3) * 512 ≤ (i 2).val ∧ (i 2).val < win0_6.index (ptOf (i 0) (i 1) (i 2)) (2 : Fin 3) * 512 + 512; rw [e2]; omega⟩)

/-- The result array of the program: the region's, its columns put back by head. -/
theorem tail_value (c : Dev nD) : Pipeline.afterTail₀ cfgs (dats m) 0 (V0 m) [hostOps1] c main_v28 = outOf (arr m c) := by
  rw [← array_eq m c, ← Pipeline.Dat.withArrays_arrAt (dats m 0 c) sharedIn0 (V0 m c) (A_eq m c) 6]
  unfold Pipeline.afterTail₀
  simp only [hostOps1, List.flatten_cons, List.flatten_nil, List.append_nil, List.cons_append, List.nil_append, StableHlo.TRef.binary, StableHlo.TRef.unary, StableHlo.TRef.toBuf, StableHlo.TRef.ofBuf, cast_eq]
  after_results
  rfl

/-- The kernel's run: its result is `arr` put back by head, its arguments end unchanged. -/
theorem run : θ_run defs (onTc (τ := τ) (main (F := Ideal))) ⟨m, fun _ => 0, g⟩ (fun r => ∀ c : Dev nD,
      r.2.mem ((c.tc : Thread nD τ).loc main_v28) = outOf (arr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).2 main_v28 (Pipeline.mem_restRefs_of main_v28 (by decide) (by decide))).trans (tail_value m c), h.2.1 c⟩)
    (θ_run_and (run_main m g) (frame m g))

end Cert.KernelIdeal.Attn
end
-- ==== Proof.AttnRef.lean ====
/-
  The attention reference's result, element by element.
-/
module

public import proofs.«01_k».proof.Proof.Gen.ReferenceIdeal.Read
public import proofs.«01_k».proof.Proof.AttnDef

@[expose] public section
set_option maxRecDepth 16384
noncomputable section
namespace Cert.ReferenceIdeal.Attn
open Cert.ReferenceIdeal Cert.ReferenceIdeal.Gen Cert.ReferenceIdeal.Read Idealize.ShloMosaic Idealize.ShloMosaic.TcCoe Cert.Attn

variable (Q : Vec Ideal S4x8192x16x64 .f32) (K V : Vec Ideal S4x8192x4x64 .f32) (KC VC : Vec Ideal S4x256x4x64 .f32)
  (b G a : Fin 4) (n : Fin 8192)

/-- A query head's latent scores at a position. -/
def sL (t : Fin 8192) : EReal := val_main_v8 (F := Ideal) Q K (ix5 b G a n t)

/-- A query head's context scores at a position. -/
def sC (t : Fin 256) : EReal := val_main_v11 (F := Ideal) Q KC (ix5 b G a n t)

theorem lat_scores (t : Fin 8192) : sL Q K b G a n t
    = (∑ d, Q (ix4 b n ⟨G.val * 4 + a.val, by omega⟩ d) * K (ix4 b t G d)) * Ideal.ofBits .f32 0x3E000000#32 := by
  unfold sL
  pointwise [val_main_v8, val_main_v7, val_main_cst, val_main_v6, val_main_v2, val_main_v1, val_main_v0]

theorem ctx_scores (t : Fin 256) : sC Q KC b G a n t
    = (∑ d, Q (ix4 b n ⟨G.val * 4 + a.val, by omega⟩ d) * KC (ix4 b t G d)) * Ideal.ofBits .f32 0x3E000000#32 := by
  unfold sC
  pointwise [val_main_v11, val_main_v10, val_main_cst_0, val_main_v9, val_main_v4, val_main_v1, val_main_v0]

/-- A row of the joined scores: the latent ones, then the context ones. -/
theorem joined (x : Fin 8448) : val_main_v12 (F := Ideal) Q K KC (ix5 b G a n x)
    = if h : x.val < 8192 then sL Q K b G a n ⟨x.val, h⟩ else sC Q KC b G a n ⟨x.val - 8192, by omega⟩ := by
  unfold sL sC
  pointwise [val_main_v12]

/-- A maximum over the last axis, as a fold over it. -/
theorem reduce_row (X : Vec Ideal S4x4x4x8192x8448 .f32) (z : Vec Ideal S_ .f32) (i : S4x4x4x8192.Idx) :
    Host.reduce (FloatOps.maximumf (F := Ideal) (φ := .f32)) X z reducesTo_S4x4x4x8192x8448_S4x4x4x8192_d4 h_S_ i
      = Finset.univ.fold max (z (Shape.Idx.first h_S_)) (fun x : Fin 8448 => X (ix5 (i 0) (i 1) (i 2) (i 3) x)) := by
  pointwise []

/-- The largest score of a row. -/
theorem row_max : val_main_v15 (F := Ideal) Q K KC (ix4 b G a n) = rowMax (sL Q K b G a n) (sC Q KC b G a n) := by
  unfold rowMax
  rw [val_main_v15_apply, val_main_v14_apply, val_main_cst_2_apply]
  unfold val_main_v13
  rw [reduce_row]
  rw [val_main_cst_1_apply]
  exact congrArg (fun f => max bot32 (Finset.univ.fold max bot32 f)) (funext fun x => joined Q K KC b G a n x)

/-- The exponential of a latent score less the row's largest. -/
theorem exp_lat (t : Fin 8192) : val_main_v19 (F := Ideal) Q K KC (ix5 b G a n ⟨t.val, by omega⟩)
    = Ideal.exp (sL Q K b G a n t - rowMax (sL Q K b G a n) (sC Q KC b G a n)) := by
  rw [← row_max]
  unfold sL
  pointwise [val_main_v19, val_main_v18, val_main_v17, val_main_v16, val_main_v12]

/-- The exponential of a context score less the row's largest. -/
theorem exp_ctx (t : Fin 256) : val_main_v19 (F := Ideal) Q K KC (ix5 b G a n ⟨8192 + t.val, by omega⟩)
    = Ideal.exp (sC Q KC b G a n t - rowMax (sL Q K b G a n) (sC Q KC b G a n)) := by
  rw [← row_max]
  unfold sC
  pointwise [val_main_v19, val_main_v18, val_main_v17, val_main_v16, val_main_v12]

/-- The softmax's denominator of a row. -/
theorem row_sum : val_main_v20 (F := Ideal) Q K KC (ix4 b G a n) = rowSum (sL Q K b G a n) (sC Q KC b G a n) := by
  unfold rowSum
  simp only [← exp_lat, ← exp_ctx]
  pointwise [val_main_v20, val_main_cst_3]
  rw [← Equiv.sum_comp (finCongr (show 8192 + 256 = 8448 from rfl)), Fin.sum_univ_add]
  rfl

/-- The reference's result at one element: the attention of the element's query head over its key head. -/
theorem value_row (j : Fin 1024) (hG : j.val / 256 = G.val) (ha : j.val / 64 % 4 = a.val) : val_main_v31 (F := Ideal) Q K V KC VC (ix3 b n j)
    = rowAttn (sL Q K b G a n) (sC Q KC b G a n) (fun t => V (ix4 b t G ⟨j.val % 64, by omega⟩)) (fun t => VC (ix4 b t G ⟨j.val % 64, by omega⟩)) := by
  unfold rowAttn
  rw [← row_sum]
  simp only [← exp_lat, ← exp_ctx]
  have h4 : j.val / 256 < 4 := by clear hG; omega
  have h5 : j.val / 64 % 4 < 4 := by clear ha; omega
  obtain rfl : G = ⟨j.val / 256, h4⟩ := Fin.ext hG.symm
  obtain rfl : a = ⟨j.val / 64 % 4, h5⟩ := Fin.ext ha.symm
  pointwise [val_main_v31, val_main_v30, val_main_v29, val_main_v28, val_main_v27, val_main_v26, val_main_v25, val_main_v24, val_main_v23, val_main_v22, val_main_v21, val_main_v5, val_main_v3]

end Cert.ReferenceIdeal.Attn
end
-- ==== Proof.AttnClaim.lean ====
/-
  The attention call against its reference: where the queries and keys are real numbers, the kernel's result and the
  plain softmax attention agree element by element over the extended reals.
-/
module

public import proofs.«01_k».proof.Defs
public import proofs.«01_k».proof.Proof.AttnArr
public import proofs.«01_k».proof.Proof.AttnRef
public import proofs.«01_k».proof.Proof.AttnPre
public import proofs.«01_k».proof.Proof.Gen.ReferenceIdeal.Run

@[expose] public section
set_option maxRecDepth 16384
noncomputable section
namespace Cert.KernelIdeal.Attn
open Cert.KernelIdeal Cert.KernelIdeal.Gen Cert.KernelIdeal.Body Idealize.ShloMosaic Idealize.ShloMosaic.TcCoe Idealize.SL.Sem Cert.Attn

variable (m : (ℓ : Loc nD τ sig) → Buf (Elt Ideal) ℓ)

theorem eighth : Ideal.ofBits .f32 0x3E000000#32 = ((1 / 8 : ℝ) : EReal) := by
  simp [Ideal.ofBits, Ideal.ieee]
  rw [← EReal.coe_mul]
  norm_num

/-- A score of real queries and keys is real. -/
theorem score_real (x y : Fin 64 → EReal) (f g : Fin 64 → ℝ) (hx : ∀ d, x d = (f d : EReal)) (hy : ∀ d, y d = (g d : EReal)) :
    (∑ d, x d * y d) * Ideal.ofBits .f32 0x3E000000#32 = (((∑ d, f d * g d) * (1 / 8) : ℝ) : EReal) := by
  rw [eighth, EReal.coe_mul, coe_sum]
  congr 1
  exact Finset.sum_congr rfl fun d _ => by rw [EReal.coe_mul, ← hx, ← hy]

/-- Where a column of the region's result lies: which pair of key heads, query head of its group, key head and dimension. -/
theorem column (x y z w : ℕ) (hy : y < 4) (hz : z < 2) (hw : w < 64) :
    (x * 512 + y * 128 + z * 64 + w) / 512 = x ∧ (x * 512 + y * 128 + z * 64 + w) % 512 / 128 = y
      ∧ (x * 512 + y * 128 + z * 64 + w) % 512 / 64 % 2 = z ∧ (x * 512 + y * 128 + z * 64 + w) % 512 % 64 = w := by
  have h : (x * 512 + y * 128 + z * 64 + w) % 512 = y * 128 + z * 64 + w := by omega
  rw [h]
  refine ⟨by omega, by omega, by omega, by omega⟩

/-- The kernel's result at an element: the attention of the element's query head over its key head. -/
theorem result (c : Dev nD) (q : S4x8192x16x64.Idx → ℝ) (k : S4x8192x4x64.Idx → ℝ) (kc : S4x256x4x64.Idx → ℝ)
    (hq : ∀ i, (m ((c : Thread nD τ).loc main_arg0) : Vec Ideal S4x8192x16x64 .f32) i = (q i : EReal))
    (hk : ∀ i, (m ((c : Thread nD τ).loc main_arg1) : Vec Ideal S4x8192x4x64 .f32) i = (k i : EReal))
    (hkc : ∀ i, (m ((c : Thread nD τ).loc main_arg3) : Vec Ideal S4x256x4x64 .f32) i = (kc i : EReal))
    (b G a : Fin 4) (n : Fin 8192) (j : Fin 1024) (hG : j.val / 256 = G.val) (ha : j.val / 64 % 4 = a.val) :
    outOf (arr m c) (ix3 b n j)
      = rowAttn (fun t => (xLat q k b n ⟨G.val * 4 + a.val, by omega⟩ G t : EReal)) (fun t => (xCtx q kc b n ⟨G.val * 4 + a.val, by omega⟩ G t : EReal))
        (fun t => (m ((c : Thread nD τ).loc main_arg2) : Vec Ideal S4x8192x4x64 .f32) (ix4 b t G ⟨j.val % 64, by omega⟩))
        (fun t => (m ((c : Thread nD τ).loc main_arg4) : Vec Ideal S4x256x4x64 .f32) (ix4 b t G ⟨j.val % 64, by omega⟩)) := by
  rw [out_at]
  obtain ⟨c0, c1, c2, c3⟩ := column (j.val / 512) (j.val / 64 % 4) (j.val / 256 % 2) (j.val % 64) (by omega) (by omega) (by omega)
  have ht : (ptOf b n ⟨j.val / 512 * 512 + j.val / 64 % 4 * 128 + j.val / 256 % 2 * 64 + j.val % 64, by omega⟩).val
    = 64 * b.val + 32 * ((j.val / 512 * 512 + j.val / 64 % 4 * 128 + j.val / 256 % 2 * 64 + j.val % 64) / 512) + n.val / 256 := rfl
  refine (out_row m c (ptOf b n ⟨j.val / 512 * 512 + j.val / 64 % 4 * 128 + j.val / 256 % 2 * 64 + j.val % 64, by omega⟩) b ⟨n.val / 256, by omega⟩ ⟨j.val / 512, by omega⟩
    (by rw [ht]; omega) (by rw [ht]; dsimp only; omega) (by rw [ht]; dsimp only; omega) q k kc hq hk hkc ⟨n.val % 256, by omega⟩
    ⟨(j.val / 512 * 512 + j.val / 64 % 4 * 128 + j.val / 256 % 2 * 64 + j.val % 64) % 512, by omega⟩).trans ?_
  have e1 : (⟨256 * (⟨n.val / 256, by omega⟩ : Fin 32).val + (⟨n.val % 256, by omega⟩ : Fin 256).val, by dsimp only; omega⟩ : Fin 8192) = n := Fin.ext (by dsimp only; omega)
  congr 1 <;> funext t
  · congr 2 <;> first | exact e1 | (apply Fin.ext; dsimp only; simp only [c1, c2]; clear ht c0 c1 c2 c3 e1; omega)
  · congr 2 <;> first | exact e1 | (apply Fin.ext; dsimp only; simp only [c1, c2]; clear ht c0 c1 c2 c3 e1; omega)
  · congr 2 <;> (apply Fin.ext; dsimp only; simp only [c2, c3]; try (clear ht c0 c1 c2 c3 e1; omega))
  · congr 2 <;> (apply Fin.ext; dsimp only; simp only [c2, c3]; try (clear ht c0 c1 c2 c3 e1; omega))

/-- The two programs end with equal results. -/
theorem algebraic [Cert.Pre_scores_finite.Facts] : Cert.algebraic_KernelIdeal_ReferenceIdeal_pre_scores_finite := by
  intro m g m' g' hpre hagree
  refine ⟨fun c => outOf (arr m c), run m g, (θ_run _ _ _).mono (fun r h c => ⟨(h c).1.trans ?_, (h c).2⟩) (Cert.ReferenceIdeal.Value.run m' g')⟩
  obtain ⟨h0, h1, h3⟩ := Cert.Pre_scores_finite.real_args _ _ _ _ _ _ _ (hpre c)
  choose q hq using h0
  choose k hk using h1
  choose kc hkc using h3
  rw [Cert.ReferenceIdeal.Read.val_main_v31_eq, (hagree c).1, (hagree c).2.1, (hagree c).2.2.1, (hagree c).2.2.2.1, (hagree c).2.2.2.2.1]
  funext i
  rw [eq_ix3 i]
  refine (Cert.ReferenceIdeal.Attn.value_row _ _ _ _ _ (i 0) ⟨(i 2).val / 256, by have : (i 2).val < 1024 := (i 2).isLt; omega⟩ ⟨(i 2).val / 64 % 4, by omega⟩ (i 1) (i 2) rfl rfl).trans ?_
  refine Eq.trans ?_ (result m c q k kc hq hk hkc (i 0) ⟨(i 2).val / 256, by have : (i 2).val < 1024 := (i 2).isLt; omega⟩ ⟨(i 2).val / 64 % 4, by omega⟩ (i 1) (i 2) rfl rfl).symm
  congr 1 <;> funext t
  · exact (Cert.ReferenceIdeal.Attn.lat_scores _ _ _ _ _ _ t).trans (score_real _ _ _ _ (fun d => hq _) (fun d => hk _))
  · exact (Cert.ReferenceIdeal.Attn.ctx_scores _ _ _ _ _ _ t).trans (score_real _ _ _ _ (fun d => hq _) (fun d => hkc _))

end Cert.KernelIdeal.Attn
end
-- ==== Proof.CtxBody.lean ====
module

public import proofs.«01_k».proof.Proof.Gen.Kernel3Ideal.Frame
public import proofs.«01_k».proof.Proof.Gen.Kernel3Ideal.Skeleton
public import proofs.«01_k».proof.Proof.Gen.Kernel3Ideal.Points

/-!
The body of the feed-forward kernel that also carries the context rows, run once in each of its four cases.

A grid point is (expert, batch row, half of the hidden columns). At the first three batch rows the body works on the
row's own 1024 tokens, at the last one on those and the 128 context tokens below them. At the first half of the hidden
columns it leaves the half's product in the scratch accumulator, at the second half it adds the other half's product
and stores the sum into the output blocks. Every run below hands back what the case does not store into as it was,
and names its stores as pieces.
-/

@[expose] public section

set_option maxRecDepth 16384

noncomputable section

namespace Cert.Kernel3Ideal.Body

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is in the first half of the hidden columns, as the body computes it. -/
abbrev isFirst (i : grid0.Coords) : Prop := (Scalar.cmpi .ne (Scalar.extui (Scalar.cmpi .eq (BitVec.ofNat 32 (i 2).val) 0#32)) 0#32) = 1#1
/-- The point is strictly between the first and the last half, as the body computes it (there is none). -/
abbrev isMiddle (i : grid0.Coords) : Prop := (Scalar.cmpi .ne (Scalar.extui (Scalar.andi (Scalar.cmpi .sgt (BitVec.ofNat 32 (i 2).val) 0#32) (Scalar.cmpi .slt (BitVec.ofNat 32 (i 2).val) 1#32))) 0#32) = 1#1

set_option maxHeartbeats 4000000 in
/-- A first half at one of the first three batch rows: the product goes into the accumulator's first 1024 rows. -/
def runA (c : Dev nD) (i : grid0.Coords) (arg3 : Memref sig .tc .vmem S1x1x1024x1024 .bf16) (harg3 : arg3.IsWhole) (arg4 : Memref sig .tc .vmem S1x4x32x1024 .bf16) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1024x1024 .bf16) (harg8 : arg8.IsWhole) (arg9 : Memref sig .tc .vmem S1x4x32x1024 .bf16) (harg9 : arg9.IsWhole) (arg10 : Memref sig .tc .vmem S1152x1024 .f32) (harg10 : arg10.IsWhole) (h1 : k0_cond1 i = 1#1) (h5 : ¬k0_cond5 i = 1#1) (hf : isFirst i) (hm : ¬isMiddle i) (h4 : ¬k0_cond4 i = 1#1) (h8 : ¬k0_cond8 i = 1#1)
    (x0 : Vec F S1x1x1024x1024 .bf16) (x1 : Vec F S1x4x32x1024 .bf16) (x2 : Vec F S1x1x1024x1024 .f32) (x3 : Vec F S1x1x1024x1024 .f32) (x4 : Vec F S1x1x1024x1024 .f32) :
    { LS : List (View.Piece (Elt F) S1152x1024 .f32) //
      ∀ (xi5 : Vec F S1x1x1024x1024 .bf16) (xi6 : Vec F S1x4x32x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun xi5 xi6 E K => ?run⟩
  case run =>
    simp only [cc0__ffn_kernel_eq_skeleton]; unfold cc0__ffn_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6
    sl_exec (disch := first | sl_exact h1 | sl_exact h5 | sl_exact hf | sl_exact hm | sl_exact h4 | sl_exact h8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

set_option maxHeartbeats 4000000 in
/-- A second half at one of the first three batch rows: the sum goes into the token output. -/
def runB (c : Dev nD) (i : grid0.Coords) (arg3 : Memref sig .tc .vmem S1x1x1024x1024 .bf16) (harg3 : arg3.IsWhole) (arg4 : Memref sig .tc .vmem S1x4x32x1024 .bf16) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1024x1024 .bf16) (harg8 : arg8.IsWhole) (arg9 : Memref sig .tc .vmem S1x4x32x1024 .bf16) (harg9 : arg9.IsWhole) (arg10 : Memref sig .tc .vmem S1152x1024 .f32) (harg10 : arg10.IsWhole) (h1 : k0_cond1 i = 1#1) (h5 : ¬k0_cond5 i = 1#1) (hf : ¬isFirst i) (hm : ¬isMiddle i) (h4 : k0_cond4 i = 1#1) (h8 : k0_cond8 i = 1#1)
    (x0 : Vec F S1x1x1024x1024 .bf16) (x1 : Vec F S1x4x32x1024 .bf16) (x2 : Vec F S1x1x1024x1024 .f32) (x3 : Vec F S1x1x1024x1024 .f32) (x4 : Vec F S1x1x1024x1024 .f32) (xs : Vec F S1152x1024 .f32) :
    { L5 : List (View.Piece (Elt F) S1x1x1024x1024 .bf16) //
      ∀ (xi6 : Vec F S1x4x32x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare xi6 ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ owns (c : Thread nD τ) arg9 fullShare xi6 ∗ owns (c : Thread nD τ) arg10 fullShare xs) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun xi6 E K => ?run⟩
  case run =>
    simp only [cc0__ffn_kernel_eq_skeleton]; unfold cc0__ffn_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg9.eq_unread hf6; obtain rfl := harg10.eq_unread hfs
    sl_exec (disch := first | sl_exact h1 | sl_exact h5 | sl_exact hf | sl_exact hm | sl_exact h4 | sl_exact h8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]
    · iexists _; isplitr; · ipureintro; exact harg9.read_unread _
      iexact H6
    iexists _; isplitr; · ipureintro; exact harg10.read_unread _
    iexact HS

end Cert.Kernel3Ideal.Body

end
-- ==== Proof.CtxBodyLast.lean ====
module

public import proofs.«01_k».proof.Proof.Gen.Kernel3Ideal.Frame
public import proofs.«01_k».proof.Proof.Gen.Kernel3Ideal.Skeleton
public import proofs.«01_k».proof.Proof.Gen.Kernel3Ideal.Points
public import proofs.«01_k».proof.Proof.CtxBody

/-! The two cases at the last batch row, where the body also works on the context rows. -/

@[expose] public section

set_option maxRecDepth 16384

noncomputable section

namespace Cert.Kernel3Ideal.Body

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- A first half at the last batch row: the product goes into all of the accumulator. -/
def runC (c : Dev nD) (i : grid0.Coords) (arg3 : Memref sig .tc .vmem S1x1x1024x1024 .bf16) (harg3 : arg3.IsWhole) (arg4 : Memref sig .tc .vmem S1x4x32x1024 .bf16) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1024x1024 .bf16) (harg8 : arg8.IsWhole) (arg9 : Memref sig .tc .vmem S1x4x32x1024 .bf16) (harg9 : arg9.IsWhole) (arg10 : Memref sig .tc .vmem S1152x1024 .f32) (harg10 : arg10.IsWhole) (h1 : ¬k0_cond1 i = 1#1) (h5 : k0_cond5 i = 1#1) (hf : isFirst i) (hm : ¬isMiddle i) (h4 : ¬k0_cond4 i = 1#1) (h8 : ¬k0_cond8 i = 1#1)
    (x0 : Vec F S1x1x1024x1024 .bf16) (x1 : Vec F S1x4x32x1024 .bf16) (x2 : Vec F S1x1x1024x1024 .f32) (x3 : Vec F S1x1x1024x1024 .f32) (x4 : Vec F S1x1x1024x1024 .f32) :
    { LS : List (View.Piece (Elt F) S1152x1024 .f32) //
      ∀ (xi5 : Vec F S1x1x1024x1024 .bf16) (xi6 : Vec F S1x4x32x1024 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5 ∗ owns (c : Thread nD τ) arg9 fullShare xi6 ∗ (∃ f, arg10.view.loc (c : Thread nD τ) ↦[arg10.view.set]{fullShare} arg10.view.writes (Elt F) f LS)) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, fun xi5 xi6 E K => ?run⟩
  case run =>
    simp only [cc0__ffn_kernel_eq_skeleton]; unfold cc0__ffn_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg8.eq_unread hf5; obtain rfl := harg9.eq_unread hf6
    sl_exec (disch := first | sl_exact h1 | sl_exact h5 | sl_exact hf | sl_exact hm | sl_exact h4 | sl_exact h8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    iexists _; iexact HS

set_option maxHeartbeats 4000000 in
/-- A second half at the last batch row: the sum goes into the token and the context output. -/
def runD (c : Dev nD) (i : grid0.Coords) (arg3 : Memref sig .tc .vmem S1x1x1024x1024 .bf16) (harg3 : arg3.IsWhole) (arg4 : Memref sig .tc .vmem S1x4x32x1024 .bf16) (harg4 : arg4.IsWhole) (arg5 : Memref sig .tc .vmem S1x1x1024x1024 .f32) (harg5 : arg5.IsWhole) (arg6 : Memref sig .tc .vmem S1x1x1024x1024 .f32) (harg6 : arg6.IsWhole) (arg7 : Memref sig .tc .vmem S1x1x1024x1024 .f32) (harg7 : arg7.IsWhole) (arg8 : Memref sig .tc .vmem S1x1x1024x1024 .bf16) (harg8 : arg8.IsWhole) (arg9 : Memref sig .tc .vmem S1x4x32x1024 .bf16) (harg9 : arg9.IsWhole) (arg10 : Memref sig .tc .vmem S1152x1024 .f32) (harg10 : arg10.IsWhole) (h1 : ¬k0_cond1 i = 1#1) (h5 : k0_cond5 i = 1#1) (hf : ¬isFirst i) (hm : ¬isMiddle i) (h4 : k0_cond4 i = 1#1) (h8 : k0_cond8 i = 1#1)
    (x0 : Vec F S1x1x1024x1024 .bf16) (x1 : Vec F S1x4x32x1024 .bf16) (x2 : Vec F S1x1x1024x1024 .f32) (x3 : Vec F S1x1x1024x1024 .f32) (x4 : Vec F S1x1x1024x1024 .f32) (xs : Vec F S1152x1024 .f32) :
    Σ' (L5 : List (View.Piece (Elt F) S1x1x1024x1024 .bf16)), { L6 : List (View.Piece (Elt F) S1x4x32x1024 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ owns (c : Thread nD τ) arg10 fullShare xs
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f L6) ∗ owns (c : Thread nD τ) arg10 fullShare xs) -∗ K ⟨⟩))
          ⊢ wp frame (wpE (defs₀ (F := F)) Variants.none c none) E (cc0__ffn_kernel i arg3 harg3 arg4 harg4 arg5 harg5 arg6 harg6 arg7 harg7 arg8 harg8 arg9 harg9 arg10 harg10) K } := by
  refine ⟨?_, ?_, fun E K => ?run⟩
  case run =>
    simp only [cc0__ffn_kernel_eq_skeleton]; unfold cc0__ffn_kernel_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4
    obtain rfl := harg10.eq_unread hfs
    sl_exec (disch := first | sl_exact h1 | sl_exact h5 | sl_exact hf | sl_exact hm | sl_exact h4 | sl_exact h8)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [H6]; · iexists _; iexact H6
    iexists _; isplitr; · ipureintro; exact harg10.read_unread _
    iexact HS

end Cert.Kernel3Ideal.Body

end
-- ==== Proof.CtxRun.lean ====
module

public import proofs.«01_k».proof.Proof.Gen.Kernel3Ideal.Frame
public import proofs.«01_k».proof.Proof.Gen.Kernel3Ideal.Points
public import proofs.«01_k».proof.Proof.CtxBody
public import proofs.«01_k».proof.Proof.CtxBodyLast
public import Idealize.ShloMosaic.Lib.Claim

/-!
The run of the feed-forward kernel that also carries the context rows: the body obligation at every grid point,
the launch, and the frame.

Between a first half and the second half after it the scratch accumulator holds the first half's product in the rows
the case stored, whatever it held elsewhere; before a first half it may hold anything. The token output is stored at
the second halves, the context output at the last point of each expert; elsewhere they are handed back untouched.
-/

@[expose] public section

set_option maxRecDepth 16384

noncomputable section

namespace Cert.Kernel3Ideal.Body

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The cases in closed form -/

theorem first_iff : ∀ t : Fin cfg0.N, isFirst (grid0.coords t) ↔ t.val % 2 = 0 := by decide +kernel
theorem not_middle : ∀ t : Fin cfg0.N, ¬isMiddle (grid0.coords t) := by decide +kernel
theorem low_iff : ∀ t : Fin cfg0.N, k0_cond1 (grid0.coords t) = 1#1 ↔ t.val % 8 < 6 := by decide +kernel
theorem last_iff : ∀ t : Fin cfg0.N, k0_cond5 (grid0.coords t) = 1#1 ↔ 6 ≤ t.val % 8 := by decide +kernel
theorem second_iff : ∀ t : Fin cfg0.N, k0_cond4 (grid0.coords t) = 1#1 ↔ t.val % 2 = 1 := by decide +kernel
theorem second_last_iff : ∀ t : Fin cfg0.N, k0_cond8 (grid0.coords t) = 1#1 ↔ t.val % 2 = 1 := by decide +kernel

/-! ## The point's memrefs -/

abbrev ms0 (t : Fin cfg0.N) : Memref sig .tc .vmem S1x1x1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x4x32x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x1024x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x1024x1024 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1x1024x1024 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1x1024x1024 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x4x32x1024 .bf16 := win0_6.stage (cfg0.slots t 6)
abbrev hs6 (t : Fin cfg0.N) : (ms6 t).IsWhole := hstage0_6 ((cfg0.slots t 6).cast nbuf0_6)
abbrev sc0 : Memref sig .tc .vmem S1152x1024 .f32 := Memref.whole cc0_scratch0

/-- One staging buffer of each output, through which its contents are stated (which one does not matter). -/
abbrev VO5 : View sig .tc .vmem S1x1x1024x1024 .bf16 := (Memref.whole cc0_stg5_0 : Memref sig .tc .vmem S1x1x1024x1024 .bf16).view
abbrev VO6 : View sig .tc .vmem S1x4x32x1024 .bf16 := (Memref.whole cc0_stg6_0 : Memref sig .tc .vmem S1x4x32x1024 .bf16).view
abbrev VS : View sig .tc .vmem S1152x1024 .f32 := sc0.view

/-- The region's invariant with the scratch buffer as a memref held at some contents. -/
theorem PhiA_eq (c : Dev nD) :
    (Pipeline.ΦA spec0 c : sProp 𝕄)
      = iprop(iprop((∃ d, owns (c : Thread nD τ) sc0 fullShare d)) ∗ (∃ r, prngReg c r)) := by
  unfold Pipeline.ΦA; rw [scopedRest0_eq]; simp only [sc0, owns_whole]; try rfl

/-! ## What the body leaves -/

/-- Case A's run at point `t`. -/
abbrev atA (c : Dev nD) (t : Fin cfg0.N) (hl : t.val % 8 < 6) (hf : t.val % 2 = 0) :=
  runA c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) ((low_iff t).mpr hl) (fun h => by have := (last_iff t).mp h; omega) ((first_iff t).mpr hf) (not_middle t) (fun h => by have := (second_iff t).mp h; omega) (fun h => by have := (second_last_iff t).mp h; omega) (X0_0 m c t) (iblk m c 1 t) (iblk m c 2 t) (iblk m c 3 t) (iblk m c 4 t)

/-- Case B's run at point `t`. -/
abbrev atB (c : Dev nD) (t : Fin cfg0.N) (hl : t.val % 8 < 6) (hf : t.val % 2 = 1) (s : Vec F S1152x1024 .f32) :=
  runB c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) ((low_iff t).mpr hl) (fun h => by have := (last_iff t).mp h; omega) (fun h => by have := (first_iff t).mp h; omega) (not_middle t) ((second_iff t).mpr hf) ((second_last_iff t).mpr hf) (X0_0 m c t) (iblk m c 1 t) (iblk m c 2 t) (iblk m c 3 t) (iblk m c 4 t) s

/-- Case C's run at point `t`. -/
abbrev atC (c : Dev nD) (t : Fin cfg0.N) (hl : 6 ≤ t.val % 8) (hf : t.val % 2 = 0) :=
  runC c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) (fun h => by have := (low_iff t).mp h; omega) ((last_iff t).mpr hl) ((first_iff t).mpr hf) (not_middle t) (fun h => by have := (second_iff t).mp h; omega) (fun h => by have := (second_last_iff t).mp h; omega) (X0_0 m c t) (iblk m c 1 t) (iblk m c 2 t) (iblk m c 3 t) (iblk m c 4 t)

/-- Case D's run at point `t`. -/
abbrev atD (c : Dev nD) (t : Fin cfg0.N) (hl : 6 ≤ t.val % 8) (hf : t.val % 2 = 1) (s : Vec F S1152x1024 .f32) :=
  runD c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) (fun h => by have := (low_iff t).mp h; omega) ((last_iff t).mpr hl) (fun h => by have := (first_iff t).mp h; omega) (not_middle t) ((second_iff t).mpr hf) ((second_last_iff t).mpr hf) (X0_0 m c t) (iblk m c 1 t) (iblk m c 2 t) (iblk m c 3 t) (iblk m c 4 t) s

/-- The pieces a first half leaves in the accumulator (none after a second half). -/
def scr (c : Dev nD) (t : Fin cfg0.N) : List (View.Piece (Elt F) S1152x1024 .f32) :=
  if hf : t.val % 2 = 0 then
    if hl : t.val % 8 < 6 then (atA m c t hl hf).1 else (atC m c t (by omega) hf).1
  else []

theorem scr_A (c : Dev nD) (t : Fin cfg0.N) (hl : t.val % 8 < 6) (hf : t.val % 2 = 0) : scr m c t = (atA m c t hl hf).1 := by
  unfold scr; rw [dif_pos hf, dif_pos hl]
theorem scr_C (c : Dev nD) (t : Fin cfg0.N) (hl : 6 ≤ t.val % 8) (hf : t.val % 2 = 0) : scr m c t = (atC m c t hl hf).1 := by
  unfold scr; rw [dif_pos hf, dif_neg (by omega)]

/-- The point before. -/
abbrev prev (t : Fin cfg0.N) : Fin cfg0.N := ⟨t.val - 1, Nat.lt_of_le_of_lt (Nat.sub_le _ _) t.isLt⟩

/-- The accumulator as the point before left it, over contents that do not matter. -/
def held (c : Dev nD) (t : Fin cfg0.N) : Vec F S1152x1024 .f32 :=
  VS.read (Elt F) (VS.writes (Elt F) VS.junk (scr m c (prev t)))

/-- What the body leaves in the token output's buffer at point `t` (at a first half it leaves it alone). -/
def tokAt (c : Dev nD) (t : Fin cfg0.N) : Vec F S1x1x1024x1024 .bf16 :=
  if hf : t.val % 2 = 1 then
    if hl : t.val % 8 < 6 then VO5.read (Elt F) (VO5.writes (Elt F) VO5.junk (atB m c t hl hf (held m c t)).1)
    else VO5.read (Elt F) (VO5.writes (Elt F) VO5.junk (atD m c t (by omega) hf (held m c t)).1)
  else VO5.read (Elt F) VO5.junk

/-- What the body leaves in the context output's buffer at point `t` (it leaves it alone but at an expert's last point). -/
def ctxAt (c : Dev nD) (t : Fin cfg0.N) : Vec F S1x4x32x1024 .bf16 :=
  if h : 6 ≤ t.val % 8 ∧ t.val % 2 = 1 then VO6.read (Elt F) (VO6.writes (Elt F) VO6.junk (atD m c t h.1 h.2 (held m c t)).2.1)
  else VO6.read (Elt F) VO6.junk

theorem tokAt_B (c : Dev nD) (t : Fin cfg0.N) (hl : t.val % 8 < 6) (hf : t.val % 2 = 1) :
    tokAt m c t = VO5.read (Elt F) (VO5.writes (Elt F) VO5.junk (atB m c t hl hf (held m c t)).1) := by
  unfold tokAt; rw [dif_pos hf, dif_pos hl]
theorem tokAt_D (c : Dev nD) (t : Fin cfg0.N) (hl : 6 ≤ t.val % 8) (hf : t.val % 2 = 1) :
    tokAt m c t = VO5.read (Elt F) (VO5.writes (Elt F) VO5.junk (atD m c t hl hf (held m c t)).1) := by
  unfold tokAt; rw [dif_pos hf, dif_neg (by omega)]
theorem ctxAt_D (c : Dev nD) (t : Fin cfg0.N) (hl : 6 ≤ t.val % 8) (hf : t.val % 2 = 1) :
    ctxAt m c t = VO6.read (Elt F) (VO6.writes (Elt F) VO6.junk (atD m c t hl hf (held m c t)).2.1) := by
  unfold ctxAt; rw [dif_pos ⟨hl, hf⟩]

/-! ## The stores cover their blocks -/

theorem cover_B (c : Dev nD) (t : Fin cfg0.N) (hl : t.val % 8 < 6) (hf : t.val % 2 = 1) (s : Vec F S1152x1024 .f32) (y : S1x1x1024x1024.Idx) :
    ∃ pc ∈ (atB m c t hl hf s).1, y ∈ pc.1.set :=
  View.cover_of_tiledL (atB m c t hl hf s).1 S1x1x1024x1024.size (by sl_kernel_rfl) y
theorem cover_D5 (c : Dev nD) (t : Fin cfg0.N) (hl : 6 ≤ t.val % 8) (hf : t.val % 2 = 1) (s : Vec F S1152x1024 .f32) (y : S1x1x1024x1024.Idx) :
    ∃ pc ∈ (atD m c t hl hf s).1, y ∈ pc.1.set :=
  View.cover_of_tiledL (atD m c t hl hf s).1 S1x1x1024x1024.size (by sl_kernel_rfl) y
theorem cover_D6 (c : Dev nD) (t : Fin cfg0.N) (hl : 6 ≤ t.val % 8) (hf : t.val % 2 = 1) (s : Vec F S1152x1024 .f32) (y : S1x4x32x1024.Idx) :
    ∃ pc ∈ (atD m c t hl hf s).2.1, y ∈ pc.1.set :=
  View.cover_of_tiledL (atD m c t hl hf s).2.1 S1x4x32x1024.size (by sl_kernel_rfl) y

/-! ## A second half reads the accumulator only where the first half stored -/

abbrev rectTok : Rect S1152x1024 := Rect.unit (s := S1152x1024) ![0, 0] S1024x1024.size inb_S1152x1024_S1024x1024_0_0
abbrev rectAll : Rect S1152x1024 := Rect.unit (s := S1152x1024) ![0, 0] S1152x1024.size inb_S1152x1024_S1152x1024_0_0

theorem congr_B (c : Dev nD) (t : Fin cfg0.N) (hl : t.val % 8 < 6) (hf : t.val % 2 = 1) (s s' : Vec F S1152x1024 .f32)
    (h : sc0.view.readAt (Elt F) rectTok.toLoadRect ((Memref.isWhole_whole cc0_scratch0 : sc0.IsWhole).unread s)
      = sc0.view.readAt (Elt F) rectTok.toLoadRect ((Memref.isWhole_whole cc0_scratch0 : sc0.IsWhole).unread s')) :
    (atB m c t hl hf s).1 = (atB m c t hl hf s').1 := by
  dsimp only [atB, runB]
  rw [h]

theorem congr_D5 (c : Dev nD) (t : Fin cfg0.N) (hl : 6 ≤ t.val % 8) (hf : t.val % 2 = 1) (s s' : Vec F S1152x1024 .f32)
    (h : sc0.view.readAt (Elt F) rectAll.toLoadRect ((Memref.isWhole_whole cc0_scratch0 : sc0.IsWhole).unread s)
      = sc0.view.readAt (Elt F) rectAll.toLoadRect ((Memref.isWhole_whole cc0_scratch0 : sc0.IsWhole).unread s')) :
    (atD m c t hl hf s).1 = (atD m c t hl hf s').1 := by
  dsimp only [atD, runD]
  rw [h]

theorem congr_D6 (c : Dev nD) (t : Fin cfg0.N) (hl : 6 ≤ t.val % 8) (hf : t.val % 2 = 1) (s s' : Vec F S1152x1024 .f32)
    (h : sc0.view.readAt (Elt F) rectAll.toLoadRect ((Memref.isWhole_whole cc0_scratch0 : sc0.IsWhole).unread s)
      = sc0.view.readAt (Elt F) rectAll.toLoadRect ((Memref.isWhole_whole cc0_scratch0 : sc0.IsWhole).unread s')) :
    (atD m c t hl hf s).2.1 = (atD m c t hl hf s').2.1 := by
  dsimp only [atD, runD]
  rw [h]

/-- One piece over the rectangle a load reads: the load does not see what lay below. -/
theorem readAt_over (r : Rect S1152x1024) (L : List (View.Piece (Elt F) S1152x1024 .f32)) (p : View.Piece (Elt F) S1152x1024 .f32) (hp : p ∈ L) (hr : p.1 = r)
    (f g : VS.ty.Contents (Elt F)) :
    VS.readAt (Elt F) r.toLoadRect (VS.writes (Elt F) f L) = VS.readAt (Elt F) r.toLoadRect (VS.writes (Elt F) g L) := by
  have hc : ∀ j : r.toLoadRect.shape.Idx, ∃ q ∈ L, r.toLoadRect.idx j ∈ q.1.set := fun j => ⟨p, hp, by rw [hr]; exact LoadRect.idx_mem r.toLoadRect j⟩
  rw [View.readAt_writes_of_cover VS f L r.toLoadRect hc, View.readAt_writes_of_cover VS g L r.toLoadRect hc]

/-- What a memref over the whole buffer reads back is what it holds. -/
theorem unread_read (f : VS.ty.Contents (Elt F)) : (Memref.isWhole_whole cc0_scratch0 : sc0.IsWhole).unread (VS.read (Elt F) f) = f :=
  ((Memref.isWhole_whole cc0_scratch0 : sc0.IsWhole).eq_unread rfl).symm

theorem piece_A (c : Dev nD) (t : Fin cfg0.N) (hl : t.val % 8 < 6) (hf : t.val % 2 = 0) : ∃ p ∈ (atA m c t hl hf).1, p.1 = rectTok :=
  ⟨_, List.mem_singleton.mpr rfl, rfl⟩
theorem piece_C (c : Dev nD) (t : Fin cfg0.N) (hl : 6 ≤ t.val % 8) (hf : t.val % 2 = 0) : ∃ p ∈ (atC m c t hl hf).1, p.1 = rectAll :=
  ⟨_, List.mem_singleton.mpr rfl, rfl⟩

theorem held_tok (c : Dev nD) (t : Fin cfg0.N) (hl : t.val % 8 < 6) (hf : t.val % 2 = 1) (f : VS.ty.Contents (Elt F)) :
    sc0.view.readAt (Elt F) rectTok.toLoadRect ((Memref.isWhole_whole cc0_scratch0 : sc0.IsWhole).unread (VS.read (Elt F) (VS.writes (Elt F) f (scr m c (prev t)))))
      = sc0.view.readAt (Elt F) rectTok.toLoadRect ((Memref.isWhole_whole cc0_scratch0 : sc0.IsWhole).unread (held m c t)) := by
  unfold held
  rw [unread_read, unread_read]
  have hl' : (prev t).val % 8 < 6 := by dsimp only [prev]; omega
  have hf' : (prev t).val % 2 = 0 := by dsimp only [prev]; omega
  rw [scr_A m c (prev t) hl' hf']
  obtain ⟨p, hp, hr⟩ := piece_A m c (prev t) hl' hf'
  exact readAt_over rectTok _ p hp hr _ _

theorem held_all (c : Dev nD) (t : Fin cfg0.N) (hl : 6 ≤ t.val % 8) (hf : t.val % 2 = 1) (f : VS.ty.Contents (Elt F)) :
    sc0.view.readAt (Elt F) rectAll.toLoadRect ((Memref.isWhole_whole cc0_scratch0 : sc0.IsWhole).unread (VS.read (Elt F) (VS.writes (Elt F) f (scr m c (prev t)))))
      = sc0.view.readAt (Elt F) rectAll.toLoadRect ((Memref.isWhole_whole cc0_scratch0 : sc0.IsWhole).unread (held m c t)) := by
  unfold held
  rw [unread_read, unread_read]
  have hl' : 6 ≤ (prev t).val % 8 := by dsimp only [prev]; omega
  have hf' : (prev t).val % 2 = 0 := by dsimp only [prev]; omega
  rw [scr_C m c (prev t) hl' hf']
  obtain ⟨p, hp, hr⟩ := piece_C m c (prev t) hl' hf'
  exact readAt_over rectAll _ p hp hr _ _

/-- The outputs over any contents the accumulator may have held below the first half's pieces. -/
theorem tokAt_over (c : Dev nD) (t : Fin cfg0.N) (hl : t.val % 8 < 6) (hf : t.val % 2 = 1) (f : VS.ty.Contents (Elt F)) :
    tokAt m c t = VO5.read (Elt F) (VO5.writes (Elt F) VO5.junk (atB m c t hl hf (VS.read (Elt F) (VS.writes (Elt F) f (scr m c (prev t))))).1) :=
  (tokAt_B m c t hl hf).trans (congrArg (fun L => VO5.read (Elt F) (VO5.writes (Elt F) VO5.junk L)) (congr_B m c t hl hf _ _ (held_tok m c t hl hf f)).symm)
theorem tokAt_last_over (c : Dev nD) (t : Fin cfg0.N) (hl : 6 ≤ t.val % 8) (hf : t.val % 2 = 1) (f : VS.ty.Contents (Elt F)) :
    tokAt m c t = VO5.read (Elt F) (VO5.writes (Elt F) VO5.junk (atD m c t hl hf (VS.read (Elt F) (VS.writes (Elt F) f (scr m c (prev t))))).1) :=
  (tokAt_D m c t hl hf).trans (congrArg (fun L => VO5.read (Elt F) (VO5.writes (Elt F) VO5.junk L)) (congr_D5 m c t hl hf _ _ (held_all m c t hl hf f)).symm)
theorem ctxAt_over (c : Dev nD) (t : Fin cfg0.N) (hl : 6 ≤ t.val % 8) (hf : t.val % 2 = 1) (f : VS.ty.Contents (Elt F)) :
    ctxAt m c t = VO6.read (Elt F) (VO6.writes (Elt F) VO6.junk (atD m c t hl hf (VS.read (Elt F) (VS.writes (Elt F) f (scr m c (prev t))))).2.1) :=
  (ctxAt_D m c t hl hf).trans (congrArg (fun L => VO6.read (Elt F) (VO6.writes (Elt F) VO6.junk L)) (congr_D6 m c t hl hf _ _ (held_all m c t hl hf f)).symm)

/-! ## The pipeline's proof data -/

/-- The invariant before position `n`: the accumulator at anything before a first half, and with the first half's
    pieces written before a second half. -/
def PhiS (c : Dev nD) (n : ℕ) (hn : n ≤ cfg0.N) : sProp 𝕄 :=
  if h : n % 2 = 1 then
    iprop(iprop((∃ f, VS.loc (c : Thread nD τ) ↦[VS.set]{fullShare} VS.writes (Elt F) f (scr m c ⟨n - 1, by omega⟩))) ∗ (∃ r, prngReg c r))
  else Pipeline.ΦA spec0 c

theorem PhiS_even (c : Dev nD) (n : ℕ) (hn : n ≤ cfg0.N) (h : n % 2 = 0) : PhiS m c n hn = Pipeline.ΦA spec0 c := by
  unfold PhiS; rw [dif_neg (by omega)]
theorem PhiS_odd (c : Dev nD) (n : ℕ) (hn : n ≤ cfg0.N) (h : n % 2 = 1) : PhiS m c n hn
    = iprop(iprop((∃ f, VS.loc (c : Thread nD τ) ↦[VS.set]{fullShare} VS.writes (Elt F) f (scr m c ⟨n - 1, by omega⟩))) ∗ (∃ r, prngReg c r)) := by
  unfold PhiS; rw [dif_pos h]

/-- The arrays as the region finds them; every input's buffer at its block after the body, the outputs' at `tokAt` and `ctxAt`. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => tokAt m c t
    | ⟨6, _⟩ => ctxAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = tokAt m c t := by dsimp only [dats]
theorem after_6 (c : Dev nD) (t : Fin cfg0.N) : (dats m 0 c).after 6 t = ctxAt m c t := by dsimp only [dats]

theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

theorem live_0 (t : Fin cfg0.N) : cfg0.idle 0 (grid0.coords t) = false := rfl
theorem live_1 (t : Fin cfg0.N) : cfg0.idle 1 (grid0.coords t) = false := rfl
theorem live_2 (t : Fin cfg0.N) : cfg0.idle 2 (grid0.coords t) = false := rfl
theorem live_3 (t : Fin cfg0.N) : cfg0.idle 3 (grid0.coords t) = false := rfl
theorem live_4 (t : Fin cfg0.N) : cfg0.idle 4 (grid0.coords t) = false := rfl
theorem live_5 : ∀ t : Fin cfg0.N, t.val % 2 = 1 → cfg0.idle 5 (grid0.coords t) = false := by decide +kernel
theorem idle_5 : ∀ t : Fin cfg0.N, t.val % 2 = 0 → cfg0.idle 5 (grid0.coords t) = true := by decide +kernel
theorem live_6 : ∀ t : Fin cfg0.N, 6 ≤ t.val % 8 → t.val % 2 = 1 → cfg0.idle 6 (grid0.coords t) = false := by decide +kernel
theorem idle_6 : ∀ t : Fin cfg0.N, t.val % 8 < 7 → cfg0.idle 6 (grid0.coords t) = true := by decide +kernel
theorem noFlush_5 (t : Fin cfg0.N) (h : t.val % 2 = 0) : (cfg0.win 5).flush t = false :=
  Bool.eq_false_iff.mpr fun hf => by have := (flush0_5 t).mp hf; omega
theorem noFlush_6 (t : Fin cfg0.N) (h : t.val % 8 < 7) : (cfg0.win 6).flush t = false :=
  Bool.eq_false_iff.mpr fun hf => by have := (flush0_6 t).mp hf; omega

/-! ## The body obligation, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 3200000 in
/-- The body at any point: the inputs' memrefs hold their blocks, the point says which case runs, and the run of that
    case applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (ms0 t) fullShare ((dats m 0 c).after 0 t) from by
    unfold Dat.leavesExact; rw [live_0 t], after_0]
  rw [show (dats m 0 c).leavesExact 1 t = owns (c : Thread nD τ) (ms1 t) fullShare ((dats m 0 c).after 1 t) from by
    unfold Dat.leavesExact; rw [live_1 t], after_1]
  rw [show (dats m 0 c).leavesExact 2 t = owns (c : Thread nD τ) (ms2 t) fullShare ((dats m 0 c).after 2 t) from by
    unfold Dat.leavesExact; rw [live_2 t], after_2]
  rw [show (dats m 0 c).leavesExact 3 t = owns (c : Thread nD τ) (ms3 t) fullShare ((dats m 0 c).after 3 t) from by
    unfold Dat.leavesExact; rw [live_3 t], after_3]
  rw [show (dats m 0 c).leavesExact 4 t = owns (c : Thread nD τ) (ms4 t) fullShare ((dats m 0 c).after 4 t) from by
    unfold Dat.leavesExact; rw [live_4 t], after_4]
  rcases Nat.mod_two_eq_zero_or_one t.val with hf | hf
  · rcases Nat.lt_or_ge (t.val % 8) 6 with hl | hl
    · skip
      rw [Dat.leavesExact_idle (dats m 0 c) 5 t (idle_5 t hf) (noFlush_5 t hf)]
      rw [Dat.leavesExact_idle (dats m 0 c) 6 t (idle_6 t (by omega)) (noFlush_6 t (by omega))]
      rw [PhiS_even m c _ _ hf, PhiS_odd m c _ _ (show (t.val + 1) % 2 = 1 by omega), PhiA_eq]
      rw [show (⟨t.val + 1 - 1, by omega⟩ : Fin cfg0.N) = t from Fin.ext (Nat.add_sub_cancel _ _), scr_A m c t hl hf]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((atA m c t hl hf).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
    · skip
      rw [Dat.leavesExact_idle (dats m 0 c) 5 t (idle_5 t hf) (noFlush_5 t hf)]
      rw [Dat.leavesExact_idle (dats m 0 c) 6 t (idle_6 t (by omega)) (noFlush_6 t (by omega))]
      rw [PhiS_even m c _ _ hf, PhiS_odd m c _ _ (show (t.val + 1) % 2 = 1 by omega), PhiA_eq]
      rw [show (⟨t.val + 1 - 1, by omega⟩ : Fin cfg0.N) = t from Fin.ext (Nat.add_sub_cancel _ _), scr_C m c t hl hf]
      iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
      iapply ((atC m c t hl hf).2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS]; · iexact HS
      iintro ⟨H0, H1, H2, H3, H4, H5, H6, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexists _; iexact H5
      iexists _; iexact H6
  · rcases Nat.lt_or_ge (t.val % 8) 6 with hl | hl
    · rw [show (dats m 0 c).leavesExact 5 t = owns (c : Thread nD τ) (ms5 t) fullShare ((dats m 0 c).after 5 t) from by
      unfold Dat.leavesExact; rw [live_5 t hf], after_5]
      rw [Dat.leavesExact_idle (dats m 0 c) 6 t (idle_6 t (by omega)) (noFlush_6 t (by omega))]
      rw [PhiS_odd m c _ _ hf, PhiS_even m c _ _ (show (t.val + 1) % 2 = 0 by omega), PhiA_eq]
      iintro ⟨⟨⟨%f, HS⟩, Hg⟩, Ho, ⟨%d0, H0⟩, ⟨%d1, H1⟩, ⟨%d2, H2⟩, ⟨%d3, H3⟩, ⟨%d4, H4⟩, ⟨%d5, H5⟩, ⟨%d6, H6⟩⟩
      rw [tokAt_over m c t hl hf f]
      iapply ((atB m c t hl hf (VS.read (Elt F) (VS.writes (Elt F) f (scr m c (prev t))))).2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS]
      · unfold owns; iexists _; isplitr; swap; · iexact HS
        ipureintro; rfl
      iintro ⟨H0, H1, H2, H3, H4, ⟨%e5, H5⟩, H6, HS⟩
      isplitl [HS Hg]
      · isplitl [HS]; · iexists _; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_B m c t hl hf _)
      iexists _; iexact H6
    · rw [show (dats m 0 c).leavesExact 5 t = owns (c : Thread nD τ) (ms5 t) fullShare ((dats m 0 c).after 5 t) from by
      unfold Dat.leavesExact; rw [live_5 t hf], after_5]
      rw [show (dats m 0 c).leavesExact 6 t = owns (c : Thread nD τ) (ms6 t) fullShare ((dats m 0 c).after 6 t) from by
      unfold Dat.leavesExact; rw [live_6 t hl hf], after_6]
      rw [PhiS_odd m c _ _ hf, PhiS_even m c _ _ (show (t.val + 1) % 2 = 0 by omega), PhiA_eq]
      iintro ⟨⟨⟨%f, HS⟩, Hg⟩, Ho, ⟨%d0, H0⟩, ⟨%d1, H1⟩, ⟨%d2, H2⟩, ⟨%d3, H3⟩, ⟨%d4, H4⟩, ⟨%d5, H5⟩, ⟨%d6, H6⟩⟩
      rw [tokAt_last_over m c t hl hf f, ctxAt_over m c t hl hf f]
      iapply ((atD m c t hl hf (VS.read (Elt F) (VS.writes (Elt F) f (scr m c (prev t))))).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS]
      · unfold owns; iexists _; isplitr; swap; · iexact HS
        ipureintro; rfl
      iintro ⟨H0, H1, H2, H3, H4, ⟨%e5, H5⟩, ⟨%e6, H6⟩, HS⟩
      isplitl [HS Hg]
      · isplitl [HS]; · iexists _; iexact HS
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover_D5 m c t hl hf _)
      unfold owns; iexists _; isplitr
      swap; · iexact H6
      ipureintro; exact View.read_writes_of_cover _ _ _ _ _ (cover_D6 m c t hl hf _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point, -/
theorem hin (c : Dev nD) : Pipeline.ΦA spec0 c ⊢ (dats m 0 c).Φ 0 := by
  rw [show (dats m 0 c).Φ 0 = PhiS m c 0 (Nat.zero_le _) from rfl, PhiS_even m c 0 _ rfl]

/-- and the invariant after the last point is what the region gives back. -/
theorem hout (c : Dev nD) : (dats m 0 c).Φ (Fin.last cfg0.N) ⊢ Pipeline.ΦA spec0 c := by
  rw [show (dats m 0 c).Φ (Fin.last cfg0.N) = PhiS m c cfg0.N (le_refl _) from rfl, PhiS_even m c _ _ (by rw [show cfg0.N = 128 from N_0])]

/-! ## The run and the frame -/

set_option backward.isDefEq.respectTransparency.types false in
/-- The whole program's run: the pipeline's arrays at what its write-backs leave, every other buffer as the host lines
    leave it, every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: every argument array ends unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel3Ideal.Body

end
-- ==== Proof.CtxPoint.lean ====
/-
  One grid point of the feed-forward call that carries the context rows, over the extended reals: what the body's
  stores hold, element by element, from the blocks it reads.
-/
module

public import proofs.«01_k».proof.Defs
public import proofs.«01_k».proof.Proof.CtxRun
public import proofs.«01_k».proof.Proof.FfnValue
public import Idealize.ShloMosaic.Lib.Claim
public import Idealize.ShloMosaic.Lib.Tactic
public import Idealize.ShloMosaic.Lib.Pointwise
public import Idealize.ShloMosaic.Lib.Pipeline.ValueKit

@[expose] public section

set_option maxRecDepth 16384

noncomputable section

namespace Cert.Kernel3Ideal.Ctx

open Cert.Kernel3Ideal Cert.Kernel3Ideal.Gen Cert.Kernel3Ideal.Body Idealize.ShloMosaic Idealize.ShloMosaic.TcCoe Idealize.SL.Sem
open Cert.Kernel2Ideal.Ffn (gated sum_quarters sum_halves zeros2 zeros4)

/-- What one grid point adds to a row `x`'s result in column `j`: the row through the point's 1024 hidden columns. -/
def part (x : Fin 1024 → EReal) (a b w : Vec Ideal S1x1x1024x1024 .f32) (j : Fin 1024) : EReal :=
  ∑ k : Fin 1024, gated (∑ d : Fin 1024, x d * a (ix4 0 0 d k)) (∑ d : Fin 1024, x d * b (ix4 0 0 d k)) * w (ix4 0 0 k j)

/-- Row `r` of the point's own tokens. -/
def tokRow (x : Vec Ideal S1x1x1024x1024 .bf16) (r : Fin 1024) (d : Fin 1024) : EReal := x (ix4 0 0 r d)
/-- Row `q` of batch row `b`'s context. -/
def ctxRow (x : Vec Ideal S1x4x32x1024 .bf16) (b : Fin 4) (q : Fin 32) (d : Fin 1024) : EReal := x (ix4 0 b q d)
/-- Row `r` of the tokens and, below them, the context rows, as the body joins them. -/
def joinedRow (x : Vec Ideal S1x1x1024x1024 .bf16) (y : Vec Ideal S1x4x32x1024 .bf16) (r : Fin 1152) (d : Fin 1024) : EReal :=
  k0_pay13 (F := Ideal) x y (ix2 r d)

theorem joined_tok (x : Vec Ideal S1x1x1024x1024 .bf16) (y : Vec Ideal S1x4x32x1024 .bf16) (r : Fin 1024) :
    joinedRow x y ⟨r.val, by omega⟩ = tokRow x r := by
  funext d
  unfold joinedRow tokRow
  pointwise [k0_pay13]

theorem joined_ctx (x : Vec Ideal S1x1x1024x1024 .bf16) (y : Vec Ideal S1x4x32x1024 .bf16) (b : Fin 4) (q : Fin 32) :
    joinedRow x y ⟨1024 + (b.val * 32 + q.val), by omega⟩ = ctxRow y b q := by
  funext d
  unfold joinedRow ctxRow
  pointwise [k0_pay13]

section Point
variable (c : Dev nD) (i : grid0.Coords) (arg3 : Memref sig .tc .vmem S1x1x1024x1024 .bf16) (harg3 : arg3.IsWhole)
  (arg4 : Memref sig .tc .vmem S1x4x32x1024 .bf16) (harg4 : arg4.IsWhole)
  (arg5 : Memref sig .tc .vmem S1x1x1024x1024 .f32) (harg5 : arg5.IsWhole)
  (arg6 : Memref sig .tc .vmem S1x1x1024x1024 .f32) (harg6 : arg6.IsWhole)
  (arg7 : Memref sig .tc .vmem S1x1x1024x1024 .f32) (harg7 : arg7.IsWhole)
  (arg8 : Memref sig .tc .vmem S1x1x1024x1024 .bf16) (harg8 : arg8.IsWhole)
  (arg9 : Memref sig .tc .vmem S1x4x32x1024 .bf16) (harg9 : arg9.IsWhole)
  (arg10 : Memref sig .tc .vmem S1152x1024 .f32) (harg10 : arg10.IsWhole)
  (x0 : Vec Ideal S1x1x1024x1024 .bf16) (x1 : Vec Ideal S1x4x32x1024 .bf16) (x2 x3 x4 : Vec Ideal S1x1x1024x1024 .f32)

/-- A first half at one of the first three batch rows leaves its part of every token row in the accumulator. -/
theorem first_tok (h1 : k0_cond1 i = 1#1) (h5 : ¬k0_cond5 i = 1#1) (hf : isFirst i) (hm : ¬isMiddle i) (h4 : ¬k0_cond4 i = 1#1) (h8 : ¬k0_cond8 i = 1#1) (r j : Fin 1024) :
    VS.read (Elt Ideal) (VS.writes (Elt Ideal) VS.junk (runA c i arg3 harg3 arg4 harg4 arg5 harg5 arg6 harg6 arg7 harg7 arg8 harg8 arg9 harg9 arg10 harg10 h1 h5 hf hm h4 h8 x0 x1 x2 x3 x4).1) (ix2 ⟨r.val, by omega⟩ j)
      = part (tokRow x0 r) x2 x3 x4 j := by
  unfold runA
  dsimp only
  sl_unfold_words
  refine (View.read_writes_cons_hit_of_coords VS _ _ _ _ (ix2 r j) _ (by intro a; fin_cases a <;> simp)).trans ?_
  simp only [View.readAt_eq_ld, harg3.read_unread, harg4.read_unread, harg5.read_unread, harg6.read_unread, harg7.read_unread, harg10.read_unread,
    View.ld_unit_zero (S := S1x1x1024x1024) zeros4, View.ld_unit_zero (S := S1x4x32x1024) zeros4, View.ld_unit_zero (S := S1152x1024) zeros2, shapeCast_self]
  rw [part, sum_quarters]
  pointwise [k0_pay10, k0_pay9, k0_pay8, k0_pay7, k0_pay6, k0_pay5, k0_pay4, tokRow, gated]

/-- A second half there stores the accumulator plus its own part. -/
theorem second_tok (h1 : k0_cond1 i = 1#1) (h5 : ¬k0_cond5 i = 1#1) (hf : ¬isFirst i) (hm : ¬isMiddle i) (h4 : k0_cond4 i = 1#1) (h8 : k0_cond8 i = 1#1) (s : Vec Ideal S1152x1024 .f32) (r j : Fin 1024) :
    VO5.read (Elt Ideal) (VO5.writes (Elt Ideal) VO5.junk (runB c i arg3 harg3 arg4 harg4 arg5 harg5 arg6 harg6 arg7 harg7 arg8 harg8 arg9 harg9 arg10 harg10 h1 h5 hf hm h4 h8 x0 x1 x2 x3 x4 s).1) (ix4 0 0 r j)
      = s (ix2 ⟨r.val, by omega⟩ j) + part (tokRow x0 r) x2 x3 x4 j := by
  unfold runB
  dsimp only
  sl_unfold_words
  refine (View.read_writes_cons_hit_of_coords VO5 _ _ _ _ (ix4 0 0 r j) _ (by intro a; fin_cases a <;> simp)).trans ?_
  simp only [View.readAt_eq_ld, harg3.read_unread, harg4.read_unread, harg5.read_unread, harg6.read_unread, harg7.read_unread, harg10.read_unread,
    View.ld_unit_zero (S := S1x1x1024x1024) zeros4, View.ld_unit_zero (S := S1x4x32x1024) zeros4, View.ld_unit_zero (S := S1152x1024) zeros2, shapeCast_self]
  rw [part, sum_quarters]
  pointwise [k0_pay12, k0_pay9, k0_pay8, k0_pay7, k0_pay6, k0_pay5, k0_pay4, tokRow, gated]

/-- A first half at the last batch row leaves its part of every row, token and context, in the accumulator. -/
theorem first_all (h1 : ¬k0_cond1 i = 1#1) (h5 : k0_cond5 i = 1#1) (hf : isFirst i) (hm : ¬isMiddle i) (h4 : ¬k0_cond4 i = 1#1) (h8 : ¬k0_cond8 i = 1#1) (r : Fin 1152) (j : Fin 1024) :
    VS.read (Elt Ideal) (VS.writes (Elt Ideal) VS.junk (runC c i arg3 harg3 arg4 harg4 arg5 harg5 arg6 harg6 arg7 harg7 arg8 harg8 arg9 harg9 arg10 harg10 h1 h5 hf hm h4 h8 x0 x1 x2 x3 x4).1) (ix2 r j)
      = part (joinedRow x0 x1 r) x2 x3 x4 j := by
  unfold runC
  dsimp only
  sl_unfold_words
  refine (View.read_writes_cons_hit_of_coords VS _ _ _ _ (ix2 r j) _ (by intro a; fin_cases a <;> simp)).trans ?_
  simp only [View.readAt_eq_ld, harg3.read_unread, harg4.read_unread, harg5.read_unread, harg6.read_unread, harg7.read_unread, harg10.read_unread,
    View.ld_unit_zero (S := S1x1x1024x1024) zeros4, View.ld_unit_zero (S := S1x4x32x1024) zeros4, View.ld_unit_zero (S := S1152x1024) zeros2, shapeCast_self]
  rw [part, sum_quarters]
  pointwise [k0_pay19, k0_pay18, k0_pay17, k0_pay16, k0_pay15, k0_pay14, joinedRow, gated]

/-- A second half there stores the accumulator plus its own part: the token rows, -/
theorem second_last_tok (h1 : ¬k0_cond1 i = 1#1) (h5 : k0_cond5 i = 1#1) (hf : ¬isFirst i) (hm : ¬isMiddle i) (h4 : k0_cond4 i = 1#1) (h8 : k0_cond8 i = 1#1) (s : Vec Ideal S1152x1024 .f32) (r j : Fin 1024) :
    VO5.read (Elt Ideal) (VO5.writes (Elt Ideal) VO5.junk (runD c i arg3 harg3 arg4 harg4 arg5 harg5 arg6 harg6 arg7 harg7 arg8 harg8 arg9 harg9 arg10 harg10 h1 h5 hf hm h4 h8 x0 x1 x2 x3 x4 s).1) (ix4 0 0 r j)
      = s (ix2 ⟨r.val, by omega⟩ j) + part (joinedRow x0 x1 ⟨r.val, by omega⟩) x2 x3 x4 j := by
  unfold runD
  dsimp only
  sl_unfold_words
  refine (View.read_writes_cons_hit_of_coords VO5 _ _ _ _ (ix4 0 0 r j) _ (by intro a; fin_cases a <;> simp)).trans ?_
  simp only [View.readAt_eq_ld, harg3.read_unread, harg4.read_unread, harg5.read_unread, harg6.read_unread, harg7.read_unread, harg10.read_unread,
    View.ld_unit_zero (S := S1x1x1024x1024) zeros4, View.ld_unit_zero (S := S1x4x32x1024) zeros4, View.ld_unit_zero (S := S1152x1024) zeros2, shapeCast_self]
  rw [part, sum_quarters]
  pointwise [k0_pay2, k0_pay1, k0_pay18, k0_pay17, k0_pay16, k0_pay15, k0_pay14, joinedRow, gated]

/-- and the context rows. -/
theorem second_last_ctx (h1 : ¬k0_cond1 i = 1#1) (h5 : k0_cond5 i = 1#1) (hf : ¬isFirst i) (hm : ¬isMiddle i) (h4 : k0_cond4 i = 1#1) (h8 : k0_cond8 i = 1#1) (s : Vec Ideal S1152x1024 .f32) (b : Fin 4) (q : Fin 32) (j : Fin 1024) :
    VO6.read (Elt Ideal) (VO6.writes (Elt Ideal) VO6.junk (runD c i arg3 harg3 arg4 harg4 arg5 harg5 arg6 harg6 arg7 harg7 arg8 harg8 arg9 harg9 arg10 harg10 h1 h5 hf hm h4 h8 x0 x1 x2 x3 x4 s).2.1) (ix4 0 b q j)
      = s (ix2 ⟨1024 + (b.val * 32 + q.val), by omega⟩ j) + part (joinedRow x0 x1 ⟨1024 + (b.val * 32 + q.val), by omega⟩) x2 x3 x4 j := by
  unfold runD
  dsimp only
  sl_unfold_words
  refine (View.read_writes_cons_hit_of_coords VO6 _ _ _ _ (ix4 0 b q j) _ (by intro a; fin_cases a <;> simp)).trans ?_
  simp only [View.readAt_eq_ld, harg3.read_unread, harg4.read_unread, harg5.read_unread, harg6.read_unread, harg7.read_unread, harg10.read_unread,
    View.ld_unit_zero (S := S1x1x1024x1024) zeros4, View.ld_unit_zero (S := S1x4x32x1024) zeros4, View.ld_unit_zero (S := S1152x1024) zeros2, shapeCast_self]
  rw [part, sum_quarters]
  pointwise [k0_pay3, k0_pay1, k0_pay18, k0_pay17, k0_pay16, k0_pay15, k0_pay14, joinedRow, gated]

end Point

end Cert.Kernel3Ideal.Ctx

end
-- ==== Proof.CtxValue.lean ====
/-
  The value of the feed-forward call that carries the context rows: what each grid point leaves in the two output
  buffers, read off the arguments. Each expert has eight grid points, two for each batch row, one for each half of the
  2048 hidden columns; the last two also take the 128 context rows of all four batch rows.
-/
module

public import proofs.«01_k».proof.Proof.CtxPoint

@[expose] public section

set_option maxRecDepth 16384

noncomputable section

namespace Cert.Kernel3Ideal.Ctx

open Cert.Kernel3Ideal Cert.Kernel3Ideal.Gen Cert.Kernel3Ideal.Body Idealize.ShloMosaic Idealize.ShloMosaic.TcCoe Idealize.SL.Sem
open Cert.Kernel2Ideal.Ffn (gated sum_quarters sum_halves zeros2 zeros4)

variable (m : (ℓ : Loc nD τ sig) → Buf (Elt Ideal) ℓ)

/-! ## The blocks a point reads -/

/-- Point `t` works on expert `t / 8`, batch row `t / 2 mod 4` and half `t mod 2` of the hidden columns. -/
theorem index_facts : ∀ t : Fin cfg0.N, win0_0.index t = ![t.val / 8, t.val / 2 % 4, 0, 0]
    ∧ win0_1.index t = ![t.val / 8, 0, 0, 0]
    ∧ win0_2.index t = ![1, t.val / 8, 0, t.val % 2] ∧ win0_3.index t = ![1, t.val / 8, 0, t.val % 2]
    ∧ win0_4.index t = ![1, t.val / 8, t.val % 2, 0]
    ∧ win0_5.index t = ![t.val / 8, t.val / 2 % 4, 0, 0] ∧ win0_6.index t = ![t.val / 8, 0, 0, 0] := by
  decide +kernel

theorem blk2 (c : Dev nD) (t : Fin cfg0.N) (e : Fin 16) (f : Fin 2) (he : t.val / 8 = e.val) (hf : t.val % 2 = f.val) (d k : Fin 1024) :
    iblk m c 2 t (ix4 0 0 d k) = m ((c : Thread nD τ).loc main_arg2) (ix4 1 e d ⟨1024 * f.val + k.val, by omega⟩) := by
  have h := (index_facts t).2.2.1
  rw [he, hf] at h
  blk_ext [iblk, V_main_arg2, h]

theorem blk3 (c : Dev nD) (t : Fin cfg0.N) (e : Fin 16) (f : Fin 2) (he : t.val / 8 = e.val) (hf : t.val % 2 = f.val) (d k : Fin 1024) :
    iblk m c 3 t (ix4 0 0 d k) = m ((c : Thread nD τ).loc main_arg3) (ix4 1 e d ⟨1024 * f.val + k.val, by omega⟩) := by
  have h := (index_facts t).2.2.2.1
  rw [he, hf] at h
  blk_ext [iblk, V_main_arg3, h]

theorem blk4 (c : Dev nD) (t : Fin cfg0.N) (e : Fin 16) (f : Fin 2) (he : t.val / 8 = e.val) (hf : t.val % 2 = f.val) (k j : Fin 1024) :
    iblk m c 4 t (ix4 0 0 k j) = m ((c : Thread nD τ).loc main_arg4) (ix4 1 e ⟨1024 * f.val + k.val, by omega⟩ j) := by
  have h := (index_facts t).2.2.2.2.1
  rw [he, hf] at h
  blk_ext [iblk, V_main_arg4, h]

/-- The token rows as the call finds them: transposed to expert first, with 64 rows of padding below. -/
theorem rows_entry (c : Dev nD) (e : Fin 16) (b : Fin 4) (r : Fin 1088) (d : Fin 1024) (hr : r.val < 1024) :
    V m c main_v2 (ix4 e b r d) = m ((c : Thread nD τ).loc main_arg0) (ix4 b e ⟨r.val, hr⟩ d) := by
  have h : V m c main_v2 = truncf .bf16 (pad S16x4x1088x1024 ![0, 0, 0, 0] ![0, 0, 64, 0] ![0, 0, 0, 0]
      (transpose S16x4x1024x1024 [1, 0, 2, 3] (m ((c : Thread nD τ).loc main_arg0)) transposes_S4x16x1024x1024_S16x4x1024x1024_1_0_2_3)
      (sitofp (F := Ideal) .f32 (constantI S_ 32 0#32)) pads_S16x4x1024x1024_S16x4x1088x1024_000_000_0640_000 h_S_) bitsLt_bf16_f32 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results
  rw [h]
  pointwise
  exact dif_pos hr

/-- The context rows as the call finds them: transposed to expert first, with 64 rows of padding below. -/
theorem context_entry (c : Dev nD) (e : Fin 16) (b : Fin 4) (q : Fin 96) (d : Fin 1024) (hq : q.val < 32) :
    V m c main_v5 (ix4 e b q d) = m ((c : Thread nD τ).loc main_arg1) (ix4 b e ⟨q.val, hq⟩ d) := by
  have h : V m c main_v5 = truncf .bf16 (pad S16x4x96x1024 ![0, 0, 0, 0] ![0, 0, 64, 0] ![0, 0, 0, 0]
      (transpose S16x4x32x1024 [1, 0, 2, 3] (m ((c : Thread nD τ).loc main_arg1)) transposes_S4x16x32x1024_S16x4x32x1024_1_0_2_3)
      (sitofp (F := Ideal) .f32 (constantI S_ 32 0#32)) pads_S16x4x32x1024_S16x4x96x1024_000_000_0640_000 h_S_) bitsLt_bf16_f32 := by
    simp only [V, hostOps0, hostOps0_1, hostOps0_2, hostOps0_3, hostOps0_4, List.flatten_cons, List.flatten_nil, List.append_nil, List.cons_append,
      List.nil_append, StableHlo.TRef.binary, StableHlo.TRef.unary, StableHlo.TRef.toBuf, StableHlo.TRef.ofBuf, cast_eq]
    after_results
  rw [h]
  pointwise
  exact dif_pos hq

/-- Row `r` of the tokens of expert `e`, batch row `b`. -/
def tokens (c : Dev nD) (e : Fin 16) (b : Fin 4) (r : Fin 1024) (d : Fin 1024) : EReal := m ((c : Thread nD τ).loc main_arg0) (ix4 b e r d)
/-- Context row `q` of expert `e`, batch row `b`. -/
def context (c : Dev nD) (e : Fin 16) (b : Fin 4) (q : Fin 32) (d : Fin 1024) : EReal := m ((c : Thread nD τ).loc main_arg1) (ix4 b e q d)

theorem blk0 (c : Dev nD) (t : Fin cfg0.N) (e : Fin 16) (b : Fin 4) (he : t.val / 8 = e.val) (hb : t.val / 2 % 4 = b.val) (r : Fin 1024) :
    tokRow (X0_0 m c t) r = tokens m c e b r := by
  have h := (index_facts t).1
  rw [he, hb] at h
  funext d
  unfold tokRow tokens X0_0 Pipeline.Window.fill
  rw [dif_pos (moved0_0 t _)]
  refine Eq.trans ?_ (rows_entry m c e b ⟨r.val, by omega⟩ d r.isLt)
  blk_ext [iblk, h]

theorem blk1 (c : Dev nD) (t : Fin cfg0.N) (e : Fin 16) (he : t.val / 8 = e.val) (b : Fin 4) (q : Fin 32) :
    ctxRow (iblk m c 1 t) b q = context m c e b q := by
  have h := (index_facts t).2.1
  rw [he] at h
  funext d
  unfold ctxRow context
  refine Eq.trans ?_ (context_entry m c e b ⟨q.val, by omega⟩ d q.isLt)
  blk_ext [iblk, h]

/-! ## The two halves of a row's result -/

/-- The feed-forward result of a row `x` at expert `e`, column `j`. -/
def ffn (x : Fin 1024 → EReal) (w1 w3 : Vec Ideal S4x16x1024x2048 .f32) (w2 : Vec Ideal S4x16x2048x1024 .f32) (e : Fin 16) (j : Fin 1024) : EReal :=
  ∑ k : Fin 2048, gated (∑ d : Fin 1024, x d * w1 (ix4 1 e d k)) (∑ d : Fin 1024, x d * w3 (ix4 1 e d k)) * w2 (ix4 1 e k j)

/-- Its half `f`: hidden columns `1024 f` to `1024 f + 1023`. -/
def half (x : Fin 1024 → EReal) (w1 w3 : Vec Ideal S4x16x1024x2048 .f32) (w2 : Vec Ideal S4x16x2048x1024 .f32) (e : Fin 16) (f : Fin 2) (j : Fin 1024) : EReal :=
  ∑ k : Fin 1024, gated (∑ d : Fin 1024, x d * w1 (ix4 1 e d ⟨1024 * f.val + k.val, by omega⟩))
      (∑ d : Fin 1024, x d * w3 (ix4 1 e d ⟨1024 * f.val + k.val, by omega⟩))
    * w2 (ix4 1 e ⟨1024 * f.val + k.val, by omega⟩ j)

theorem half_add_half (x : Fin 1024 → EReal) (w1 w3 : Vec Ideal S4x16x1024x2048 .f32) (w2 : Vec Ideal S4x16x2048x1024 .f32) (e : Fin 16) (j : Fin 1024) :
    half x w1 w3 w2 e 0 j + half x w1 w3 w2 e 1 j = ffn x w1 w3 w2 e j := by
  unfold ffn half
  rw [sum_halves]
  refine congrArg₂ (· + ·) (Finset.sum_congr rfl fun k _ => ?_) (Finset.sum_congr rfl fun k _ => ?_)
  · have h : (⟨1024 * (0 : Fin 2).val + k.val, by omega⟩ : Fin 2048) = ⟨k.val, by omega⟩ := Fin.ext (by simp)
    rw [h]
  · have h : (⟨1024 * (1 : Fin 2).val + k.val, by omega⟩ : Fin 2048) = ⟨1024 + k.val, by omega⟩ := Fin.ext (by simp)
    rw [h]

/-- The result of a row, with the call's own weights. -/
def out (c : Dev nD) (x : Fin 1024 → EReal) (e : Fin 16) (j : Fin 1024) : EReal :=
  ffn x (m ((c : Thread nD τ).loc main_arg2)) (m ((c : Thread nD τ).loc main_arg3)) (m ((c : Thread nD τ).loc main_arg4)) e j
/-- Half of it. -/
def outHalf (c : Dev nD) (x : Fin 1024 → EReal) (e : Fin 16) (f : Fin 2) (j : Fin 1024) : EReal :=
  half x (m ((c : Thread nD τ).loc main_arg2)) (m ((c : Thread nD τ).loc main_arg3)) (m ((c : Thread nD τ).loc main_arg4)) e f j

theorem out_halves (c : Dev nD) (x : Fin 1024 → EReal) (e : Fin 16) (j : Fin 1024) :
    outHalf m c x e 0 j + outHalf m c x e 1 j = out m c x e j := half_add_half x _ _ _ e j

/-- A point's part, with the weights read off the arguments. -/
theorem part_blocks (c : Dev nD) (t : Fin cfg0.N) (x : Fin 1024 → EReal) (e : Fin 16) (f : Fin 2) (he : t.val / 8 = e.val) (hf : t.val % 2 = f.val) (j : Fin 1024) :
    part x (iblk m c 2 t) (iblk m c 3 t) (iblk m c 4 t) j = outHalf m c x e f j := by
  unfold part outHalf half
  refine Finset.sum_congr rfl fun k _ => ?_
  rw [blk4 m c t e f he hf]
  congr 2
  · exact Finset.sum_congr rfl fun d _ => by rw [blk2 m c t e f he hf]
  · exact Finset.sum_congr rfl fun d _ => by rw [blk3 m c t e f he hf]

/-! ## What the accumulator holds before a second half -/

/-- Before the second half of a batch row other than the last: the first half of each token row. -/
theorem held_tok_value (c : Dev nD) (t : Fin cfg0.N) (hl : t.val % 8 < 6) (hf : t.val % 2 = 1) (e : Fin 16) (b : Fin 4) (he : t.val / 8 = e.val)
    (hb : t.val / 2 % 4 = b.val) (r j : Fin 1024) :
    held m c t (ix2 ⟨r.val, by omega⟩ j) = outHalf m c (tokens m c e b r) e 0 j := by
  have h1 : (prev t).val % 8 < 6 := by dsimp only [prev]; omega
  have h2 : (prev t).val % 2 = 0 := by dsimp only [prev]; omega
  have he' : (prev t).val / 8 = e.val := by dsimp only [prev]; omega
  have hb' : (prev t).val / 2 % 4 = b.val := by dsimp only [prev]; omega
  unfold held
  rw [scr_A m c (prev t) h1 h2]
  dsimp only [atA]
  rw [first_tok, blk0 m c (prev t) e b he' hb', part_blocks m c (prev t) _ e 0 he' h2]

/-- Before the second half of the last batch row: the first half of each joined row. -/
theorem held_all_value (c : Dev nD) (t : Fin cfg0.N) (hl : 6 ≤ t.val % 8) (hf : t.val % 2 = 1) (e : Fin 16) (he : t.val / 8 = e.val)
    (r : Fin 1152) (j : Fin 1024) :
    held m c t (ix2 r j) = outHalf m c (joinedRow (X0_0 m c (prev t)) (iblk m c 1 (prev t)) r) e 0 j := by
  have h1 : 6 ≤ (prev t).val % 8 := by dsimp only [prev]; omega
  have h2 : (prev t).val % 2 = 0 := by dsimp only [prev]; omega
  have he' : (prev t).val / 8 = e.val := by dsimp only [prev]; omega
  unfold held
  rw [scr_C m c (prev t) h1 h2]
  dsimp only [atC]
  rw [first_all, part_blocks m c (prev t) _ e 0 he' h2]

/-! ## What the two output buffers hold after a second half -/

theorem token_block_early (c : Dev nD) (t : Fin cfg0.N) (hl : t.val % 8 < 6) (hf : t.val % 2 = 1) (e : Fin 16) (b : Fin 4) (he : t.val / 8 = e.val)
    (hb : t.val / 2 % 4 = b.val) (r j : Fin 1024) :
    tokAt m c t (ix4 0 0 r j) = out m c (tokens m c e b r) e j := by
  rw [tokAt_B m c t hl hf]
  dsimp only [atB]
  rw [second_tok, held_tok_value m c t hl hf e b he hb, blk0 m c t e b he hb, part_blocks m c t _ e 1 he hf, out_halves]

theorem token_block_last (c : Dev nD) (t : Fin cfg0.N) (hl : 6 ≤ t.val % 8) (hf : t.val % 2 = 1) (e : Fin 16) (b : Fin 4) (he : t.val / 8 = e.val)
    (hb : t.val / 2 % 4 = b.val) (r j : Fin 1024) :
    tokAt m c t (ix4 0 0 r j) = out m c (tokens m c e b r) e j := by
  have he' : (prev t).val / 8 = e.val := by dsimp only [prev]; omega
  have hb' : (prev t).val / 2 % 4 = b.val := by dsimp only [prev]; omega
  rw [tokAt_D m c t hl hf]
  dsimp only [atD]
  rw [second_last_tok, held_all_value m c t hl hf e he, joined_tok, joined_tok, blk0 m c t e b he hb, blk0 m c (prev t) e b he' hb',
    part_blocks m c t _ e 1 he hf, out_halves]

theorem token_block (c : Dev nD) (t : Fin cfg0.N) (hf : t.val % 2 = 1) (e : Fin 16) (b : Fin 4) (he : t.val / 8 = e.val)
    (hb : t.val / 2 % 4 = b.val) (r j : Fin 1024) :
    tokAt m c t (ix4 0 0 r j) = out m c (tokens m c e b r) e j := by
  by_cases hl : t.val % 8 < 6
  · exact token_block_early m c t hl hf e b he hb r j
  · exact token_block_last m c t (by omega) hf e b he hb r j

theorem context_block (c : Dev nD) (t : Fin cfg0.N) (hl : t.val % 8 = 7) (e : Fin 16) (he : t.val / 8 = e.val) (b : Fin 4) (q : Fin 32) (j : Fin 1024) :
    ctxAt m c t (ix4 0 b q j) = out m c (context m c e b q) e j := by
  have he' : (prev t).val / 8 = e.val := by dsimp only [prev]; omega
  have hf : t.val % 2 = 1 := by omega
  rw [ctxAt_D m c t (by omega) hf]
  dsimp only [atD]
  rw [second_last_ctx, held_all_value m c t (by omega) hf e he, joined_ctx, joined_ctx, blk1 m c t e he, blk1 m c (prev t) e he',
    part_blocks m c t _ e 1 he hf, out_halves]

end Cert.Kernel3Ideal.Ctx

end
-- ==== Proof.CtxClaim.lean ====
/-
  The feed-forward call that carries the context rows: its two result arrays from the blocks its grid points write, and
  their equality with the reference's plain products over the extended reals.
-/
module

public import proofs.«01_k».proof.Proof.CtxValue
public import proofs.«01_k».proof.Proof.FfnClaim
public import proofs.«01_k».proof.Proof.Gen.Reference3Ideal.Run
public import proofs.«01_k».proof.Proof.Gen.Reference3Ideal.Read
public import Idealize.ShloMosaic.Lib.IdealHost

@[expose] public section

set_option maxRecDepth 16384

noncomputable section

namespace Cert.Kernel3Ideal.Ctx

section Arrays
open Cert.Kernel3Ideal Cert.Kernel3Ideal.Gen Cert.Kernel3Ideal.Body Idealize.ShloMosaic Idealize.ShloMosaic.TcCoe Idealize.SL.Sem

variable (m : (ℓ : Loc nD τ sig) → Buf (Elt Ideal) ℓ) (g : Dev nD → PrngReg)

/-- The token results, expert first. -/
def tokArr (c : Dev nD) : Vec Ideal S16x4x1024x1024 .bf16 := fun i => out m c (tokens m c (i 0) (i 1) (i 2)) (i 0) (i 3)
/-- The context results, expert first. -/
def ctxArr (c : Dev nD) : Vec Ideal S16x4x32x1024 .bf16 := fun i => out m c (context m c (i 0) (i 1) (i 2)) (i 0) (i 3)

/-- A second half writes the token results of its expert and batch row. -/
theorem tok_flushed (c : Dev nD) (t : Fin cfg0.N) (hf : t.val % 2 = 1) :
    (dats m 0 c).flushed 5 t = ((cfg0.win 5).blk t).view.read (Elt Ideal) (tokArr m c) := by
  show (cfg0.win 5).cut (grid0.coords t) ((dats m 0 c).after 5 t) = _
  rw [after_5]
  have ht : t.val < 128 := lt_of_lt_of_eq t.isLt N_0
  have h := (index_facts t).2.2.2.2.2.1
  have e0 : win0_5.index t (0 : Fin 4) = t.val / 8 := congrFun h 0
  have e1 : win0_5.index t (1 : Fin 4) = t.val / 2 % 4 := congrFun h 1
  have e2 : win0_5.index t (2 : Fin 4) = 0 := congrFun h 2
  have e3 : win0_5.index t (3 : Fin 4) = 0 := congrFun h 3
  funext y
  have hy0 : (y 0).val < 1 := (y 0).isLt
  have hy1 : (y 1).val < 1 := (y 1).isLt
  have hy2 : (y 2).val < 1024 := (y 2).isLt
  have hy3 : (y 3).val < 1024 := (y 3).isLt
  have hb0 : (((cfg0.win 5).blk t).view.emb y 0).val = win0_5.index t (0 : Fin 4) * 1 + 1 * (y 0).val := rfl
  have hb1 : (((cfg0.win 5).blk t).view.emb y 1).val = win0_5.index t (1 : Fin 4) * 1 + 1 * (y 1).val := rfl
  have hb2 : (((cfg0.win 5).blk t).view.emb y 2).val = win0_5.index t (2 : Fin 4) * 1024 + 1 * (y 2).val := rfl
  have hb3 : (((cfg0.win 5).blk t).view.emb y 3).val = win0_5.index t (3 : Fin 4) * 1024 + 1 * (y 3).val := rfl
  show tokAt m c t ((cfg0.win 5).xinj (grid0.coords t) y) = tokArr m c (((cfg0.win 5).blk t).view.emb y)
  have hl : (cfg0.win 5).xinj (grid0.coords t) y = (ix4 0 0 ⟨(y 2).val, hy2⟩ ⟨(y 3).val, hy3⟩ : S1x1x1024x1024.Idx) := by
    funext a; apply Fin.ext
    match a with
    | ⟨0, _⟩ => show (y 0).val = 0; omega
    | ⟨1, _⟩ => show (y 1).val = 0; omega
    | ⟨2, _⟩ => rfl
    | ⟨3, _⟩ => rfl
  have hr : ((cfg0.win 5).blk t).view.emb y = (ix4 ⟨t.val / 8, by omega⟩ ⟨t.val / 2 % 4, by omega⟩ ⟨(y 2).val, hy2⟩ ⟨(y 3).val, hy3⟩ : S16x4x1024x1024.Idx) := by
    funext a; apply Fin.ext
    match a with
    | ⟨0, _⟩ => show (((cfg0.win 5).blk t).view.emb y 0).val = t.val / 8; rw [hb0, e0]; omega
    | ⟨1, _⟩ => show (((cfg0.win 5).blk t).view.emb y 1).val = t.val / 2 % 4; rw [hb1, e1]; omega
    | ⟨2, _⟩ => show (((cfg0.win 5).blk t).view.emb y 2).val = (y 2).val; rw [hb2, e2]; omega
    | ⟨3, _⟩ => show (((cfg0.win 5).blk t).view.emb y 3).val = (y 3).val; rw [hb3, e3]; omega
  rw [hl, hr]
  exact token_block m c t hf ⟨t.val / 8, by omega⟩ ⟨t.val / 2 % 4, by omega⟩ rfl rfl _ _

/-- An expert's last point writes its context results. -/
theorem ctx_flushed (c : Dev nD) (t : Fin cfg0.N) (hf : t.val % 8 = 7) :
    (dats m 0 c).flushed 6 t = ((cfg0.win 6).blk t).view.read (Elt Ideal) (ctxArr m c) := by
  show (cfg0.win 6).cut (grid0.coords t) ((dats m 0 c).after 6 t) = _
  rw [after_6]
  have ht : t.val < 128 := lt_of_lt_of_eq t.isLt N_0
  have h := (index_facts t).2.2.2.2.2.2
  have e0 : win0_6.index t (0 : Fin 4) = t.val / 8 := congrFun h 0
  have e1 : win0_6.index t (1 : Fin 4) = 0 := congrFun h 1
  have e2 : win0_6.index t (2 : Fin 4) = 0 := congrFun h 2
  have e3 : win0_6.index t (3 : Fin 4) = 0 := congrFun h 3
  funext y
  have hy0 : (y 0).val < 1 := (y 0).isLt
  have hy1 : (y 1).val < 4 := (y 1).isLt
  have hy2 : (y 2).val < 32 := (y 2).isLt
  have hy3 : (y 3).val < 1024 := (y 3).isLt
  have hb0 : (((cfg0.win 6).blk t).view.emb y 0).val = win0_6.index t (0 : Fin 4) * 1 + 1 * (y 0).val := rfl
  have hb1 : (((cfg0.win 6).blk t).view.emb y 1).val = win0_6.index t (1 : Fin 4) * 4 + 1 * (y 1).val := rfl
  have hb2 : (((cfg0.win 6).blk t).view.emb y 2).val = win0_6.index t (2 : Fin 4) * 32 + 1 * (y 2).val := rfl
  have hb3 : (((cfg0.win 6).blk t).view.emb y 3).val = win0_6.index t (3 : Fin 4) * 1024 + 1 * (y 3).val := rfl
  show ctxAt m c t ((cfg0.win 6).xinj (grid0.coords t) y) = ctxArr m c (((cfg0.win 6).blk t).view.emb y)
  have hl : (cfg0.win 6).xinj (grid0.coords t) y = (ix4 0 ⟨(y 1).val, hy1⟩ ⟨(y 2).val, hy2⟩ ⟨(y 3).val, hy3⟩ : S1x4x32x1024.Idx) := by
    funext a; apply Fin.ext
    match a with
    | ⟨0, _⟩ => show (y 0).val = 0; omega
    | ⟨1, _⟩ => rfl
    | ⟨2, _⟩ => rfl
    | ⟨3, _⟩ => rfl
  have hr : ((cfg0.win 6).blk t).view.emb y = (ix4 ⟨t.val / 8, by omega⟩ ⟨(y 1).val, hy1⟩ ⟨(y 2).val, hy2⟩ ⟨(y 3).val, hy3⟩ : S16x4x32x1024.Idx) := by
    funext a; apply Fin.ext
    match a with
    | ⟨0, _⟩ => show (((cfg0.win 6).blk t).view.emb y 0).val = t.val / 8; rw [hb0, e0]; omega
    | ⟨1, _⟩ => show (((cfg0.win 6).blk t).view.emb y 1).val = (y 1).val; rw [hb1, e1]; omega
    | ⟨2, _⟩ => show (((cfg0.win 6).blk t).view.emb y 2).val = (y 2).val; rw [hb2, e2]; omega
    | ⟨3, _⟩ => show (((cfg0.win 6).blk t).view.emb y 3).val = (y 3).val; rw [hb3, e3]; omega
  rw [hl, hr]
  exact context_block m c t hf ⟨t.val / 8, by omega⟩ rfl _ _ _

theorem mem_tok (t : Fin cfg0.N) (i : S16x4x1024x1024.Idx) :
    i ∈ ((cfg0.win 5).blk t).view.set ↔ ∀ a : Fin 4, win0_5.index t a * S1x1x1024x1024.size a ≤ (i a).val ∧ (i a).val < win0_5.index t a * S1x1x1024x1024.size a + S1x1x1024x1024.size a := by
  show i ∈ ((View.whole main_v6_0).slice (win0_5.rect t)).set ↔ _
  rw [View.set_slice_whole, Rect.mem_set_unit]
  exact Iff.rfl

theorem mem_ctx (t : Fin cfg0.N) (i : S16x4x32x1024.Idx) :
    i ∈ ((cfg0.win 6).blk t).view.set ↔ ∀ a : Fin 4, win0_6.index t a * S1x4x32x1024.size a ≤ (i a).val ∧ (i a).val < win0_6.index t a * S1x4x32x1024.size a + S1x4x32x1024.size a := by
  show i ∈ ((View.whole main_v6_1).slice (win0_6.rect t)).set ↔ _
  rw [View.set_slice_whole, Rect.mem_set_unit]
  exact Iff.rfl

/-- The second half of expert `e`, batch row `b`. -/
def tokPt (e : Fin 16) (b : Fin 4) : Fin cfg0.N := ⟨8 * e.val + 2 * b.val + 1, lt_of_lt_of_eq (by omega) N_0.symm⟩
/-- The last point of expert `e`. -/
def ctxPt (e : Fin 16) : Fin cfg0.N := ⟨8 * e.val + 7, lt_of_lt_of_eq (by omega) N_0.symm⟩

/-- The second halves' blocks tile the token results. -/
theorem tok_array (c : Dev nD) : (dats m 0 c).arrAt 5 cfg0.N = tokArr m c :=
  (dats m 0 c).arrAt_eq_of_cover 5 _ (fun t hf => tok_flushed m c t ((flush0_5 t).mp hf)) (fun i => by
    have hi0 : (i 0).val < 16 := (i 0).isLt
    have hi1 : (i 1).val < 4 := (i 1).isLt
    have hi2 : (i 2).val < 1024 := (i 2).isLt
    have hi3 : (i 3).val < 1024 := (i 3).isLt
    have hv : (tokPt (i 0) (i 1)).val = 8 * (i 0).val + 2 * (i 1).val + 1 := rfl
    have h := (index_facts (tokPt (i 0) (i 1))).2.2.2.2.2.1
    have e0 : win0_5.index (tokPt (i 0) (i 1)) (0 : Fin 4) = (tokPt (i 0) (i 1)).val / 8 := congrFun h 0
    have e1 : win0_5.index (tokPt (i 0) (i 1)) (1 : Fin 4) = (tokPt (i 0) (i 1)).val / 2 % 4 := congrFun h 1
    have e2 : win0_5.index (tokPt (i 0) (i 1)) (2 : Fin 4) = 0 := congrFun h 2
    have e3 : win0_5.index (tokPt (i 0) (i 1)) (3 : Fin 4) = 0 := congrFun h 3
    rw [hv] at e0 e1
    refine ⟨tokPt (i 0) (i 1), (flush0_5 _).mpr (by omega), ?_⟩
    rw [mem_tok]
    intro a
    match a with
    | ⟨0, _⟩ => show win0_5.index (tokPt (i 0) (i 1)) (0 : Fin 4) * 1 ≤ (i 0).val ∧ (i 0).val < win0_5.index (tokPt (i 0) (i 1)) (0 : Fin 4) * 1 + 1; rw [e0]; omega
    | ⟨1, _⟩ => show win0_5.index (tokPt (i 0) (i 1)) (1 : Fin 4) * 1 ≤ (i 1).val ∧ (i 1).val < win0_5.index (tokPt (i 0) (i 1)) (1 : Fin 4) * 1 + 1; rw [e1]; omega
    | ⟨2, _⟩ => show win0_5.index (tokPt (i 0) (i 1)) (2 : Fin 4) * 1024 ≤ (i 2).val ∧ (i 2).val < win0_5.index (tokPt (i 0) (i 1)) (2 : Fin 4) * 1024 + 1024; rw [e2]; omega
    | ⟨3, _⟩ => show win0_5.index (tokPt (i 0) (i 1)) (3 : Fin 4) * 1024 ≤ (i 3).val ∧ (i 3).val < win0_5.index (tokPt (i 0) (i 1)) (3 : Fin 4) * 1024 + 1024; rw [e3]; omega)

/-- The last points' blocks tile the context results. -/
theorem ctx_array (c : Dev nD) : (dats m 0 c).arrAt 6 cfg0.N = ctxArr m c :=
  (dats m 0 c).arrAt_eq_of_cover 6 _ (fun t hf => ctx_flushed m c t ((flush0_6 t).mp hf)) (fun i => by
    have hi0 : (i 0).val < 16 := (i 0).isLt
    have hi1 : (i 1).val < 4 := (i 1).isLt
    have hi2 : (i 2).val < 32 := (i 2).isLt
    have hi3 : (i 3).val < 1024 := (i 3).isLt
    have hv : (ctxPt (i 0)).val = 8 * (i 0).val + 7 := rfl
    have h := (index_facts (ctxPt (i 0))).2.2.2.2.2.2
    have e0 : win0_6.index (ctxPt (i 0)) (0 : Fin 4) = (ctxPt (i 0)).val / 8 := congrFun h 0
    have e1 : win0_6.index (ctxPt (i 0)) (1 : Fin 4) = 0 := congrFun h 1
    have e2 : win0_6.index (ctxPt (i 0)) (2 : Fin 4) = 0 := congrFun h 2
    have e3 : win0_6.index (ctxPt (i 0)) (3 : Fin 4) = 0 := congrFun h 3
    rw [hv] at e0
    refine ⟨ctxPt (i 0), (flush0_6 _).mpr (by omega), ?_⟩
    rw [mem_ctx]
    intro a
    match a with
    | ⟨0, _⟩ => show win0_6.index (ctxPt (i 0)) (0 : Fin 4) * 1 ≤ (i 0).val ∧ (i 0).val < win0_6.index (ctxPt (i 0)) (0 : Fin 4) * 1 + 1; rw [e0]; omega
    | ⟨1, _⟩ => show win0_6.index (ctxPt (i 0)) (1 : Fin 4) * 4 ≤ (i 1).val ∧ (i 1).val < win0_6.index (ctxPt (i 0)) (1 : Fin 4) * 4 + 4; rw [e1]; omega
    | ⟨2, _⟩ => show win0_6.index (ctxPt (i 0)) (2 : Fin 4) * 32 ≤ (i 2).val ∧ (i 2).val < win0_6.index (ctxPt (i 0)) (2 : Fin 4) * 32 + 32; rw [e2]; omega
    | ⟨3, _⟩ => show win0_6.index (ctxPt (i 0)) (3 : Fin 4) * 1024 ≤ (i 3).val ∧ (i 3).val < win0_6.index (ctxPt (i 0)) (3 : Fin 4) * 1024 + 1024; rw [e3]; omega)

/-- The kernel's run: its two results, its arguments unchanged. -/
theorem run : θ_run defs (onTc (τ := τ) (main (F := Ideal))) ⟨m, fun _ => 0, g⟩ (fun r => ∀ c : Dev nD,
      r.2.mem ((c.tc : Thread nD τ).loc main_v6_0) = tokArr m c
      ∧ r.2.mem ((c.tc : Thread nD τ).loc main_v6_1) = ctxArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.1 c).1 5).trans (tok_array m c), ((h.1 c).1 6).trans (ctx_array m c), h.2.1 c⟩)
    (θ_run_and (run_main m g) (frame m g))

end Arrays

open Idealize.ShloMosaic Idealize.ShloMosaic.TcCoe Idealize.SL.Sem
open Cert.Kernel2Ideal.Ffn (gated gate_forms)

open Cert.Reference3Ideal Cert.Reference3Ideal.Read in
/-- The reference's token results at an index. -/
theorem reference_tok (x0 : Vec Ideal S4x16x1024x1024 .f32) (x2 x3 : Vec Ideal S4x16x1024x2048 .f32) (x4 : Vec Ideal S4x16x2048x1024 .f32)
    (e : Fin 16) (b : Fin 4) (r j : Fin 1024) :
    val_main_v23 (F := Ideal) x0 x2 x3 x4 (ix4 e b r j) = ffn (fun d => x0 (ix4 b e r d)) x2 x3 x4 e j := by
  pointwise [val_main_v23, val_main_v22, val_main_v13, val_main_v12, val_main_v11, val_main_v10, val_main_v9, val_main_v8,
    val_main_call0_v5, val_main_call0_v4, val_main_call0_v3, val_main_call0_v2, val_main_call0_v1, val_main_call0_v0,
    val_main_call0_cst, val_main_call0_cst_0, val_main_v7, val_main_v6, val_main_v5, val_main_v4, val_main_v3, val_main_v2,
    val_main_v1, val_main_v0, ffn, gated]
  refine Finset.sum_congr rfl fun k _ => ?_
  rw [gate_forms, mul_comm]
  simp only [mul_comm (x0 _)]

open Cert.Reference3Ideal Cert.Reference3Ideal.Read in
/-- The reference's context results at an index. -/
theorem reference_ctx (x1 : Vec Ideal S4x16x32x1024 .f32) (x2 x3 : Vec Ideal S4x16x1024x2048 .f32) (x4 : Vec Ideal S4x16x2048x1024 .f32)
    (e : Fin 16) (b : Fin 4) (q : Fin 32) (j : Fin 1024) :
    val_main_v25 (F := Ideal) x1 x2 x3 x4 (ix4 e b q j) = ffn (fun d => x1 (ix4 b e q d)) x2 x3 x4 e j := by
  pointwise [val_main_v25, val_main_v24, val_main_v21, val_main_v20, val_main_v19, val_main_v18, val_main_v17, val_main_v16,
    val_main_call1_v5, val_main_call1_v4, val_main_call1_v3, val_main_call1_v2, val_main_call1_v1, val_main_call1_v0,
    val_main_call1_cst, val_main_call1_cst_0, val_main_v15, val_main_v14, val_main_v5, val_main_v4, val_main_v3, val_main_v2,
    val_main_v1, val_main_v0, ffn, gated]
  refine Finset.sum_congr rfl fun k _ => ?_
  rw [gate_forms, mul_comm]
  simp only [mul_comm (x1 _)]

/-- The two programs end with equal results. -/
theorem algebraic : Cert.algebraic_Kernel3Ideal_Reference3Ideal := by
  intro m g m' g' _ hagree
  refine ⟨fun c => tokArr m c, fun c => ctxArr m c, run m g,
    (θ_run _ _ _).mono (fun r h c => ⟨(h c).1.trans ?_, (h c).2.1.trans ?_, (h c).2.2⟩) (Cert.Reference3Ideal.Value.run m' g')⟩
  · rw [Cert.Reference3Ideal.Read.val_main_v23_eq, (hagree c).1, (hagree c).2.2.1, (hagree c).2.2.2.1, (hagree c).2.2.2.2]
    funext i
    rw [eq_ix4 i]
    exact reference_tok _ _ _ _ _ _ _ _
  · rw [Cert.Reference3Ideal.Read.val_main_v25_eq, (hagree c).2.1, (hagree c).2.2.1, (hagree c).2.2.2.1, (hagree c).2.2.2.2]
    funext i
    rw [eq_ix4 i]
    exact reference_ctx _ _ _ _ _ _ _ _

end Cert.Kernel3Ideal.Ctx

end
-- ==== Proof.HostWrite.lean ====
/-
  A host's write of a block into the first rows, or the first columns, of a larger array, read inside the block.
-/
module

public import Idealize.ShloMosaic.Lib.Routing.OpsOne

@[expose] public section

namespace Cert.HostWrite

open Idealize.ShloMosaic Idealize.ShloMosaic.ValueIdx Idealize.ShloMosaic.Routing

/-- Where every index word is zero, every window starts at zero. -/
theorem start_zero {s si u : Shape} (d : ScatterDims s si u) (idx : IVec si 32) (h0 : ∀ i, idx i = 0#32) (j : u.Idx) (a : Fin s.rank) : d.start j idx a = 0 := by
  unfold ScatterDims.start
  split
  · rw [h0]; rfl
  · rfl

/-- `x.at[:, :M].set(v)` over an array of three axes, read at a row below `M`. -/
theorem rows {α : Type} {A N M D : Nat} (d : ScatterDims (shape3 A N D) (shape1 1) (shape3 A M D)) (hu : d.updateWindowDims = [0, 1, 2]) (hw : d.insertedWindowDims = [])
    (x : (shape3 A N D).Idx → α) (idx : IVec (shape1 1) 32) (h0 : ∀ i, idx i = 0#32) (v : (shape3 A M D).Idx → α) (a : Fin A) (n : Fin N) (e : Fin D) (hn : n.val < M) :
    Host.scatter d (fun _ b => b) x idx v (ix3 a n e) = v (ix3 a ⟨n.val, hn⟩ e) := by
  obtain ⟨uw, iw, sd, iv, wf⟩ := d
  dsimp only at hu hw
  subst hu hw
  have lands : ∀ j : (shape3 A M D).Idx, (ScatterDims.mk [0, 1, 2] [] sd iv wf : ScatterDims (shape3 A N D) (shape1 1) (shape3 A M D)).resultIdx? j idx = some (ix3 a n e)
      ↔ j = ix3 a ⟨n.val, hn⟩ e := by
    intro j
    rw [resultIdx?_eq_some]
    simp only [start_zero _ idx h0, zero_add]
    constructor
    · intro h
      funext b
      match b with
      | ⟨0, _⟩ => exact Fin.ext (Int.ofNat.inj (h 0))
      | ⟨1, _⟩ => exact Fin.ext (Int.ofNat.inj (h 1))
      | ⟨2, _⟩ => exact Fin.ext (Int.ofNat.inj (h 2))
    · rintro rfl b
      match b with
      | ⟨0, _⟩ => rfl
      | ⟨1, _⟩ => rfl
      | ⟨2, _⟩ => rfl
  exact scatter_set_hit _ x idx v _ _ (fun k hk => congrArg v ((lands k).1 hk)) _ ((lands _).2 rfl)

/-- `x.at[:, :M].set(v)` over a matrix, read at a column below `M`. -/
theorem columns {α : Type} {A N M : Nat} (d : ScatterDims (shape2 A N) (shape1 1) (shape2 A M)) (hu : d.updateWindowDims = [0, 1]) (hw : d.insertedWindowDims = [])
    (x : (shape2 A N).Idx → α) (idx : IVec (shape1 1) 32) (h0 : ∀ i, idx i = 0#32) (v : (shape2 A M).Idx → α) (a : Fin A) (n : Fin N) (hn : n.val < M) :
    Host.scatter d (fun _ b => b) x idx v (ix2 a n) = v (ix2 a ⟨n.val, hn⟩) := by
  obtain ⟨uw, iw, sd, iv, wf⟩ := d
  dsimp only at hu hw
  subst hu hw
  have lands : ∀ j : (shape2 A M).Idx, (ScatterDims.mk [0, 1] [] sd iv wf : ScatterDims (shape2 A N) (shape1 1) (shape2 A M)).resultIdx? j idx = some (ix2 a n)
      ↔ j = ix2 a ⟨n.val, hn⟩ := by
    intro j
    rw [resultIdx?_ix2]
    simp only [start_zero _ idx h0, zero_add]
    constructor
    · intro h
      funext b
      match b with
      | ⟨0, _⟩ => exact Fin.ext (Int.ofNat.inj h.1)
      | ⟨1, _⟩ => exact Fin.ext (Int.ofNat.inj h.2)
    · rintro rfl
      exact ⟨rfl, rfl⟩
  exact scatter_set_hit _ x idx v _ _ (fun k hk => congrArg v ((lands k).1 hk)) _ ((lands _).2 rfl)

end Cert.HostWrite
-- ==== Proof.ProjClaim.lean ====
/-
  The projection in front of the attention layers: each row of the input, scaled and shifted by two of the six
  modulation rows of its batch row, times the joined query, key and value weights. The query columns are divided by
  eight times the natural logarithm of two, which the attention call expects of them.
-/
module

public import proofs.«01_k».proof.Proof.HostWrite
public import proofs.«01_k».proof.Proof.FfnClaim
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import Idealize.ShloMosaic.Lib.IdealHost

@[expose] public section

set_option maxRecDepth 16384

noncomputable section

namespace Cert.Kernel4Ideal.Proj

open Cert.Kernel4Ideal Cert.Kernel4Ideal.Gen Idealize.ShloMosaic Idealize.ShloMosaic.TcCoe Idealize.SL.Sem

/-- The factor of the query columns: one eighth over the natural logarithm of two. -/
def scale : EReal := (((1 / 8) * (Real.log 2)⁻¹ : ℝ) : EReal)

/-- One row `x`, modulated by the rows `a` (shift) and `b` (scale), times one column `w` of the weights. -/
def lin (x a b w : Fin 1024 → EReal) : EReal := ∑ d : Fin 1024, (x d * (1 + b d) + a d) * w d

/-- Column `j` of a result row: the query columns are the first 1024. -/
def col (x a b : Fin 1024 → EReal) (w : Fin 1024 → Fin 3072 → EReal) (j : Fin 3072) : EReal :=
  if j.val < 1024 then lin x a b (fun d => w d j) * scale else lin x a b (fun d => w d j)

/-! ## One block of the kernel -/

/-- The modulated rows of a block. -/
theorem rows_value (x0 : Vec Ideal S1x512x1024 .f32) (x1 : Vec Ideal S1x8x1024 .f32) (r : Fin 512) (d : Fin 1024) :
    k0_pay5 (F := Ideal) (View.ld x1 r0_0) (View.ld x0 r0_1) (ix2 r d) = x0 (ix3 0 r d) * (1 + x1 (ix3 0 1 d)) + x1 (ix3 0 0 d) := by
  have hz : (![0, 0, 0] : Fin 3 → Nat) = fun _ => 0 := by funext a; fin_cases a <;> rfl
  rw [View.ld_unit_zero hz, View.ld_unit_zero hz]
  pointwise [k0_pay5]

/-- The first store: query columns 0 to 511. -/
theorem first_value (x0 : Vec Ideal S1x512x1024 .f32) (x1 : Vec Ideal S1x8x1024 .f32) (w : Vec Ideal S1024x512 .bf16) (r : Fin 512) (k : Fin 512) :
    k0_pay6 (F := Ideal) (View.ld x1 r0_0) (View.ld x0 r0_1) w (ix3 0 r k)
      = lin (fun d => x0 (ix3 0 r d)) (fun d => x1 (ix3 0 0 d)) (fun d => x1 (ix3 0 1 d)) (fun d => w (ix2 d k)) * scale := by
  pointwise [k0_pay6, rows_value, lin]
  rfl

/-- The second store: query columns 512 to 1023. -/
theorem second_value (x0 : Vec Ideal S1x512x1024 .f32) (x1 : Vec Ideal S1x8x1024 .f32) (w : Vec Ideal S1024x512 .bf16) (r : Fin 512) (k : Fin 512) :
    k0_pay7 (F := Ideal) (View.ld x1 r0_0) (View.ld x0 r0_1) w (ix3 0 r k)
      = lin (fun d => x0 (ix3 0 r d)) (fun d => x1 (ix3 0 0 d)) (fun d => x1 (ix3 0 1 d)) (fun d => w (ix2 d k)) * scale := by
  pointwise [k0_pay7, rows_value, lin]
  rfl

/-- The other four stores are plain products. -/
theorem third_value (v : Vec Ideal S512x1024 .bf16) (w : Vec Ideal S1024x512 .bf16) (r : Fin 512) (k : Fin 512) :
    k0_pay1 (F := Ideal) v (k0_pay8 w) (ix3 0 r k) = ∑ d : Fin 1024, v (ix2 r d) * w (ix2 d k) := by
  pointwise [k0_pay1, k0_pay8]

theorem fourth_value (v : Vec Ideal S512x1024 .bf16) (w : Vec Ideal S1024x512 .bf16) (r : Fin 512) (k : Fin 512) :
    k0_pay2 (F := Ideal) v w (ix3 0 r k) = ∑ d : Fin 1024, v (ix2 r d) * w (ix2 d k) := by
  pointwise [k0_pay2]

theorem fifth_value (v : Vec Ideal S512x1024 .bf16) (w : Vec Ideal S1024x512 .bf16) (r : Fin 512) (k : Fin 512) :
    k0_pay3 (F := Ideal) v w (ix3 0 r k) = ∑ d : Fin 1024, v (ix2 r d) * w (ix2 d k) := by
  pointwise [k0_pay3]

theorem sixth_value (v : Vec Ideal S512x1024 .bf16) (w : Vec Ideal S1024x512 .bf16) (r : Fin 512) (k : Fin 512) :
    k0_pay4 (F := Ideal) v w (ix3 0 r k) = ∑ d : Fin 1024, v (ix2 r d) * w (ix2 d k) := by
  pointwise [k0_pay4]

/-- What a block holds: its six stores put side by side. -/
theorem block_value (x0 : Vec Ideal S1x512x1024 .f32) (x1 : Vec Ideal S1x8x1024 .f32) (x2 : Vec Ideal S1024x3072 .bf16) (r : Fin 512) (j : Fin 3072) :
    out0_3 (F := Ideal) x0 x1 x2 (ix3 0 r j)
      = col (fun d => x0 (ix3 0 r d)) (fun d => x1 (ix3 0 0 d)) (fun d => x1 (ix3 0 1 d)) (fun d k => x2 (ix2 d k)) j := by
  unfold out0_3 k0_pay9
  refine View.canon_eq_of_allAt _ _ _ (cover0_3 _ _ _ _ _ _ _) ?_
  refine View.allAt_cons_unit _ _ _ _ _ ?_ (View.allAt_cons_unit _ _ _ _ _ ?_ (View.allAt_cons_unit _ _ _ _ _ ?_
    (View.allAt_cons_unit _ _ _ _ _ ?_ (View.allAt_cons_unit _ _ _ _ _ ?_ (View.allAt_cons_unit _ _ _ _ _ ?_ (View.allAt_nil _ _))))))
  · intro x hx
    have h0 : 0 = 0 + (x 0).val := hx 0
    have h1 : r.val = 0 + (x 1).val := hx 1
    have h2 : j.val = 2560 + (x 2).val := hx 2
    have hk : (x 2).val < 512 := (x 2).isLt
    have e : x = (ix3 0 r ⟨(x 2).val, hk⟩ : S1x512x512.Idx) := by
      funext a; apply Fin.ext
      match a with
      | ⟨0, _⟩ => show (x 0).val = 0; omega
      | ⟨1, _⟩ => show (x 1).val = r.val; omega
      | ⟨2, _⟩ => rfl
    have hw : ∀ d : Fin 1024, View.ld x2 (Rect.unit (s := S1024x3072) ![0, 2560] S1024x512.size inb_S1024x3072_S1024x512_0_2560) (ix2 d ⟨(x 2).val, hk⟩) = x2 (ix2 d j) := fun d => by
      refine View.ld_unit_apply_of _ _ _ _ _ (ix2 d j) fun a => ?_
      match a with
      | ⟨0, _⟩ => show d.val = 0 + d.val; omega
      | ⟨1, _⟩ => show j.val = 2560 + (x 2).val; omega
    rw [e]
    refine (sixth_value _ _ r ⟨(x 2).val, hk⟩).trans ?_
    rw [col, if_neg (by omega)]
    exact Finset.sum_congr rfl fun d _ => congrArg₂ (· * ·) (rows_value x0 x1 r d) (hw d)
  · intro x hx
    have h0 : 0 = 0 + (x 0).val := hx 0
    have h1 : r.val = 0 + (x 1).val := hx 1
    have h2 : j.val = 2048 + (x 2).val := hx 2
    have hk : (x 2).val < 512 := (x 2).isLt
    have e : x = (ix3 0 r ⟨(x 2).val, hk⟩ : S1x512x512.Idx) := by
      funext a; apply Fin.ext
      match a with
      | ⟨0, _⟩ => show (x 0).val = 0; omega
      | ⟨1, _⟩ => show (x 1).val = r.val; omega
      | ⟨2, _⟩ => rfl
    have hw : ∀ d : Fin 1024, View.ld x2 (Rect.unit (s := S1024x3072) ![0, 2048] S1024x512.size inb_S1024x3072_S1024x512_0_2048) (ix2 d ⟨(x 2).val, hk⟩) = x2 (ix2 d j) := fun d => by
      refine View.ld_unit_apply_of _ _ _ _ _ (ix2 d j) fun a => ?_
      match a with
      | ⟨0, _⟩ => show d.val = 0 + d.val; omega
      | ⟨1, _⟩ => show j.val = 2048 + (x 2).val; omega
    rw [e]
    refine (fifth_value _ _ r ⟨(x 2).val, hk⟩).trans ?_
    rw [col, if_neg (by omega)]
    exact Finset.sum_congr rfl fun d _ => congrArg₂ (· * ·) (rows_value x0 x1 r d) (hw d)
  · intro x hx
    have h0 : 0 = 0 + (x 0).val := hx 0
    have h1 : r.val = 0 + (x 1).val := hx 1
    have h2 : j.val = 1536 + (x 2).val := hx 2
    have hk : (x 2).val < 512 := (x 2).isLt
    have e : x = (ix3 0 r ⟨(x 2).val, hk⟩ : S1x512x512.Idx) := by
      funext a; apply Fin.ext
      match a with
      | ⟨0, _⟩ => show (x 0).val = 0; omega
      | ⟨1, _⟩ => show (x 1).val = r.val; omega
      | ⟨2, _⟩ => rfl
    have hw : ∀ d : Fin 1024, View.ld x2 (Rect.unit (s := S1024x3072) ![0, 1536] S1024x512.size inb_S1024x3072_S1024x512_0_1536) (ix2 d ⟨(x 2).val, hk⟩) = x2 (ix2 d j) := fun d => by
      refine View.ld_unit_apply_of _ _ _ _ _ (ix2 d j) fun a => ?_
      match a with
      | ⟨0, _⟩ => show d.val = 0 + d.val; omega
      | ⟨1, _⟩ => show j.val = 1536 + (x 2).val; omega
    rw [e]
    refine (fourth_value _ _ r ⟨(x 2).val, hk⟩).trans ?_
    rw [col, if_neg (by omega)]
    exact Finset.sum_congr rfl fun d _ => congrArg₂ (· * ·) (rows_value x0 x1 r d) (hw d)
  · intro x hx
    have h0 : 0 = 0 + (x 0).val := hx 0
    have h1 : r.val = 0 + (x 1).val := hx 1
    have h2 : j.val = 1024 + (x 2).val := hx 2
    have hk : (x 2).val < 512 := (x 2).isLt
    have e : x = (ix3 0 r ⟨(x 2).val, hk⟩ : S1x512x512.Idx) := by
      funext a; apply Fin.ext
      match a with
      | ⟨0, _⟩ => show (x 0).val = 0; omega
      | ⟨1, _⟩ => show (x 1).val = r.val; omega
      | ⟨2, _⟩ => rfl
    have hw : ∀ d : Fin 1024, View.ld x2 (Rect.unit (s := S1024x3072) ![0, 1024] S1024x512.size inb_S1024x3072_S1024x512_0_1024) (ix2 d ⟨(x 2).val, hk⟩) = x2 (ix2 d j) := fun d => by
      refine View.ld_unit_apply_of _ _ _ _ _ (ix2 d j) fun a => ?_
      match a with
      | ⟨0, _⟩ => show d.val = 0 + d.val; omega
      | ⟨1, _⟩ => show j.val = 1024 + (x 2).val; omega
    rw [e]
    refine (third_value _ _ r ⟨(x 2).val, hk⟩).trans ?_
    rw [col, if_neg (by omega)]
    exact Finset.sum_congr rfl fun d _ => congrArg₂ (· * ·) (rows_value x0 x1 r d) (hw d)
  · intro x hx
    have h0 : 0 = 0 + (x 0).val := hx 0
    have h1 : r.val = 0 + (x 1).val := hx 1
    have h2 : j.val = 512 + (x 2).val := hx 2
    have hk : (x 2).val < 512 := (x 2).isLt
    have e : x = (ix3 0 r ⟨(x 2).val, hk⟩ : S1x512x512.Idx) := by
      funext a; apply Fin.ext
      match a with
      | ⟨0, _⟩ => show (x 0).val = 0; omega
      | ⟨1, _⟩ => show (x 1).val = r.val; omega
      | ⟨2, _⟩ => rfl
    have hw : ∀ d : Fin 1024, View.ld x2 (Rect.unit (s := S1024x3072) ![0, 512] S1024x512.size inb_S1024x3072_S1024x512_0_512) (ix2 d ⟨(x 2).val, hk⟩) = x2 (ix2 d j) := fun d => by
      refine View.ld_unit_apply_of _ _ _ _ _ (ix2 d j) fun a => ?_
      match a with
      | ⟨0, _⟩ => show d.val = 0 + d.val; omega
      | ⟨1, _⟩ => show j.val = 512 + (x 2).val; omega
    rw [e]
    refine (second_value x0 x1 _ r ⟨(x 2).val, hk⟩).trans ?_
    rw [col, if_pos (by omega)]
    unfold lin
    exact congrArg (· * scale) (Finset.sum_congr rfl fun d _ => congrArg _ (hw d))
  · intro x hx
    have h0 : 0 = 0 + (x 0).val := hx 0
    have h1 : r.val = 0 + (x 1).val := hx 1
    have h2 : j.val = 0 + (x 2).val := hx 2
    have hk : (x 2).val < 512 := (x 2).isLt
    have e : x = (ix3 0 r ⟨(x 2).val, hk⟩ : S1x512x512.Idx) := by
      funext a; apply Fin.ext
      match a with
      | ⟨0, _⟩ => show (x 0).val = 0; omega
      | ⟨1, _⟩ => show (x 1).val = r.val; omega
      | ⟨2, _⟩ => rfl
    have hw : ∀ d : Fin 1024, View.ld x2 (Rect.unit (s := S1024x3072) ![0, 0] S1024x512.size inb_S1024x3072_S1024x512_0_0) (ix2 d ⟨(x 2).val, hk⟩) = x2 (ix2 d j) := fun d => by
      refine View.ld_unit_apply_of _ _ _ _ _ (ix2 d j) fun a => ?_
      match a with
      | ⟨0, _⟩ => show d.val = 0 + d.val; omega
      | ⟨1, _⟩ => show j.val = 0 + (x 2).val; omega
    rw [e]
    refine (first_value x0 x1 _ r ⟨(x 2).val, hk⟩).trans ?_
    rw [col, if_pos (by omega)]
    unfold lin
    exact congrArg (· * scale) (Finset.sum_congr rfl fun d _ => congrArg _ (hw d))

/-! ## The blocks a point reads -/

variable (m : (ℓ : Loc nD τ sig) → Buf (Elt Ideal) ℓ) (g : Dev nD → PrngReg)

/-- Point `t` works on batch row `t / 16` and the rows `512 (t mod 16)` on. -/
theorem index_facts : ∀ t : Fin cfg0.N, win0_0.index t = ![t.val / 16, t.val % 16, 0] ∧ win0_1.index t = ![t.val / 16, 0, 0]
    ∧ win0_2.index t = ![0, 0] ∧ win0_3.index t = ![t.val / 16, t.val % 16, 0] := by
  decide +kernel

theorem blk0 (c : Dev nD) (t : Fin cfg0.N) (b : Fin 4) (q : Fin 16) (hb : t.val / 16 = b.val) (hq : t.val % 16 = q.val) (r : Fin 512) (d : Fin 1024) :
    iblk m c 0 t (ix3 0 r d) = m ((c : Thread nD τ).loc main_arg0) (ix3 b ⟨512 * q.val + r.val, by omega⟩ d) := by
  have h := (index_facts t).1
  rw [hb, hq] at h
  blk_ext [iblk, V_main_arg0, h]

/-- Six rows written into eight rows of zeros. -/
def eight (x : Vec Ideal S4x6x1024 .f32) : Vec Ideal S4x8x1024 .f32 :=
  Host.scatter scatter_S4x8x1024_S1_S4x6x1024_012_n_1_0 (fun _ b => b) (broadcastInDim S4x8x1024 ![] bcast_S_S4x8x1024 (constant (F := Ideal) S_ .f32 0x00000000#32))
    (broadcastInDim S1 ![] bcast_S_S1 (constantI S_ 32 0#32)) x

theorem eight_value (x : Vec Ideal S4x6x1024 .f32) (b : Fin 4) (s : Fin 8) (d : Fin 1024) (hs : s.val < 6) : eight x (ix3 b s d) = x (ix3 b ⟨s.val, hs⟩ d) :=
  Cert.HostWrite.rows _ rfl rfl _ _ (fun _ => rfl) _ b s d hs

/-- The modulation rows as the call finds them: six rows, with two rows of zeros below. -/
theorem mod_entry (c : Dev nD) (b : Fin 4) (s : Fin 8) (d : Fin 1024) (hs : s.val < 6) :
    V m c main_v2 (ix3 b s d) = m ((c : Thread nD τ).loc main_arg1) (ix3 b ⟨s.val, hs⟩ d) := by
  have h : V m c main_v2 = eight (m ((c : Thread nD τ).loc main_arg1)) := by
    simp only [V, hostOps0, StableHlo.TRef.binary, StableHlo.TRef.unary, StableHlo.TRef.toBuf, StableHlo.TRef.ofBuf, cast_eq]
    after_results
    rfl
  rw [h]
  exact eight_value _ b s d hs

/-- The weights as the call finds them. -/
theorem weight_entry (c : Dev nD) (d : Fin 1024) (j : Fin 3072) :
    V m c main_v3 (ix2 d j) = m ((c : Thread nD τ).loc main_arg2) (ix2 d j) := by
  have h : V m c main_v3 = truncf (F := Ideal) .bf16 (m ((c : Thread nD τ).loc main_arg2)) bitsLt_bf16_f32 := by
    simp only [V, hostOps0, StableHlo.TRef.binary, StableHlo.TRef.unary, StableHlo.TRef.toBuf, StableHlo.TRef.ofBuf, cast_eq]
    after_results
  rw [h]
  pointwise

theorem blk1 (c : Dev nD) (t : Fin cfg0.N) (b : Fin 4) (hb : t.val / 16 = b.val) (s : Fin 8) (hs : s.val < 6) (d : Fin 1024) :
    iblk m c 1 t (ix3 0 s d) = m ((c : Thread nD τ).loc main_arg1) (ix3 b ⟨s.val, hs⟩ d) := by
  have h := (index_facts t).2.1
  rw [hb] at h
  have key : ∀ W : Buf (Elt Ideal) ((c : Thread nD τ).loc main_v2), ((cfg0.win 1).blk t).view.read (Elt Ideal) W (ix3 0 s d) = W (ix3 b s d) := by
    intro W
    blk_ext [h]
  exact (key (V m c main_v2)).trans (mod_entry m c b s d hs)

theorem blk2 (c : Dev nD) (t : Fin cfg0.N) (d : Fin 1024) (j : Fin 3072) :
    iblk m c 2 t (ix2 d j) = m ((c : Thread nD τ).loc main_arg2) (ix2 d j) := by
  have h := (index_facts t).2.2.1
  refine Eq.trans ?_ (weight_entry m c d j)
  blk_ext [iblk, h]

/-! ## The result array -/

/-- Column `j` of row `n` of batch row `b`. -/
def outAt (x : Vec Ideal S4x8192x1024 .f32) (md : Vec Ideal S4x6x1024 .f32) (w : Vec Ideal S1024x3072 .f32) (b : Fin 4) (n : Fin 8192) (j : Fin 3072) : EReal :=
  col (fun d => x (ix3 b n d)) (fun d => md (ix3 b 0 d)) (fun d => md (ix3 b 1 d)) (fun d k => w (ix2 d k)) j

/-- The projected rows. -/
def outArr (c : Dev nD) : Vec Ideal S4x8192x3072 .bf16 := fun i =>
  outAt (m ((c : Thread nD τ).loc main_arg0)) (m ((c : Thread nD τ).loc main_arg1)) (m ((c : Thread nD τ).loc main_arg2)) (i 0) (i 1) (i 2)

/-- A point's block, read off the arguments. -/
theorem point_value (c : Dev nD) (t : Fin cfg0.N) (b : Fin 4) (q : Fin 16) (hb : t.val / 16 = b.val) (hq : t.val % 16 = q.val) (r : Fin 512) (j : Fin 3072) :
    out0_3 (F := Ideal) (iblk m c 0 t) (iblk m c 1 t) (iblk m c 2 t) (ix3 0 r j) = outArr m c (ix3 b ⟨512 * q.val + r.val, by omega⟩ j) := by
  have hx : (fun d => iblk m c 0 t (ix3 0 r d)) = fun d => m ((c : Thread nD τ).loc main_arg0) (ix3 b ⟨512 * q.val + r.val, by omega⟩ d) :=
    funext fun d => blk0 m c t b q hb hq r d
  have ha : (fun d => iblk m c 1 t (ix3 0 0 d)) = fun d => m ((c : Thread nD τ).loc main_arg1) (ix3 b 0 d) :=
    funext fun d => blk1 m c t b hb 0 (by decide) d
  have hs : (fun d => iblk m c 1 t (ix3 0 1 d)) = fun d => m ((c : Thread nD τ).loc main_arg1) (ix3 b 1 d) :=
    funext fun d => blk1 m c t b hb 1 (by decide) d
  have hw : (fun d k => iblk m c 2 t (ix2 d k)) = fun d k => m ((c : Thread nD τ).loc main_arg2) (ix2 d k) :=
    funext fun d => funext fun k => blk2 m c t d k
  rw [block_value, hx, ha, hs, hw]
  rfl

/-- Each point writes its 512 rows. -/
theorem flushed_eq (c : Dev nD) (t : Fin cfg0.N) :
    (dats m 0 c).flushed 3 t = ((cfg0.win 3).blk t).view.read (Elt Ideal) (outArr m c) := by
  rw [Value.flushed3]
  have ht : t.val < 64 := lt_of_lt_of_eq t.isLt N_0
  have h := (index_facts t).2.2.2
  have e0 : win0_3.index t (0 : Fin 3) = t.val / 16 := congrFun h 0
  have e1 : win0_3.index t (1 : Fin 3) = t.val % 16 := congrFun h 1
  have e2 : win0_3.index t (2 : Fin 3) = 0 := congrFun h 2
  funext y
  have hy0 : (y 0).val < 1 := (y 0).isLt
  have hy1 : (y 1).val < 512 := (y 1).isLt
  have hy2 : (y 2).val < 3072 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 512 + 1 * (y 1).val := rfl
  have hb2 : (((cfg0.win 3).blk t).view.emb y 2).val = win0_3.index t (2 : Fin 3) * 3072 + 1 * (y 2).val := rfl
  show out0_3 (F := Ideal) (iblk m c 0 t) (iblk m c 1 t) (iblk m c 2 t) ((cfg0.win 3).xinj (grid0.coords t) y) = outArr m c (((cfg0.win 3).blk t).view.emb y)
  have hl : (cfg0.win 3).xinj (grid0.coords t) y = (ix3 0 ⟨(y 1).val, hy1⟩ ⟨(y 2).val, hy2⟩ : S1x512x3072.Idx) := by
    funext a; apply Fin.ext
    match a with
    | ⟨0, _⟩ => show (y 0).val = 0; omega
    | ⟨1, _⟩ => rfl
    | ⟨2, _⟩ => rfl
  have hr : ((cfg0.win 3).blk t).view.emb y
      = (ix3 ⟨t.val / 16, by omega⟩ ⟨512 * (t.val % 16) + (y 1).val, by omega⟩ ⟨(y 2).val, hy2⟩ : S4x8192x3072.Idx) := by
    funext a; apply Fin.ext
    match a with
    | ⟨0, _⟩ => show (((cfg0.win 3).blk t).view.emb y 0).val = t.val / 16; rw [hb0, e0]; omega
    | ⟨1, _⟩ => show (((cfg0.win 3).blk t).view.emb y 1).val = 512 * (t.val % 16) + (y 1).val; rw [hb1, e1]; omega
    | ⟨2, _⟩ => show (((cfg0.win 3).blk t).view.emb y 2).val = (y 2).val; rw [hb2, e2]; omega
  rw [hl, hr]
  exact point_value m c t ⟨t.val / 16, by omega⟩ ⟨t.val % 16, by omega⟩ rfl rfl ⟨(y 1).val, hy1⟩ ⟨(y 2).val, hy2⟩

theorem mem_block (t : Fin cfg0.N) (i : S4x8192x3072.Idx) :
    i ∈ ((cfg0.win 3).blk t).view.set ↔ ∀ a : Fin 3, win0_3.index t a * S1x512x3072.size a ≤ (i a).val ∧ (i a).val < win0_3.index t a * S1x512x3072.size a + S1x512x3072.size a := by
  show i ∈ ((View.whole main_v4).slice (win0_3.rect t)).set ↔ _
  rw [View.set_slice_whole, Rect.mem_set_unit]
  exact Iff.rfl

/-- The point that writes row `n` of batch row `b`. -/
def pt (b : Fin 4) (n : Fin 8192) : Fin cfg0.N := ⟨16 * b.val + n.val / 512, lt_of_lt_of_eq (by omega) N_0.symm⟩

/-- The points' blocks tile the result. -/
theorem out_array (c : Dev nD) : (dats m 0 c).arrAt 3 cfg0.N = outArr m c :=
  (dats m 0 c).arrAt_eq_of_cover 3 _ (fun t _ => flushed_eq m c t) (fun i => by
    have hi0 : (i 0).val < 4 := (i 0).isLt
    have hi1 : (i 1).val < 8192 := (i 1).isLt
    have hi2 : (i 2).val < 3072 := (i 2).isLt
    have hv : (pt (i 0) (i 1)).val = 16 * (i 0).val + (i 1).val / 512 := rfl
    have h := (index_facts (pt (i 0) (i 1))).2.2.2
    have e0 : win0_3.index (pt (i 0) (i 1)) (0 : Fin 3) = (pt (i 0) (i 1)).val / 16 := congrFun h 0
    have e1 : win0_3.index (pt (i 0) (i 1)) (1 : Fin 3) = (pt (i 0) (i 1)).val % 16 := congrFun h 1
    have e2 : win0_3.index (pt (i 0) (i 1)) (2 : Fin 3) = 0 := congrFun h 2
    rw [hv] at e0 e1
    refine ⟨pt (i 0) (i 1), flush0_3 _, ?_⟩
    rw [mem_block]
    intro a
    match a with
    | ⟨0, _⟩ => show win0_3.index (pt (i 0) (i 1)) (0 : Fin 3) * 1 ≤ (i 0).val ∧ (i 0).val < win0_3.index (pt (i 0) (i 1)) (0 : Fin 3) * 1 + 1; rw [e0]; omega
    | ⟨1, _⟩ => show win0_3.index (pt (i 0) (i 1)) (1 : Fin 3) * 512 ≤ (i 1).val ∧ (i 1).val < win0_3.index (pt (i 0) (i 1)) (1 : Fin 3) * 512 + 512; rw [e1]; omega
    | ⟨2, _⟩ => show win0_3.index (pt (i 0) (i 1)) (2 : Fin 3) * 3072 ≤ (i 2).val ∧ (i 2).val < win0_3.index (pt (i 0) (i 1)) (2 : Fin 3) * 3072 + 3072; rw [e2]; omega)

/-- The kernel's run: its result, its arguments unchanged. -/
theorem run : θ_run defs (onTc (τ := τ) (main (F := Ideal))) ⟨m, fun _ => 0, g⟩ (fun r => ∀ c : Dev nD,
      r.2.mem ((c.tc : Thread nD τ).loc main_v4) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (out_array m c), (h c).2⟩) (Value.run_blocks m g)

end Cert.Kernel4Ideal.Proj

namespace Cert.Kernel4Ideal.Proj

open Idealize.ShloMosaic Idealize.ShloMosaic.TcCoe Idealize.SL.Sem

/-- Dividing by the logarithm of two after multiplying by one eighth is multiplying by the factor. -/
theorem scale_eq (y : EReal) :
    Ideal.div (y * Ideal.ofBits .f32 0x3E000000#32) (Ideal.log (Ideal.ofBits .f32 0x40000000#32)) = y * scale := by
  have h8 : Ideal.ofBits .f32 0x3E000000#32 = ((1 / 8 : ℝ) : EReal) := by
    simp [Ideal.ofBits, Ideal.ieee]
    norm_cast
    norm_num
  have h2 : Ideal.ofBits .f32 0x40000000#32 = ((2 : ℝ) : EReal) := by
    simp [Ideal.ofBits, Ideal.ieee]
    norm_cast
    norm_num
  have hl : (0 : ℝ) < Real.log 2 := Real.log_pos (by norm_num)
  have hlog : Ideal.log ((2 : ℝ) : EReal) = ((Real.log 2 : ℝ) : EReal) := by
    show (if (2 : ℝ) ≤ 0 then (⊥ : EReal) else ((Real.log 2 : ℝ) : EReal)) = _
    rw [if_neg (by norm_num)]
  rw [h8, h2, hlog, Ideal.div, if_neg (by exact_mod_cast hl.ne'), ← EReal.coe_inv, mul_assoc, ← EReal.coe_mul]
  rfl

open Cert.Reference4Ideal Cert.Reference4Ideal.Read in
/-- The reference's product at an index. -/
theorem reference_dot (x0 : Vec Ideal S4x8192x1024 .f32) (x1 : Vec Ideal S4x6x1024 .f32) (x2 : Vec Ideal S1024x3072 .f32)
    (b : Fin 4) (n : Fin 8192) (j : Fin 3072) :
    val_main_v8 (F := Ideal) x0 x1 x2 (ix3 b n j)
      = lin (fun d => x0 (ix3 b n d)) (fun d => x1 (ix3 b 0 d)) (fun d => x1 (ix3 b 1 d)) (fun d => x2 (ix2 d j)) := by
  pointwise [val_main_v8, val_main_v7, val_main_v6, val_main_v5, val_main_v4, val_main_v3, val_main_v2, val_main_cst, val_main_v1, val_main_v0, lin]

open Cert.Reference4Ideal Cert.Reference4Ideal.Read in
/-- The reference's result at an index. -/
theorem reference_value (x0 : Vec Ideal S4x8192x1024 .f32) (x1 : Vec Ideal S4x6x1024 .f32) (x2 : Vec Ideal S1024x3072 .f32)
    (b : Fin 4) (n : Fin 8192) (j : Fin 3072) :
    val_main_v17 (F := Ideal) x0 x1 x2 (ix3 b n j) = outAt x0 x1 x2 b n j := by
  unfold outAt col
  by_cases h : j.val < 1024
  · rw [if_pos h]
    pointwise [val_main_v17, val_main_v16, val_main_v15, val_main_v14, val_main_v13, val_main_v12, val_main_v11, val_main_v10, val_main_v9,
      val_main_cst_0, val_main_cst_1, reference_dot]
    exact (dif_pos h).trans (scale_eq _)
  · rw [if_neg h]
    pointwise [val_main_v17, val_main_v16, val_main_v15, val_main_v14, val_main_v13, val_main_v12, val_main_v11, val_main_v10, val_main_v9,
      val_main_cst_0, val_main_cst_1, reference_dot]
    rw [dif_neg h]
    have hj : (⟨1024 + (j.val - 1024), by omega⟩ : Fin 3072) = j := Fin.ext (by show 1024 + (j.val - 1024) = j.val; omega)
    simp only [hj]

/-- The two programs end with equal results. -/
theorem algebraic : Cert.algebraic_Kernel4Ideal_Reference4Ideal := by
  intro m g m' g' _ hagree
  refine ⟨fun c => outArr m c, run m g,
    (θ_run _ _ _).mono (fun r h c => ⟨(h c).1.trans ?_, (h c).2⟩) (Cert.Reference4Ideal.Value.run m' g')⟩
  rw [Cert.Reference4Ideal.Read.val_main_v17_eq, (hagree c).1, (hagree c).2.1, (hagree c).2.2]
  funext i
  rw [eq_ix3 i]
  exact reference_value _ _ _ _ _ _

end Cert.Kernel4Ideal.Proj

end
-- ==== Proof.PostPoint.lean ====
/-
  The output projection of an attention layer, one grid point: residual, layer norm, modulation and the routing
  affinities of 512 rows, element by element.
-/
module

public import proofs.«01_k».proof.Proof.FfnClaim
public import proofs.«01_k».proof.Proof.Gen.Kernel5Ideal.Frame
public import Idealize.ShloMosaic.Lib.IdealHost

@[expose] public section

set_option maxRecDepth 16384

noncomputable section

namespace Cert.Kernel5Ideal.Post

open Cert.Kernel5Ideal Cert.Kernel5Ideal.Gen Idealize.ShloMosaic Idealize.ShloMosaic.TcCoe Idealize.SL.Sem

/-! ## The mathematics of one row -/

/-- The residual: the row times the stack's factor, plus the gated projection of the attention's row. -/
def resid (o x gate : Fin 1024 → EReal) (w : Fin 1024 → Fin 1024 → EReal) (e : Fin 1024) : EReal :=
  Ideal.ofBits .f32 0x3FD744FD#32 * x e + gate e * ∑ d : Fin 1024, o d * w d e
/-- A row less its mean. -/
def cent (z : Fin 1024 → EReal) (e : Fin 1024) : EReal := z e - Ideal.div (∑ k : Fin 1024, z k) (Ideal.ofBits .f32 0x44800000#32)
/-- The variance of a row, and the small constant. -/
def spread (z : Fin 1024 → EReal) : EReal :=
  Ideal.div (∑ k : Fin 1024, cent z k * cent z k) (Ideal.ofBits .f32 0x44800000#32) + Ideal.ofBits .f32 0x3727C5AC#32
/-- Layer norm with gains `g` and offsets `h`. -/
def norm (z g h : Fin 1024 → EReal) (e : Fin 1024) : EReal := cent z e * Ideal.rsqrt (spread z) * g e + h e
/-- The modulated row. -/
def hidden (z scale shift : Fin 1024 → EReal) (e : Fin 1024) : EReal := z e * (1 + scale e) + shift e
/-- The largest of 16 logits. -/
def peak (L : Fin 16 → EReal) : EReal := Finset.univ.fold max (Ideal.ofBits .f32 0xFF800000#32) L
/-- Softmax of 16 logits. -/
def soft (L : Fin 16 → EReal) (k : Fin 16) : EReal := Ideal.div (Ideal.exp (L k - peak L)) (∑ i : Fin 16, Ideal.exp (L i - peak L))

/-! ## The pieces of the kernel's body -/

theorem cent_value (o : Vec Ideal S1x512x1024 .bf16) (w : Vec Ideal S1024x1024 .bf16) (x : Vec Ideal S1x512x1024 .f32) (md : Vec Ideal S1x8x1024 .f32)
    (r : Fin 512) (e : Fin 1024) :
    k0_pay6 (F := Ideal) o w x md (ix2 r e)
      = cent (resid (fun d => o (ix3 0 r d)) (fun d => x (ix3 0 r d)) (fun d => md (ix3 0 2 d)) (fun d k => w (ix2 d k))) e := by
  pointwise [k0_pay6, k0_pay2, cent, resid]

theorem spread_value (o : Vec Ideal S1x512x1024 .bf16) (w : Vec Ideal S1024x1024 .bf16) (x : Vec Ideal S1x512x1024 .f32) (md : Vec Ideal S1x8x1024 .f32)
    (r : Fin 512) :
    k0_pay7 (F := Ideal) o w x md (ix2 r 0)
      = spread (resid (fun d => o (ix3 0 r d)) (fun d => x (ix3 0 r d)) (fun d => md (ix3 0 2 d)) (fun d k => w (ix2 d k))) := by
  pointwise [k0_pay7, cent_value, spread]

theorem norm_value (g h : FVec Ideal S1x1024 .f32) (v26 : FVec Ideal S512x1024 .f32) (v33 : FVec Ideal S512x1 .f32) (r : Fin 512) (e : Fin 1024) :
    k0_pay8 (F := Ideal) g h v26 v33 (ix2 r e) = v26 (ix2 r e) * Ideal.rsqrt (v33 (ix2 r 0)) * g (ix2 0 e) + h (ix2 0 e) := by
  pointwise [k0_pay8]

theorem hidden_value (md : FVec Ideal S8x1024 .f32) (g h : FVec Ideal S1x1024 .f32) (v26 : FVec Ideal S512x1024 .f32) (v33 : FVec Ideal S512x1 .f32) (r : Fin 512) (e : Fin 1024) :
    k0_pay9 (F := Ideal) md g h v26 v33 (ix2 r e) = k0_pay8 (F := Ideal) g h v26 v33 (ix2 r e) * (1 + md (ix2 4 e)) + md (ix2 3 e) := by
  pointwise [k0_pay9]

theorem soft_value (X : FVec Ideal S16x512 .f32) (k : Fin 16) (r : Fin 512) :
    divf (exp (subf X (broadcastTo S16x512 (shapeCast S1x512 (multiReduction .maximumf [0] S512 X 0xFF800000#32 reduces_S16x512_S512 (.inl rfl) rfl) shapeCasts_S512_S1x512) broadcasts_S1x512_S16x512)))
      (broadcastTo S16x512 (shapeCast S1x512 (multiReduction .add [0] S512 (exp (subf X (broadcastTo S16x512 (shapeCast S1x512 (multiReduction .maximumf [0] S512 X 0xFF800000#32 reduces_S16x512_S512 (.inl rfl) rfl) shapeCasts_S512_S1x512) broadcasts_S1x512_S16x512)))
        0x00000000#32 reduces_S16x512_S512 (.inl rfl) rfl) shapeCasts_S512_S1x512) broadcasts_S1x512_S16x512) (ix2 k r)
      = soft (fun i => X (ix2 i r)) k := by
  pointwise [soft, peak]

/-- The logits of a block, experts down and rows across. -/
def logits (v8 : FVec Ideal S8x1024 .f32) (v10 v12 : FVec Ideal S1x1024 .f32) (v14 : FVec Ideal S1024x256 .bf16) (v26 : FVec Ideal S512x1024 .f32) (v33 : FVec Ideal S512x1 .f32) : FVec Ideal S16x512 .f32 :=
  extractStridedSlice S16x512 ![0, 0] (transpose S128x512 [1, 0]
    (addf (addf
        (extractStridedSlice S512x128 ![0, 0] (matmul dot_S512x1024_S1024x256_S512x256_1_0_0_1_n_n none (k0_pay10 v8 v10 v12 v26 v33) v14 (constant S512x256 .f32 0x00000000#32)) slices_S512x256_o0_0_S512x128)
        (extractStridedSlice S512x128 ![0, 128] (matmul dot_S512x1024_S1024x256_S512x256_1_0_0_1_n_n none (k0_pay10 v8 v10 v12 v26 v33) v14 (constant S512x256 .f32 0x00000000#32)) slices_S512x256_o0_128_S512x128))
      (matmul dot_S512x1024_S1024x128_S512x128_1_0_0_1_n_n none
        (truncf .bf16 (subf (k0_pay9 v8 v10 v12 v26 v33) (extf .f32 (k0_pay10 v8 v10 v12 v26 v33) bitsLt_bf16_f32)) bitsLt_bf16_f32)
        (extractStridedSlice S1024x128 ![0, 0] v14 slices_S1024x256_o0_0_S1024x128) (constant S512x128 .f32 0x00000000#32)))
    transposes_S512x128_p1_0_S128x512) slices_S128x512_o0_0_S16x512

theorem logits_value (v8 : FVec Ideal S8x1024 .f32) (v10 v12 : FVec Ideal S1x1024 .f32) (v14 : FVec Ideal S1024x256 .bf16) (v26 : FVec Ideal S512x1024 .f32) (v33 : FVec Ideal S512x1 .f32)
    (k : Fin 16) (r : Fin 512) :
    logits v8 v10 v12 v14 v26 v33 (ix2 k r)
      = ((∑ d : Fin 1024, k0_pay9 (F := Ideal) v8 v10 v12 v26 v33 (ix2 r d) * v14 (ix2 d ⟨k.val, by omega⟩))
          + ∑ d : Fin 1024, k0_pay9 (F := Ideal) v8 v10 v12 v26 v33 (ix2 r d) * v14 (ix2 d ⟨128 + k.val, by omega⟩))
        + ∑ d : Fin 1024, (k0_pay9 (F := Ideal) v8 v10 v12 v26 v33 (ix2 r d) - k0_pay9 (F := Ideal) v8 v10 v12 v26 v33 (ix2 r d)) * v14 (ix2 d ⟨k.val, by omega⟩) := by
  pointwise [logits, k0_pay10]

theorem affinity_value (v8 : FVec Ideal S8x1024 .f32) (v10 v12 : FVec Ideal S1x1024 .f32) (v14 : FVec Ideal S1024x256 .bf16) (v26 : FVec Ideal S512x1024 .f32) (v33 : FVec Ideal S512x1 .f32)
    (k : Fin 16) (r : Fin 512) :
    k0_pay11 (F := Ideal) v8 v10 v12 v14 v26 v33 (ix2 k r) = soft (fun i => logits v8 v10 v12 v14 v26 v33 (ix2 i r)) k :=
  soft_value (logits v8 v10 v12 v14 v26 v33) k r

/-! ## The three blocks a point writes -/

/-- Row `r` of the residual of a block. -/
def row (x0 : Vec Ideal S1x512x1024 .bf16) (x1 : Vec Ideal S1x512x1024 .f32) (x2 : Vec Ideal S1x8x1024 .f32) (x3 : Vec Ideal S1024x1024 .bf16) (r : Fin 512) : Fin 1024 → EReal :=
  resid (fun d => x0 (ix3 0 r d)) (fun d => x1 (ix3 0 r d)) (fun d => x2 (ix3 0 2 d)) (fun d k => x3 (ix2 d k))

section
variable (x0 : Vec Ideal S1x512x1024 .bf16) (x1 : Vec Ideal S1x512x1024 .f32) (x2 : Vec Ideal S1x8x1024 .f32) (x3 : Vec Ideal S1024x1024 .bf16)
  (x4 x5 : Vec Ideal S1x1024 .f32) (x6 : Vec Ideal S1024x256 .bf16)

theorem zero3 : (![0, 0, 0] : Fin 3 → Nat) = fun _ => 0 := by funext a; fin_cases a <;> rfl
theorem zero2 : (![0, 0] : Fin 2 → Nat) = fun _ => 0 := by funext a; fin_cases a <;> rfl

theorem ld_gain (e : Fin 1024) : k0_pay15 (F := Ideal) x0 x1 x2 x3 x4 x5 x6 (ix2 0 e) = x4 (ix2 0 e) := by
  unfold k0_pay15
  rw [View.ld_unit_zero zero2]
  pointwise [k0_pay3]
theorem ld_offset (e : Fin 1024) : k0_pay16 (F := Ideal) x0 x1 x2 x3 x4 x5 x6 (ix2 0 e) = x5 (ix2 0 e) := by
  unfold k0_pay16
  rw [View.ld_unit_zero zero2]
  pointwise [k0_pay4]
theorem ld_mod (s : Fin 8) (e : Fin 1024) : k0_pay14 (F := Ideal) x0 x1 x2 x3 x4 x5 x6 (ix2 s e) = x2 (ix3 0 s e) := by
  unfold k0_pay14
  rw [View.ld_unit_zero zero3]
  pointwise [k0_pay2]
theorem ld_router (d : Fin 1024) (k : Fin 256) : k0_pay5 (F := Ideal) (View.ld x6 r0_4) (ix2 d k) = x6 (ix2 d k) := by
  rw [View.ld_unit_zero zero2]
  pointwise [k0_pay5]
theorem ld_cent (r : Fin 512) (e : Fin 1024) : k0_pay17 (F := Ideal) x0 x1 x2 x3 x4 x5 x6 (ix2 r e) = cent (row x0 x1 x2 x3 r) e := by
  unfold k0_pay17
  rw [View.ld_unit_zero zero3, View.ld_unit_zero zero2, View.ld_unit_zero zero3, View.ld_unit_zero zero3]
  exact cent_value _ _ _ _ _ _
theorem ld_spread (r : Fin 512) : k0_pay18 (F := Ideal) x0 x1 x2 x3 x4 x5 x6 (ix2 r 0) = spread (row x0 x1 x2 x3 r) := by
  unfold k0_pay18
  rw [View.ld_unit_zero zero3, View.ld_unit_zero zero2, View.ld_unit_zero zero3, View.ld_unit_zero zero3]
  exact spread_value _ _ _ _ _

/-- The normed row of a block. -/
def normRow (r : Fin 512) : Fin 1024 → EReal := norm (row x0 x1 x2 x3 r) (fun d => x4 (ix2 0 d)) (fun d => x5 (ix2 0 d))
/-- The modulated row of a block. -/
def hidRow (r : Fin 512) : Fin 1024 → EReal := hidden (normRow x0 x1 x2 x3 x4 x5 r) (fun d => x2 (ix3 0 4 d)) (fun d => x2 (ix3 0 3 d))

theorem pay8_value (r : Fin 512) (e : Fin 1024) :
    k0_pay8 (F := Ideal) (k0_pay15 x0 x1 x2 x3 x4 x5 x6) (k0_pay16 x0 x1 x2 x3 x4 x5 x6) (k0_pay17 x0 x1 x2 x3 x4 x5 x6) (k0_pay18 x0 x1 x2 x3 x4 x5 x6) (ix2 r e)
      = normRow x0 x1 x2 x3 x4 x5 r e := by
  rw [norm_value, ld_gain, ld_offset, ld_cent, ld_spread]; rfl

theorem pay9_value (r : Fin 512) (e : Fin 1024) :
    k0_pay9 (F := Ideal) (k0_pay14 x0 x1 x2 x3 x4 x5 x6) (k0_pay15 x0 x1 x2 x3 x4 x5 x6) (k0_pay16 x0 x1 x2 x3 x4 x5 x6) (k0_pay17 x0 x1 x2 x3 x4 x5 x6) (k0_pay18 x0 x1 x2 x3 x4 x5 x6) (ix2 r e)
      = hidRow x0 x1 x2 x3 x4 x5 r e := by
  rw [hidden_value, pay8_value, ld_mod, ld_mod]; rfl

/-- The first result's block: the normed rows. -/
theorem block7 (r : Fin 512) (e : Fin 1024) : out0_7 (F := Ideal) x0 x1 x2 x3 x4 x5 x6 (ix3 0 r e) = normRow x0 x1 x2 x3 x4 x5 r e := by
  unfold out0_7
  rw [View.canon_unit_zero zero3, ← pay8_value x0 x1 x2 x3 x4 x5 x6]
  pointwise [k0_pay12]

/-- The second result's block: the modulated rows. -/
theorem block8 (r : Fin 512) (e : Fin 1024) : out0_8 (F := Ideal) x0 x1 x2 x3 x4 x5 x6 (ix3 0 r e) = hidRow x0 x1 x2 x3 x4 x5 r e := by
  unfold out0_8
  rw [View.canon_unit_zero zero3, ← pay9_value x0 x1 x2 x3 x4 x5 x6]
  pointwise [k0_pay13, k0_pay10]

/-- The logits the kernel adds up in three parts. -/
def parts (h : Fin 1024 → EReal) (hi lo : Fin 1024 → Fin 16 → EReal) (k : Fin 16) : EReal :=
  ((∑ d : Fin 1024, h d * hi d k) + ∑ d : Fin 1024, h d * lo d k) + ∑ d : Fin 1024, (h d - h d) * hi d k

/-- The third result's block: the routing affinities. -/
theorem block9 (k : Fin 16) (r : Fin 512) : out0_9 (F := Ideal) x0 x1 x2 x3 x4 x5 x6 (ix3 0 k r)
    = soft (parts (hidRow x0 x1 x2 x3 x4 x5 r) (fun d i => x6 (ix2 d ⟨i.val, by omega⟩)) (fun d i => x6 (ix2 d ⟨128 + i.val, by omega⟩))) k := by
  have h : (fun i : Fin 16 => logits (k0_pay14 (F := Ideal) x0 x1 x2 x3 x4 x5 x6) (k0_pay15 x0 x1 x2 x3 x4 x5 x6) (k0_pay16 x0 x1 x2 x3 x4 x5 x6)
        (k0_pay5 (View.ld x6 r0_4)) (k0_pay17 x0 x1 x2 x3 x4 x5 x6) (k0_pay18 x0 x1 x2 x3 x4 x5 x6) (ix2 i r))
      = parts (hidRow x0 x1 x2 x3 x4 x5 r) (fun d i => x6 (ix2 d ⟨i.val, by omega⟩)) (fun d i => x6 (ix2 d ⟨128 + i.val, by omega⟩)) := by
    funext i
    rw [logits_value]
    simp only [pay9_value, ld_router, parts]
  unfold out0_9
  rw [View.canon_unit_zero zero3, ← h, ← affinity_value]
  pointwise [k0_pay1]
end

end Cert.Kernel5Ideal.Post

end
-- ==== Proof.PostPre.lean ====
/-
  The output projection's precondition read: where it holds, every argument is made of real numbers; and then so are
  the normed rows, the modulated rows and the router.
-/
module

public import proofs.«01_k».proof.Pre_inputs_finite
public import proofs.«01_k».proof.Proof.AttnPre
public import proofs.«01_k».proof.Proof.PostPoint

@[expose] public section
noncomputable section
namespace Cert.Pre_inputs_finite
open Idealize.ShloMosaic

/-- The side conditions of the precondition's operations. -/
instance facts : Facts where
  bcast_S_S4x8192x1024 := by decide
  reducesTo_S4x8192x1024_S_d0_1_2 := by decide
  h_S_ := by decide
  bcast_S_S4x6x1024 := by decide
  reducesTo_S4x6x1024_S_d0_1_2 := by decide
  bcast_S_S1024x1024 := by decide
  reducesTo_S1024x1024_S_d0_1 := by decide
  bcast_S_S1024 := by decide
  reducesTo_S1024_S_d0 := by decide
  bcast_S_S1024x16 := by decide
  reducesTo_S1024x16_S_d0_1 := by decide

open Cert.Pre_scores_finite (real_of_lt)

instance : Subsingleton S_.Idx := ⟨fun i j => funext fun a => a.elim0⟩

/-- Where the precondition holds, all seven arguments are made of real numbers. -/
theorem real_args [Facts] (x0 x1 : FVec Ideal S4x8192x1024 .f32) (x2 : FVec Ideal S4x6x1024 .f32) (x3 : FVec Ideal S1024x1024 .f32) (x4 x5 : FVec Ideal S1024 .f32) (x6 : FVec Ideal S1024x16 .f32)
    (h : fn (F := Ideal) x0 x1 x2 x3 x4 x5 x6 = fun _ => 1#1) :
    (∀ i, ∃ r : ℝ, x0 i = (r : EReal)) ∧ (∀ i, ∃ r : ℝ, x1 i = (r : EReal)) ∧ (∀ i, ∃ r : ℝ, x2 i = (r : EReal)) ∧ (∀ i, ∃ r : ℝ, x3 i = (r : EReal))
      ∧ (∀ i, ∃ r : ℝ, x4 i = (r : EReal)) ∧ (∀ i, ∃ r : ℝ, x5 i = (r : EReal)) ∧ ∀ i, ∃ r : ℝ, x6 i = (r : EReal) := by
  have h0 := congrFun h (fun a => a.elim0)
  obtain ⟨g5, h6⟩ := IntOp.andi_eq_one.mp h0
  obtain ⟨g4, h5⟩ := IntOp.andi_eq_one.mp g5
  obtain ⟨g3, h4⟩ := IntOp.andi_eq_one.mp g4
  obtain ⟨g2, h3⟩ := IntOp.andi_eq_one.mp g3
  obtain ⟨g1, h2⟩ := IntOp.andi_eq_one.mp g2
  obtain ⟨hx, h1⟩ := IntOp.andi_eq_one.mp g1
  exact ⟨fun i => real_of_lt _ (Host.reduce_andi_all _ _ _ _ _ hx i), fun i => real_of_lt _ (Host.reduce_andi_all _ _ _ _ _ h1 i),
    fun i => real_of_lt _ (Host.reduce_andi_all _ _ _ _ _ h2 i), fun i => real_of_lt _ (Host.reduce_andi_all _ _ _ _ _ h3 i),
    fun i => real_of_lt _ (Host.reduce_andi_all _ _ _ _ _ h4 i), fun i => real_of_lt _ (Host.reduce_andi_all _ _ _ _ _ h5 i),
    fun i => real_of_lt _ (Host.reduce_andi_all _ _ _ _ _ h6 i)⟩

end Cert.Pre_inputs_finite

namespace Cert.Kernel5Ideal.Post
open Idealize.ShloMosaic

/-- Neither of the two infinities. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, rfl⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sub {x y : EReal} (hx : IsReal x) (hy : IsReal y) : IsReal (x - y) := by
  obtain ⟨a, rfl⟩ := hx; obtain ⟨b, rfl⟩ := hy; exact ⟨a - b, rfl⟩
theorem IsReal.sum {n : Nat} {f : Fin n → EReal} (hf : ∀ k, IsReal (f k)) : IsReal (∑ k, f k) := by
  refine Finset.sum_induction f IsReal (fun _ _ ha hb => ha.add hb) ⟨0, rfl⟩ fun k _ => hf k
theorem IsReal.sub_self {x : EReal} (hx : IsReal x) : x - x = 0 := by
  obtain ⟨a, rfl⟩ := hx
  rw [← EReal.coe_sub, _root_.sub_self]; rfl

theorem word_n : Ideal.ofBits .f32 0x44800000#32 = ((1024 : ℝ) : EReal) := by
  simp [Ideal.ofBits, Ideal.ieee]; norm_cast; norm_num
theorem word_eps : ∃ r : ℝ, 0 < r ∧ Ideal.ofBits .f32 0x3727C5AC#32 = (r : EReal) := by
  refine ⟨10995116 * (2 ^ 40)⁻¹, by positivity, ?_⟩
  simp [Ideal.ofBits, Ideal.ieee]
  try norm_cast
  try norm_num
theorem word_alpha : IsReal (Ideal.ofBits .f32 0x3FD744FD#32) := by
  refine ⟨14107901 * (2 ^ 23)⁻¹, ?_⟩
  simp [Ideal.ofBits, Ideal.ieee]
  try norm_cast
  try norm_num

/-- A sum of real numbers taken among the extended reals. -/
theorem coe_sum {n : Nat} (f : Fin n → ℝ) : (∑ k, (f k : EReal)) = ((∑ k, f k : ℝ) : EReal) :=
  (map_sum (⟨⟨Real.toEReal, rfl⟩, EReal.coe_add⟩ : ℝ →+ EReal) f Finset.univ).symm

theorem div_n (a : ℝ) : Ideal.div (a : EReal) (Ideal.ofBits .f32 0x44800000#32) = ((a * 1024⁻¹ : ℝ) : EReal) := by
  rw [word_n, Ideal.div, if_neg (by norm_num), ← EReal.coe_inv, ← EReal.coe_mul]

theorem fin_cent {z : Fin 1024 → EReal} (hz : ∀ e, IsReal (z e)) (e : Fin 1024) : IsReal (cent z e) := by
  obtain ⟨s, hs⟩ := IsReal.sum hz
  unfold cent
  rw [hs, div_n]
  exact (hz e).sub ⟨_, rfl⟩

theorem fin_rsqrt {z : Fin 1024 → EReal} (hz : ∀ e, IsReal (z e)) : IsReal (Ideal.rsqrt (spread z)) := by
  choose c hc using fin_cent hz
  obtain ⟨eps, he, hw⟩ := word_eps
  have hsum : (∑ k, cent z k * cent z k) = ((∑ k, c k * c k : ℝ) : EReal) := by
    simp only [hc, ← EReal.coe_mul]
    exact coe_sum fun k => c k * c k
  have hpos : 0 < (∑ k, c k * c k) * 1024⁻¹ + eps :=
    add_pos_of_nonneg_of_pos (mul_nonneg (Finset.sum_nonneg fun k _ => mul_self_nonneg _) (by norm_num)) he
  unfold spread
  rw [hsum, div_n, hw, ← EReal.coe_add]
  refine ⟨(Real.sqrt ((∑ k, c k * c k) * 1024⁻¹ + eps))⁻¹, ?_⟩
  show (if _ < (0 : ℝ) then (⊥ : EReal) else if _ = (0 : ℝ) then ⊤ else _) = _
  rw [if_neg hpos.le.not_gt, if_neg hpos.ne']

theorem fin_resid {o x gate : Fin 1024 → EReal} {w : Fin 1024 → Fin 1024 → EReal} (ho : ∀ e, IsReal (o e)) (hx : ∀ e, IsReal (x e)) (hg : ∀ e, IsReal (gate e))
    (hw : ∀ d e, IsReal (w d e)) (e : Fin 1024) : IsReal (resid o x gate w e) :=
  (word_alpha.mul (hx e)).add ((hg e).mul (IsReal.sum fun d => (ho d).mul (hw d e)))

theorem fin_norm {z g h : Fin 1024 → EReal} (hz : ∀ e, IsReal (z e)) (hg : ∀ e, IsReal (g e)) (hh : ∀ e, IsReal (h e)) (e : Fin 1024) : IsReal (norm z g h e) :=
  (((fin_cent hz e).mul (fin_rsqrt hz)).mul (hg e)).add (hh e)

theorem fin_hidden {z a b : Fin 1024 → EReal} (hz : ∀ e, IsReal (z e)) (ha : ∀ e, IsReal (a e)) (hb : ∀ e, IsReal (b e)) (e : Fin 1024) : IsReal (hidden z a b e) :=
  ((hz e).mul (IsReal.add ⟨1, rfl⟩ (ha e))).add (hb e)

/-- With real rows and a real router the second and third parts of the logits vanish. -/
theorem parts_eq {h : Fin 1024 → EReal} {w : Fin 1024 → Fin 16 → EReal} (hh : ∀ d, IsReal (h d)) (hw : ∀ d k, IsReal (w d k)) (k : Fin 16) :
    parts h w (fun d i => w d i - w d i) k = ∑ d : Fin 1024, h d * w d k := by
  unfold parts
  simp only [(hw _ _).sub_self, (hh _).sub_self, mul_zero, zero_mul, Finset.sum_const_zero, add_zero]

end Cert.Kernel5Ideal.Post
end
-- ==== Proof.PostClaim.lean ====
/-
  The output projection of an attention layer: the three result arrays of the kernel's run, the reference's results at
  an index, and their equality where the arguments are real numbers.
-/
module

public import proofs.«01_k».proof.Proof.PostPre
public import proofs.«01_k».proof.Proof.HostWrite
public import proofs.«01_k».proof.Proof.Gen.Reference5Ideal.Run
public import proofs.«01_k».proof.Proof.Gen.Reference5Ideal.Read

@[expose] public section

set_option maxRecDepth 16384

noncomputable section

namespace Cert.Kernel5Ideal.Post

section Arrays
open Cert.Kernel5Ideal Cert.Kernel5Ideal.Gen Idealize.ShloMosaic Idealize.ShloMosaic.TcCoe Idealize.SL.Sem

variable (m : (ℓ : Loc nD τ sig) → Buf (Elt Ideal) ℓ) (g : Dev nD → PrngReg)

/-! ## What the call finds in its operands -/

/-- Six rows written into eight rows of zeros. -/
def eight (x : Vec Ideal S4x6x1024 .f32) : Vec Ideal S4x8x1024 .f32 :=
  Host.scatter scatter_S4x8x1024_S1_S4x6x1024_012_n_1_0 (fun _ b => b) (broadcastInDim S4x8x1024 ![] bcast_S_S4x8x1024 (constant (F := Ideal) S_ .f32 0x00000000#32))
    (broadcastInDim S1 ![] bcast_S_S1 (constantI S_ 32 0#32)) x

theorem eight_value (x : Vec Ideal S4x6x1024 .f32) (b : Fin 4) (s : Fin 8) (d : Fin 1024) (hs : s.val < 6) : eight x (ix3 b s d) = x (ix3 b ⟨s.val, hs⟩ d) :=
  Cert.HostWrite.rows _ rfl rfl _ _ (fun _ => rfl) _ b s d hs

/-- The router written into the first 16 of 128 columns of zeros. -/
def wide (x : Vec Ideal S1024x16 .f32) : Vec Ideal S1024x128 .f32 :=
  Host.scatter scatter_S1024x128_S1_S1024x16_01_n_1_0 (fun _ b => b) (broadcastInDim S1024x128 ![] bcast_S_S1024x128 (constant (F := Ideal) S_ .f32 0x00000000#32))
    (broadcastInDim S1 ![] bcast_S_S1 (constantI S_ 32 0#32)) x

theorem wide_value (x : Vec Ideal S1024x16 .f32) (d : Fin 1024) (k : Fin 128) (hk : k.val < 16) : wide x (ix2 d k) = x (ix2 d ⟨k.val, hk⟩) :=
  Cert.HostWrite.columns _ rfl rfl _ _ (fun _ => rfl) _ d k hk

/-- The router rounded to the narrow format, and beside it what the rounding took away. -/
def split (P : Vec Ideal S1024x128 .f32) : Vec Ideal S1024x256 .bf16 :=
  concatenate S1024x256 1 [⟨S1024x128, truncf (F := Ideal) .bf16 (extf .f32 (truncf (F := Ideal) .bf16 P bitsLt_bf16_f32) bitsLt_bf16_f32) bitsLt_bf16_f32⟩,
    ⟨S1024x128, truncf (F := Ideal) .bf16 (subf P (extf .f32 (truncf (F := Ideal) .bf16 P bitsLt_bf16_f32) bitsLt_bf16_f32)) bitsLt_bf16_f32⟩]
    concatenates_S1024x128_S1024x128_S1024x256_d1

theorem split_high (P : Vec Ideal S1024x128 .f32) (d : Fin 1024) (k : Fin 16) : split P (ix2 d ⟨k.val, by omega⟩) = P (ix2 d ⟨k.val, by omega⟩) := by
  unfold split
  pointwise
  exact dif_pos (show k.val < 128 by omega)

theorem split_low (P : Vec Ideal S1024x128 .f32) (d : Fin 1024) (k : Fin 16) :
    split P (ix2 d ⟨128 + k.val, by omega⟩) = P (ix2 d ⟨k.val, by omega⟩) - P (ix2 d ⟨k.val, by omega⟩) := by
  unfold split
  pointwise

theorem o_entry (c : Dev nD) (i : S4x8192x1024.Idx) : V m c main_v0 i = m ((c : Thread nD τ).loc main_arg0) i := by
  have h : V m c main_v0 = truncf (F := Ideal) .bf16 (m ((c : Thread nD τ).loc main_arg0)) bitsLt_bf16_f32 := by
    simp only [V, hostOps0, StableHlo.TRef.binary, StableHlo.TRef.unary, StableHlo.TRef.toBuf, StableHlo.TRef.ofBuf, cast_eq]
    after_results
  rw [h]; rfl

theorem mod_entry (c : Dev nD) (b : Fin 4) (s : Fin 8) (d : Fin 1024) (hs : s.val < 6) :
    V m c main_v3 (ix3 b s d) = m ((c : Thread nD τ).loc main_arg2) (ix3 b ⟨s.val, hs⟩ d) := by
  have h : V m c main_v3 = eight (m ((c : Thread nD τ).loc main_arg2)) := by
    simp only [V, hostOps0, StableHlo.TRef.binary, StableHlo.TRef.unary, StableHlo.TRef.toBuf, StableHlo.TRef.ofBuf, cast_eq]
    after_results
    rfl
  rw [h]
  exact eight_value _ b s d hs

theorem weight_entry (c : Dev nD) (i : S1024x1024.Idx) : V m c main_v4 i = m ((c : Thread nD τ).loc main_arg3) i := by
  have h : V m c main_v4 = truncf (F := Ideal) .bf16 (m ((c : Thread nD τ).loc main_arg3)) bitsLt_bf16_f32 := by
    simp only [V, hostOps0, StableHlo.TRef.binary, StableHlo.TRef.unary, StableHlo.TRef.toBuf, StableHlo.TRef.ofBuf, cast_eq]
    after_results
  rw [h]; rfl

/-- A row of 1024 numbers seen as a matrix of one row. -/
theorem one_row (x : Vec Ideal S1024 .f32) (e : Fin 1024) : shapeCast S1x1024 x shapeCasts_S1024_S1x1024 (ix2 0 e) = x (ix1 e) := by
  pointwise

theorem gain_entry (c : Dev nD) (e : Fin 1024) : V m c main_v14 (ix2 0 e) = m ((c : Thread nD τ).loc main_arg4) (ix1 e) := by
  have h : V m c main_v14 = shapeCast S1x1024 (m ((c : Thread nD τ).loc main_arg4)) shapeCasts_S1024_S1x1024 := by
    simp only [V, hostOps0, StableHlo.TRef.binary, StableHlo.TRef.unary, StableHlo.TRef.toBuf, StableHlo.TRef.ofBuf, cast_eq]
    after_results
    rfl
  rw [h]
  exact one_row _ e

theorem offset_entry (c : Dev nD) (e : Fin 1024) : V m c main_v15 (ix2 0 e) = m ((c : Thread nD τ).loc main_arg5) (ix1 e) := by
  have h : V m c main_v15 = shapeCast S1x1024 (m ((c : Thread nD τ).loc main_arg5)) shapeCasts_S1024_S1x1024 := by
    simp only [V, hostOps0, StableHlo.TRef.binary, StableHlo.TRef.unary, StableHlo.TRef.toBuf, StableHlo.TRef.ofBuf, cast_eq]
    after_results
    rfl
  rw [h]
  exact one_row _ e

theorem router_value (c : Dev nD) : V m c main_v13 = split (wide (m ((c : Thread nD τ).loc main_arg6))) := by
  simp only [V, hostOps0, StableHlo.TRef.binary, StableHlo.TRef.unary, StableHlo.TRef.toBuf, StableHlo.TRef.ofBuf, cast_eq]
  after_results
  rfl

theorem router_high (c : Dev nD) (d : Fin 1024) (k : Fin 16) : V m c main_v13 (ix2 d ⟨k.val, by omega⟩) = m ((c : Thread nD τ).loc main_arg6) (ix2 d k) := by
  rw [router_value, split_high, wide_value _ d ⟨k.val, by omega⟩ k.isLt]
/-- A router's entry less itself. -/
def less (x : Vec Ideal S1024x16 .f32) (d : Fin 1024) (k : Fin 16) : EReal := x (ix2 d k) - x (ix2 d k)
theorem router_low (c : Dev nD) (d : Fin 1024) (k : Fin 16) : V m c main_v13 (ix2 d ⟨128 + k.val, by omega⟩) = less (m ((c : Thread nD τ).loc main_arg6)) d k := by
  rw [router_value, split_low, wide_value _ d ⟨k.val, by omega⟩ k.isLt]
  rfl

/-! ## The blocks a point reads -/

/-- Point `t` works on batch row `t / 16` and the rows `512 (t mod 16)` on. -/
theorem index_facts : ∀ t : Fin cfg0.N, (win0_0.index t = ![t.val / 16, t.val % 16, 0] ∧ win0_1.index t = ![t.val / 16, t.val % 16, 0]
    ∧ win0_2.index t = ![t.val / 16, 0, 0] ∧ win0_3.index t = ![0, 0] ∧ win0_4.index t = ![0, 0] ∧ win0_5.index t = ![0, 0] ∧ win0_6.index t = ![0, 0])
    ∧ win0_7.index t = ![t.val / 16, t.val % 16, 0] ∧ win0_8.index t = ![t.val / 16, t.val % 16, 0] ∧ win0_9.index t = ![t.val / 16, 0, t.val % 16] := by
  decide +kernel

theorem blk0 (c : Dev nD) (t : Fin cfg0.N) (b : Fin 4) (q : Fin 16) (hb : t.val / 16 = b.val) (hq : t.val % 16 = q.val) (r : Fin 512) (d : Fin 1024) :
    iblk m c 0 t (ix3 0 r d) = m ((c : Thread nD τ).loc main_arg0) (ix3 b ⟨512 * q.val + r.val, by omega⟩ d) := by
  have h := (index_facts t).1.1
  rw [hb, hq] at h
  refine Eq.trans ?_ (o_entry m c (ix3 b ⟨512 * q.val + r.val, by omega⟩ d))
  blk_ext [iblk, h]
theorem blk1 (c : Dev nD) (t : Fin cfg0.N) (b : Fin 4) (q : Fin 16) (hb : t.val / 16 = b.val) (hq : t.val % 16 = q.val) (r : Fin 512) (d : Fin 1024) :
    iblk m c 1 t (ix3 0 r d) = m ((c : Thread nD τ).loc main_arg1) (ix3 b ⟨512 * q.val + r.val, by omega⟩ d) := by
  have h := (index_facts t).1.2.1
  rw [hb, hq] at h
  blk_ext [iblk, V_main_arg1, h]
theorem blk2 (c : Dev nD) (t : Fin cfg0.N) (b : Fin 4) (hb : t.val / 16 = b.val) (s : Fin 8) (hs : s.val < 6) (d : Fin 1024) :
    iblk m c 2 t (ix3 0 s d) = m ((c : Thread nD τ).loc main_arg2) (ix3 b ⟨s.val, hs⟩ d) := by
  have h := (index_facts t).1.2.2.1
  rw [hb] at h
  have key : ∀ W : Buf (Elt Ideal) ((c : Thread nD τ).loc main_v3), ((cfg0.win 2).blk t).view.read (Elt Ideal) W (ix3 0 s d) = W (ix3 b s d) := by
    intro W
    blk_ext [h]
  exact (key (V m c main_v3)).trans (mod_entry m c b s d hs)
theorem blk3 (c : Dev nD) (t : Fin cfg0.N) (d e : Fin 1024) : iblk m c 3 t (ix2 d e) = m ((c : Thread nD τ).loc main_arg3) (ix2 d e) := by
  have h := (index_facts t).1.2.2.2.1
  refine Eq.trans ?_ (weight_entry m c (ix2 d e))
  blk_ext [iblk, h]
theorem blk4 (c : Dev nD) (t : Fin cfg0.N) (e : Fin 1024) : iblk m c 4 t (ix2 0 e) = m ((c : Thread nD τ).loc main_arg4) (ix1 e) := by
  have h := (index_facts t).1.2.2.2.2.1
  refine Eq.trans ?_ (gain_entry m c e)
  blk_ext [iblk, h]
theorem blk5 (c : Dev nD) (t : Fin cfg0.N) (e : Fin 1024) : iblk m c 5 t (ix2 0 e) = m ((c : Thread nD τ).loc main_arg5) (ix1 e) := by
  have h := (index_facts t).1.2.2.2.2.2.1
  refine Eq.trans ?_ (offset_entry m c e)
  blk_ext [iblk, h]
theorem blk6 (c : Dev nD) (t : Fin cfg0.N) (d : Fin 1024) (k : Fin 256) : iblk m c 6 t (ix2 d k) = V m c main_v13 (ix2 d k) := by
  have h := (index_facts t).1.2.2.2.2.2.2
  blk_ext [iblk, h]

/-! ## The rows of the whole arrays -/

section Rows
variable (a0 a1 : Vec Ideal S4x8192x1024 .f32) (a2 : Vec Ideal S4x6x1024 .f32) (a3 : Vec Ideal S1024x1024 .f32) (a4 a5 : Vec Ideal S1024 .f32) (a6 : Vec Ideal S1024x16 .f32)

/-- The residual's row `n` of batch row `b`. -/
def zRow (b : Fin 4) (n : Fin 8192) : Fin 1024 → EReal :=
  resid (fun d => a0 (ix3 b n d)) (fun d => a1 (ix3 b n d)) (fun d => a2 (ix3 b 2 d)) (fun d e => a3 (ix2 d e))
/-- The normed row. -/
def xRow (b : Fin 4) (n : Fin 8192) : Fin 1024 → EReal := norm (zRow a0 a1 a2 a3 b n) (fun d => a4 (ix1 d)) (fun d => a5 (ix1 d))
/-- The modulated row. -/
def hRow (b : Fin 4) (n : Fin 8192) : Fin 1024 → EReal := hidden (xRow a0 a1 a2 a3 a4 a5 b n) (fun d => a2 (ix3 b 4 d)) (fun d => a2 (ix3 b 3 d))
/-- The affinities as the kernel takes them, the logits in three parts. -/
def affParts (b : Fin 4) (n : Fin 8192) : Fin 16 → EReal :=
  soft (parts (hRow a0 a1 a2 a3 a4 a5 b n) (fun d k => a6 (ix2 d k)) (fun d k => a6 (ix2 d k) - a6 (ix2 d k)))
/-- The affinities as the reference takes them. -/
def affRow (b : Fin 4) (n : Fin 8192) : Fin 16 → EReal := soft (fun k => ∑ d : Fin 1024, hRow a0 a1 a2 a3 a4 a5 b n d * a6 (ix2 d k))
end Rows

/-- The normed rows, an array. -/
def arr7 (c : Dev nD) : Vec Ideal S4x8192x1024 .f32 := fun i => xRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2)
/-- The modulated rows, an array. -/
def arr8 (c : Dev nD) : Vec Ideal S4x8192x1024 .bf16 := fun i => hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2)
/-- The affinities, an array. -/
def arr9 (c : Dev nD) : Vec Ideal S4x16x8192 .f32 := fun i => affParts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (i 0) (i 2) (i 1)

section Point
variable (c : Dev nD) (t : Fin cfg0.N) (b : Fin 4) (q : Fin 16) (hb : t.val / 16 = b.val) (hq : t.val % 16 = q.val) (r : Fin 512)
include hb hq

theorem point_row : row (iblk m c 0 t) (iblk m c 1 t) (iblk m c 2 t) (iblk m c 3 t) r = zRow (m ((c : Thread nD τ).loc main_arg0)) (m ((c : Thread nD τ).loc main_arg1)) (m ((c : Thread nD τ).loc main_arg2)) (m ((c : Thread nD τ).loc main_arg3)) b ⟨512 * q.val + r.val, by omega⟩ := by
  unfold row zRow
  rw [funext fun d => blk0 m c t b q hb hq r d, funext fun d => blk1 m c t b q hb hq r d, funext fun d => blk2 m c t b hb 2 (by decide) d,
    funext fun d => funext fun e => blk3 m c t d e]
  rfl

theorem point_norm : normRow (iblk m c 0 t) (iblk m c 1 t) (iblk m c 2 t) (iblk m c 3 t) (iblk m c 4 t) (iblk m c 5 t) r
    = xRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b ⟨512 * q.val + r.val, by omega⟩ := by
  unfold normRow xRow
  rw [point_row m c t b q hb hq r, funext fun d => blk4 m c t d, funext fun d => blk5 m c t d]

theorem point_hid : hidRow (iblk m c 0 t) (iblk m c 1 t) (iblk m c 2 t) (iblk m c 3 t) (iblk m c 4 t) (iblk m c 5 t) r
    = hRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) b ⟨512 * q.val + r.val, by omega⟩ := by
  unfold hidRow hRow
  rw [point_norm m c t b q hb hq r, funext fun d => blk2 m c t b hb 4 (by decide) d, funext fun d => blk2 m c t b hb 3 (by decide) d]
  rfl

theorem point7 (e : Fin 1024) : out0_7 (F := Ideal) (iblk m c 0 t) (iblk m c 1 t) (iblk m c 2 t) (iblk m c 3 t) (iblk m c 4 t) (iblk m c 5 t) (iblk m c 6 t) (ix3 0 r e) = arr7 m c (ix3 b ⟨512 * q.val + r.val, by omega⟩ e) := by
  rw [block7, point_norm m c t b q hb hq r]; rfl
theorem point8 (e : Fin 1024) : out0_8 (F := Ideal) (iblk m c 0 t) (iblk m c 1 t) (iblk m c 2 t) (iblk m c 3 t) (iblk m c 4 t) (iblk m c 5 t) (iblk m c 6 t) (ix3 0 r e) = arr8 m c (ix3 b ⟨512 * q.val + r.val, by omega⟩ e) := by
  rw [block8, point_hid m c t b q hb hq r]; rfl
theorem point9 (k : Fin 16) : out0_9 (F := Ideal) (iblk m c 0 t) (iblk m c 1 t) (iblk m c 2 t) (iblk m c 3 t) (iblk m c 4 t) (iblk m c 5 t) (iblk m c 6 t) (ix3 0 k r) = arr9 m c (ix3 b k ⟨512 * q.val + r.val, by omega⟩) := by
  rw [block9, point_hid m c t b q hb hq r,
    funext fun d => funext fun i : Fin 16 => (blk6 m c t d ⟨i.val, by omega⟩).trans (router_high m c d i),
    funext fun d => funext fun i : Fin 16 => (blk6 m c t d ⟨128 + i.val, by omega⟩).trans (router_low m c d i)]
  rfl
end Point

/-- The point that writes row `n` of batch row `b`. -/
def pt (b : Fin 4) (n : Fin 8192) : Fin cfg0.N := ⟨16 * b.val + n.val / 512, lt_of_lt_of_eq (by omega) N_0.symm⟩

/-! ## The result arrays -/

/-- Each point writes its 512 rows: normed. -/
theorem flushed7 (c : Dev nD) (t : Fin cfg0.N) : (dats m 0 c).flushed 7 t = ((cfg0.win 7).blk t).view.read (Elt Ideal) (arr7 m c) := by
  show (cfg0.win 7).cut (grid0.coords t) ((dats m 0 c).after 7 t) = _
  rw [after0_7]
  have ht : t.val < 64 := lt_of_lt_of_eq t.isLt N_0
  have h := (index_facts t).2.1
  have e0 : win0_7.index t (0 : Fin 3) = t.val / 16 := congrFun h 0
  have e1 : win0_7.index t (1 : Fin 3) = t.val % 16 := congrFun h 1
  have e2 : win0_7.index t (2 : Fin 3) = 0 := congrFun h 2
  funext y
  have hy0 : (y 0).val < 1 := (y 0).isLt
  have hy1 : (y 1).val < 512 := (y 1).isLt
  have hy2 : (y 2).val < 1024 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 512 + 1 * (y 1).val := rfl
  have hb2 : (((cfg0.win 7).blk t).view.emb y 2).val = win0_7.index t (2 : Fin 3) * 1024 + 1 * (y 2).val := rfl
  show out0_7 (F := Ideal) (iblk m c 0 t) (iblk m c 1 t) (iblk m c 2 t) (iblk m c 3 t) (iblk m c 4 t) (iblk m c 5 t) (iblk m c 6 t) ((cfg0.win 7).xinj (grid0.coords t) y) = arr7 m c (((cfg0.win 7).blk t).view.emb y)
  have hl : (cfg0.win 7).xinj (grid0.coords t) y = (ix3 0 ⟨(y 1).val, hy1⟩ ⟨(y 2).val, hy2⟩ : S1x512x1024.Idx) := by
    funext a; apply Fin.ext
    match a with
    | ⟨0, _⟩ => show (y 0).val = 0; omega
    | ⟨1, _⟩ => rfl
    | ⟨2, _⟩ => rfl
  have hr : ((cfg0.win 7).blk t).view.emb y = (ix3 ⟨t.val / 16, by omega⟩ ⟨512 * (t.val % 16) + (y 1).val, by omega⟩ ⟨(y 2).val, hy2⟩ : S4x8192x1024.Idx) := by
    funext a; apply Fin.ext
    match a with
    | ⟨0, _⟩ => show (((cfg0.win 7).blk t).view.emb y 0).val = t.val / 16; rw [hb0, e0]; omega
    | ⟨1, _⟩ => show (((cfg0.win 7).blk t).view.emb y 1).val = 512 * (t.val % 16) + (y 1).val; rw [hb1, e1]; omega
    | ⟨2, _⟩ => show (((cfg0.win 7).blk t).view.emb y 2).val = (y 2).val; rw [hb2, e2]; omega
  rw [hl, hr]
  exact point7 m c t ⟨t.val / 16, by omega⟩ ⟨t.val % 16, by omega⟩ rfl rfl ⟨(y 1).val, hy1⟩ ⟨(y 2).val, hy2⟩

theorem mem7 (t : Fin cfg0.N) (i : S4x8192x1024.Idx) :
    i ∈ ((cfg0.win 7).blk t).view.set ↔ ∀ a : Fin 3, win0_7.index t a * S1x512x1024.size a ≤ (i a).val ∧ (i a).val < win0_7.index t a * S1x512x1024.size a + S1x512x1024.size a := by
  show i ∈ ((View.whole main_v16_0).slice (win0_7.rect t)).set ↔ _
  rw [View.set_slice_whole, Rect.mem_set_unit]
  exact Iff.rfl

/-- The points' blocks tile the result. -/
theorem array7 (c : Dev nD) : (dats m 0 c).arrAt 7 cfg0.N = arr7 m c :=
  (dats m 0 c).arrAt_eq_of_cover 7 _ (fun t _ => flushed7 m c t) (fun i => by
    have hi0 : (i 0).val < 4 := (i 0).isLt
    have hi1 : (i 1).val < 8192 := (i 1).isLt
    have hi2 : (i 2).val < 1024 := (i 2).isLt
    have hv : (pt (i 0) (i 1)).val = 16 * (i 0).val + (i 1).val / 512 := rfl
    have h := (index_facts (pt (i 0) (i 1))).2.1
    have e0 : win0_7.index (pt (i 0) (i 1)) (0 : Fin 3) = (pt (i 0) (i 1)).val / 16 := congrFun h 0
    have e1 : win0_7.index (pt (i 0) (i 1)) (1 : Fin 3) = (pt (i 0) (i 1)).val % 16 := congrFun h 1
    have e2 : win0_7.index (pt (i 0) (i 1)) (2 : Fin 3) = 0 := congrFun h 2
    rw [hv] at e0 e1
    refine ⟨pt (i 0) (i 1), flush0_7 _, ?_⟩
    rw [mem7]
    intro a
    match a with
    | ⟨0, _⟩ => show win0_7.index (pt (i 0) (i 1)) (0 : Fin 3) * 1 ≤ (i 0).val ∧ (i 0).val < win0_7.index (pt (i 0) (i 1)) (0 : Fin 3) * 1 + 1; rw [e0]; omega
    | ⟨1, _⟩ => show win0_7.index (pt (i 0) (i 1)) (1 : Fin 3) * 512 ≤ (i 1).val ∧ (i 1).val < win0_7.index (pt (i 0) (i 1)) (1 : Fin 3) * 512 + 512; rw [e1]; omega
    | ⟨2, _⟩ => show win0_7.index (pt (i 0) (i 1)) (2 : Fin 3) * 1024 ≤ (i 2).val ∧ (i 2).val < win0_7.index (pt (i 0) (i 1)) (2 : Fin 3) * 1024 + 1024; rw [e2]; omega)

/-- Each point writes its 512 rows: modulated. -/
theorem flushed8 (c : Dev nD) (t : Fin cfg0.N) : (dats m 0 c).flushed 8 t = ((cfg0.win 8).blk t).view.read (Elt Ideal) (arr8 m c) := by
  show (cfg0.win 8).cut (grid0.coords t) ((dats m 0 c).after 8 t) = _
  rw [after0_8]
  have ht : t.val < 64 := lt_of_lt_of_eq t.isLt N_0
  have h := (index_facts t).2.2.1
  have e0 : win0_8.index t (0 : Fin 3) = t.val / 16 := congrFun h 0
  have e1 : win0_8.index t (1 : Fin 3) = t.val % 16 := congrFun h 1
  have e2 : win0_8.index t (2 : Fin 3) = 0 := congrFun h 2
  funext y
  have hy0 : (y 0).val < 1 := (y 0).isLt
  have hy1 : (y 1).val < 512 := (y 1).isLt
  have hy2 : (y 2).val < 1024 := (y 2).isLt
  have hb0 : (((cfg0.win 8).blk t).view.emb y 0).val = win0_8.index t (0 : Fin 3) * 1 + 1 * (y 0).val := rfl
  have hb1 : (((cfg0.win 8).blk t).view.emb y 1).val = win0_8.index t (1 : Fin 3) * 512 + 1 * (y 1).val := rfl
  have hb2 : (((cfg0.win 8).blk t).view.emb y 2).val = win0_8.index t (2 : Fin 3) * 1024 + 1 * (y 2).val := rfl
  show out0_8 (F := Ideal) (iblk m c 0 t) (iblk m c 1 t) (iblk m c 2 t) (iblk m c 3 t) (iblk m c 4 t) (iblk m c 5 t) (iblk m c 6 t) ((cfg0.win 8).xinj (grid0.coords t) y) = arr8 m c (((cfg0.win 8).blk t).view.emb y)
  have hl : (cfg0.win 8).xinj (grid0.coords t) y = (ix3 0 ⟨(y 1).val, hy1⟩ ⟨(y 2).val, hy2⟩ : S1x512x1024.Idx) := by
    funext a; apply Fin.ext
    match a with
    | ⟨0, _⟩ => show (y 0).val = 0; omega
    | ⟨1, _⟩ => rfl
    | ⟨2, _⟩ => rfl
  have hr : ((cfg0.win 8).blk t).view.emb y = (ix3 ⟨t.val / 16, by omega⟩ ⟨512 * (t.val % 16) + (y 1).val, by omega⟩ ⟨(y 2).val, hy2⟩ : S4x8192x1024.Idx) := by
    funext a; apply Fin.ext
    match a with
    | ⟨0, _⟩ => show (((cfg0.win 8).blk t).view.emb y 0).val = t.val / 16; rw [hb0, e0]; omega
    | ⟨1, _⟩ => show (((cfg0.win 8).blk t).view.emb y 1).val = 512 * (t.val % 16) + (y 1).val; rw [hb1, e1]; omega
    | ⟨2, _⟩ => show (((cfg0.win 8).blk t).view.emb y 2).val = (y 2).val; rw [hb2, e2]; omega
  rw [hl, hr]
  exact point8 m c t ⟨t.val / 16, by omega⟩ ⟨t.val % 16, by omega⟩ rfl rfl ⟨(y 1).val, hy1⟩ ⟨(y 2).val, hy2⟩

theorem mem8 (t : Fin cfg0.N) (i : S4x8192x1024.Idx) :
    i ∈ ((cfg0.win 8).blk t).view.set ↔ ∀ a : Fin 3, win0_8.index t a * S1x512x1024.size a ≤ (i a).val ∧ (i a).val < win0_8.index t a * S1x512x1024.size a + S1x512x1024.size a := by
  show i ∈ ((View.whole main_v16_1).slice (win0_8.rect t)).set ↔ _
  rw [View.set_slice_whole, Rect.mem_set_unit]
  exact Iff.rfl

/-- The points' blocks tile the result. -/
theorem array8 (c : Dev nD) : (dats m 0 c).arrAt 8 cfg0.N = arr8 m c :=
  (dats m 0 c).arrAt_eq_of_cover 8 _ (fun t _ => flushed8 m c t) (fun i => by
    have hi0 : (i 0).val < 4 := (i 0).isLt
    have hi1 : (i 1).val < 8192 := (i 1).isLt
    have hi2 : (i 2).val < 1024 := (i 2).isLt
    have hv : (pt (i 0) (i 1)).val = 16 * (i 0).val + (i 1).val / 512 := rfl
    have h := (index_facts (pt (i 0) (i 1))).2.2.1
    have e0 : win0_8.index (pt (i 0) (i 1)) (0 : Fin 3) = (pt (i 0) (i 1)).val / 16 := congrFun h 0
    have e1 : win0_8.index (pt (i 0) (i 1)) (1 : Fin 3) = (pt (i 0) (i 1)).val % 16 := congrFun h 1
    have e2 : win0_8.index (pt (i 0) (i 1)) (2 : Fin 3) = 0 := congrFun h 2
    rw [hv] at e0 e1
    refine ⟨pt (i 0) (i 1), flush0_8 _, ?_⟩
    rw [mem8]
    intro a
    match a with
    | ⟨0, _⟩ => show win0_8.index (pt (i 0) (i 1)) (0 : Fin 3) * 1 ≤ (i 0).val ∧ (i 0).val < win0_8.index (pt (i 0) (i 1)) (0 : Fin 3) * 1 + 1; rw [e0]; omega
    | ⟨1, _⟩ => show win0_8.index (pt (i 0) (i 1)) (1 : Fin 3) * 512 ≤ (i 1).val ∧ (i 1).val < win0_8.index (pt (i 0) (i 1)) (1 : Fin 3) * 512 + 512; rw [e1]; omega
    | ⟨2, _⟩ => show win0_8.index (pt (i 0) (i 1)) (2 : Fin 3) * 1024 ≤ (i 2).val ∧ (i 2).val < win0_8.index (pt (i 0) (i 1)) (2 : Fin 3) * 1024 + 1024; rw [e2]; omega)

/-- Each point writes its 512 rows: affinities. -/
theorem flushed9 (c : Dev nD) (t : Fin cfg0.N) : (dats m 0 c).flushed 9 t = ((cfg0.win 9).blk t).view.read (Elt Ideal) (arr9 m c) := by
  show (cfg0.win 9).cut (grid0.coords t) ((dats m 0 c).after 9 t) = _
  rw [after0_9]
  have ht : t.val < 64 := lt_of_lt_of_eq t.isLt N_0
  have h := (index_facts t).2.2.2
  have e0 : win0_9.index t (0 : Fin 3) = t.val / 16 := congrFun h 0
  have e1 : win0_9.index t (1 : Fin 3) = 0 := congrFun h 1
  have e2 : win0_9.index t (2 : Fin 3) = t.val % 16 := congrFun h 2
  funext y
  have hy0 : (y 0).val < 1 := (y 0).isLt
  have hy1 : (y 1).val < 16 := (y 1).isLt
  have hy2 : (y 2).val < 512 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 16 + 1 * (y 1).val := rfl
  have hb2 : (((cfg0.win 9).blk t).view.emb y 2).val = win0_9.index t (2 : Fin 3) * 512 + 1 * (y 2).val := rfl
  show out0_9 (F := Ideal) (iblk m c 0 t) (iblk m c 1 t) (iblk m c 2 t) (iblk m c 3 t) (iblk m c 4 t) (iblk m c 5 t) (iblk m c 6 t) ((cfg0.win 9).xinj (grid0.coords t) y) = arr9 m c (((cfg0.win 9).blk t).view.emb y)
  have hl : (cfg0.win 9).xinj (grid0.coords t) y = (ix3 0 ⟨(y 1).val, hy1⟩ ⟨(y 2).val, hy2⟩ : S1x16x512.Idx) := by
    funext a; apply Fin.ext
    match a with
    | ⟨0, _⟩ => show (y 0).val = 0; omega
    | ⟨1, _⟩ => rfl
    | ⟨2, _⟩ => rfl
  have hr : ((cfg0.win 9).blk t).view.emb y = (ix3 ⟨t.val / 16, by omega⟩ ⟨(y 1).val, hy1⟩ ⟨512 * (t.val % 16) + (y 2).val, by omega⟩ : S4x16x8192.Idx) := by
    funext a; apply Fin.ext
    match a with
    | ⟨0, _⟩ => show (((cfg0.win 9).blk t).view.emb y 0).val = t.val / 16; rw [hb0, e0]; omega
    | ⟨1, _⟩ => show (((cfg0.win 9).blk t).view.emb y 1).val = (y 1).val; rw [hb1, e1]; omega
    | ⟨2, _⟩ => show (((cfg0.win 9).blk t).view.emb y 2).val = 512 * (t.val % 16) + (y 2).val; rw [hb2, e2]; omega
  rw [hl, hr]
  exact point9 m c t ⟨t.val / 16, by omega⟩ ⟨t.val % 16, by omega⟩ rfl rfl ⟨(y 2).val, hy2⟩ ⟨(y 1).val, hy1⟩

theorem mem9 (t : Fin cfg0.N) (i : S4x16x8192.Idx) :
    i ∈ ((cfg0.win 9).blk t).view.set ↔ ∀ a : Fin 3, win0_9.index t a * S1x16x512.size a ≤ (i a).val ∧ (i a).val < win0_9.index t a * S1x16x512.size a + S1x16x512.size a := by
  show i ∈ ((View.whole main_v16_2).slice (win0_9.rect t)).set ↔ _
  rw [View.set_slice_whole, Rect.mem_set_unit]
  exact Iff.rfl

/-- The points' blocks tile the result. -/
theorem array9 (c : Dev nD) : (dats m 0 c).arrAt 9 cfg0.N = arr9 m c :=
  (dats m 0 c).arrAt_eq_of_cover 9 _ (fun t _ => flushed9 m c t) (fun i => by
    have hi0 : (i 0).val < 4 := (i 0).isLt
    have hi1 : (i 1).val < 16 := (i 1).isLt
    have hi2 : (i 2).val < 8192 := (i 2).isLt
    have hv : (pt (i 0) (i 2)).val = 16 * (i 0).val + (i 2).val / 512 := rfl
    have h := (index_facts (pt (i 0) (i 2))).2.2.2
    have e0 : win0_9.index (pt (i 0) (i 2)) (0 : Fin 3) = (pt (i 0) (i 2)).val / 16 := congrFun h 0
    have e1 : win0_9.index (pt (i 0) (i 2)) (1 : Fin 3) = 0 := congrFun h 1
    have e2 : win0_9.index (pt (i 0) (i 2)) (2 : Fin 3) = (pt (i 0) (i 2)).val % 16 := congrFun h 2
    rw [hv] at e0 e2
    refine ⟨pt (i 0) (i 2), flush0_9 _, ?_⟩
    rw [mem9]
    intro a
    match a with
    | ⟨0, _⟩ => show win0_9.index (pt (i 0) (i 2)) (0 : Fin 3) * 1 ≤ (i 0).val ∧ (i 0).val < win0_9.index (pt (i 0) (i 2)) (0 : Fin 3) * 1 + 1; rw [e0]; omega
    | ⟨1, _⟩ => show win0_9.index (pt (i 0) (i 2)) (1 : Fin 3) * 16 ≤ (i 1).val ∧ (i 1).val < win0_9.index (pt (i 0) (i 2)) (1 : Fin 3) * 16 + 16; rw [e1]; omega
    | ⟨2, _⟩ => show win0_9.index (pt (i 0) (i 2)) (2 : Fin 3) * 512 ≤ (i 2).val ∧ (i 2).val < win0_9.index (pt (i 0) (i 2)) (2 : Fin 3) * 512 + 512; rw [e2]; omega)

/-- The kernel's run: its three results, its arguments unchanged. -/
theorem run : θ_run defs (onTc (τ := τ) (main (F := Ideal))) ⟨m, fun _ => 0, g⟩ (fun r => ∀ c : Dev nD,
      r.2.mem ((c.tc : Thread nD τ).loc main_v16_0) = arr7 m c
      ∧ r.2.mem ((c.tc : Thread nD τ).loc main_v16_1) = arr8 m c
      ∧ r.2.mem ((c.tc : Thread nD τ).loc main_v16_2) = arr9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.1 c).1 7).trans (array7 m c), ((h.1 c).1 8).trans (array8 m c), ((h.1 c).1 9).trans (array9 m c), h.2.1 c⟩)
    (θ_run_and (run_main m g) (frame m g))

end Arrays

/-! ## The reference -/

section Reference
open Cert.Reference5Ideal Cert.Reference5Ideal.Gen Cert.Reference5Ideal.Read Idealize.ShloMosaic Idealize.ShloMosaic.TcCoe Idealize.SL.Sem

variable (x0 x1 : Vec Ideal S4x8192x1024 .f32) (x2 : Vec Ideal S4x6x1024 .f32) (x3 : Vec Ideal S1024x1024 .f32) (x4 x5 : Vec Ideal S1024 .f32) (x6 : Vec Ideal S1024x16 .f32) (b : Fin 4) (n : Fin 8192)

theorem ref_resid (e : Fin 1024) : val_main_v8 (F := Ideal) x0 x1 x2 x3 (ix3 b n e) = zRow x0 x1 x2 x3 b n e := by
  pointwise [val_main_v8, val_main_v7, val_main_v6, val_main_v5, val_main_v4, val_main_v3, val_main_cst, val_main_v0, zRow, resid]

theorem ref_cent (e : Fin 1024) : val_main_v14 (F := Ideal) x0 x1 x2 x3 (ix3 b n e) = cent (zRow x0 x1 x2 x3 b n) e := by
  pointwise [val_main_v14, val_main_v13, val_main_v12, val_main_v11, val_main_cst_1, val_main_v10, val_main_v9, val_main_cst_0, ref_resid, cent]

theorem ref_spread : val_main_v21 (F := Ideal) x0 x1 x2 x3 (ix3 b n 0) = spread (zRow x0 x1 x2 x3 b n) := by
  pointwise [val_main_v21, val_main_v20, val_main_cst_4, val_main_v19, val_main_v18, val_main_cst_3, val_main_v17, val_main_v16, val_main_cst_2, val_main_v15, ref_cent, spread]

theorem ref_norm (e : Fin 1024) : val_main_v30 (F := Ideal) x0 x1 x2 x3 x4 x5 (ix3 b n e) = xRow x0 x1 x2 x3 x4 x5 b n e := by
  pointwise [val_main_v30, val_main_v29, val_main_v28, val_main_v27, val_main_v26, val_main_v25, val_main_v24, val_main_v23, val_main_v22, ref_spread, ref_cent, xRow, norm]

theorem ref_hidden (e : Fin 1024) : val_main_v36 (F := Ideal) x0 x1 x2 x3 x4 x5 (ix3 b n e) = hRow x0 x1 x2 x3 x4 x5 b n e := by
  pointwise [val_main_v36, val_main_v35, val_main_v1, val_main_v34, val_main_v33, val_main_v32, val_main_v31, val_main_cst_5, val_main_v2, ref_norm, hRow, hidden]

theorem ref_out (e : Fin 1024) : val_main_v49 (F := Ideal) x0 x1 x2 x3 x4 x5 (ix3 b n e) = hRow x0 x1 x2 x3 x4 x5 b n e := by
  pointwise [val_main_v49, ref_hidden]

theorem ref_logit (k : Fin 16) : val_main_v37 (F := Ideal) x0 x1 x2 x3 x4 x5 x6 (ix3 b n k) = ∑ d : Fin 1024, hRow x0 x1 x2 x3 x4 x5 b n d * x6 (ix2 d k) := by
  pointwise [val_main_v37, ref_hidden]

/-- A maximum over the last axis, as a fold over it. -/
theorem reduce_experts (X : Vec Ideal S4x8192x16 .f32) (z : Vec Ideal S_ .f32) (i : S4x8192.Idx) :
    Host.reduce (FloatOps.maximumf (F := Ideal) (φ := .f32)) X z reducesTo_S4x8192x16_S4x8192_d2 h_S_ i
      = Finset.univ.fold max (z (Shape.Idx.first h_S_)) (fun k : Fin 16 => X (ix3 (i 0) (i 1) k)) := by
  pointwise []

theorem word_bot : Ideal.ofBits .f32 0xFF800000#32 = ⊥ := by simp [Ideal.ofBits, Ideal.ieee]

/-- The largest logit of a row. -/
theorem ref_peak : val_main_v40 (F := Ideal) x0 x1 x2 x3 x4 x5 x6 (ix2 b n) = peak (fun k => ∑ d : Fin 1024, hRow x0 x1 x2 x3 x4 x5 b n d * x6 (ix2 d k)) := by
  have h : val_main_v38 (F := Ideal) x0 x1 x2 x3 x4 x5 x6 (ix2 b n) = peak (fun k => ∑ d : Fin 1024, hRow x0 x1 x2 x3 x4 x5 b n d * x6 (ix2 d k)) := by
    unfold val_main_v38 peak
    rw [reduce_experts]
    exact congrArg (Finset.univ.fold max _) (funext fun k => ref_logit x0 x1 x2 x3 x4 x5 x6 b n k)
  show max (Ideal.ofBits .f32 0xFF800000#32) (val_main_v38 (F := Ideal) x0 x1 x2 x3 x4 x5 x6 (ix2 b n)) = _
  rw [h, word_bot]
  exact max_eq_right bot_le

theorem ref_exp (k : Fin 16) : val_main_v44 (F := Ideal) x0 x1 x2 x3 x4 x5 x6 (ix3 b n k)
    = Ideal.exp ((∑ d : Fin 1024, hRow x0 x1 x2 x3 x4 x5 b n d * x6 (ix2 d k)) - peak (fun k => ∑ d : Fin 1024, hRow x0 x1 x2 x3 x4 x5 b n d * x6 (ix2 d k))) := by
  rw [← ref_peak, ← ref_logit]
  pointwise [val_main_v44, val_main_v43, val_main_v42, val_main_v41]

theorem ref_affinity (k : Fin 16) : val_main_v50 (F := Ideal) x0 x1 x2 x3 x4 x5 x6 (ix3 b k n) = affRow x0 x1 x2 x3 x4 x5 x6 b n k := by
  pointwise [val_main_v50, val_main_v48, val_main_v47, val_main_v46, val_main_v45, val_main_cst_8, ref_exp, affRow, soft]

/-- Where the arguments are real numbers, the kernel's three parts of a logit add up to the reference's logit. -/
theorem aff_eq [Cert.Pre_inputs_finite.Facts] (h : Cert.Pre_inputs_finite.fn (F := Ideal) x0 x1 x2 x3 x4 x5 x6 = fun _ => 1#1) :
    affParts x0 x1 x2 x3 x4 x5 x6 b n = affRow x0 x1 x2 x3 x4 x5 x6 b n := by
  obtain ⟨h0, h1, h2, h3, h4, h5, h6⟩ := Cert.Pre_inputs_finite.real_args x0 x1 x2 x3 x4 x5 x6 h
  unfold affParts affRow
  refine congrArg soft (funext fun k => parts_eq (fun d => ?_) (fun d i => h6 _) k)
  exact fin_hidden (fin_norm (fin_resid (fun _ => h0 _) (fun _ => h1 _) (fun _ => h2 _) (fun _ _ => h3 _)) (fun _ => h4 _) (fun _ => h5 _)) (fun _ => h2 _) (fun _ => h2 _) d
end Reference

open Idealize.ShloMosaic Idealize.ShloMosaic.TcCoe Idealize.SL.Sem

/-- Where the arguments are real numbers, the two programs end with equal results. -/
theorem algebraic : Cert.algebraic_Kernel5Ideal_Reference5Ideal_pre_inputs_finite := by
  intro m g m' g' hpre hagree
  refine ⟨fun c => arr7 m c, fun c => arr8 m c, fun c => arr9 m c, run m g,
    (θ_run _ _ _).mono (fun r h c => ⟨(h c).1.trans ?_, (h c).2.1.trans ?_, (h c).2.2.1.trans ?_, (h c).2.2.2⟩) (Cert.Reference5Ideal.Value.run m' g')⟩
  · rw [Cert.Reference5Ideal.Read.val_main_v30_eq, (hagree c).1, (hagree c).2.1, (hagree c).2.2.1, (hagree c).2.2.2.1, (hagree c).2.2.2.2.1, (hagree c).2.2.2.2.2.1]
    funext i
    rw [eq_ix3 i]
    exact ref_norm _ _ _ _ _ _ _ _ _
  · rw [Cert.Reference5Ideal.Read.val_main_v49_eq, (hagree c).1, (hagree c).2.1, (hagree c).2.2.1, (hagree c).2.2.2.1, (hagree c).2.2.2.2.1, (hagree c).2.2.2.2.2.1]
    funext i
    rw [eq_ix3 i]
    exact ref_out _ _ _ _ _ _ _ _ _
  · rw [Cert.Reference5Ideal.Read.val_main_v50_eq, (hagree c).1, (hagree c).2.1, (hagree c).2.2.1, (hagree c).2.2.2.1, (hagree c).2.2.2.2.1, (hagree c).2.2.2.2.2.1, (hagree c).2.2.2.2.2.2]
    funext i
    rw [eq_ix3 i]
    refine (ref_affinity _ _ _ _ _ _ _ _ _ _).trans ?_
    exact congrFun (aff_eq _ _ _ _ _ _ _ _ _ (hpre c)).symm _

end Cert.Kernel5Ideal.Post

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3.Skeleton
public import proofs.«01_k».proof.Proof.Gen.Kernel3Ideal
public import proofs.«01_k».proof.Proof.Gen.Kernel3Ideal.Frame
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Run
public import proofs.«01_k».proof.Proof.RunBits
public import proofs.«01_k».proof.Proof.FfnClaim
public import proofs.«01_k».proof.Proof.AttnPre
public import proofs.«01_k».proof.Proof.AttnClaim
public import proofs.«01_k».proof.Proof.CtxRunBits
public import proofs.«01_k».proof.Proof.CtxClaim
public import proofs.«01_k».proof.Proof.ProjClaim
public import proofs.«01_k».proof.Proof.PostPre
public import proofs.«01_k».proof.Proof.PostClaim
public import Idealize.ShloMosaic.Adequacy
public import Idealize.ShloMosaic.Init
public import Idealize.ShloMosaic.Lib.Claim

@[expose] public section

noncomputable section

namespace Cert.Proof

open Idealize.ShloMosaic Idealize.SL.Sem

/-- The attention reference leaves its arguments alone. -/
theorem attention_reference_frame : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The feed-forward reference leaves its arguments alone. -/
theorem feed_forward_reference_frame : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The reference of the call with context rows leaves its arguments alone. -/
theorem context_reference_frame : Cert.quiescent_Reference3Ideal := fun m g _ =>
  (θ_run Cert.Reference3Ideal.defs _ _).mono (fun r h => ⟨fun c => (h c).2.2, sem_eq_zero_of_no_sems (by decide) r.2⟩)
    (Cert.Reference3Ideal.Value.run (F := Ideal) m g)

/-- The projection's reference leaves its arguments alone. -/
theorem projection_reference_frame : Cert.quiescent_Reference4Ideal := fun m g _ =>
  (θ_run Cert.Reference4Ideal.defs _ _).mono (fun r h => ⟨fun c => (h c).2, sem_eq_zero_of_no_sems (by decide) r.2⟩)
    (Cert.Reference4Ideal.Value.run (F := Ideal) m g)

/-- The output projection's reference leaves its arguments alone. -/
theorem output_reference_frame : Cert.quiescent_Reference5Ideal := fun m g _ =>
  (θ_run Cert.Reference5Ideal.defs _ _).mono (fun r h => ⟨fun c => (h c).2.2.2, sem_eq_zero_of_no_sems (by decide) r.2⟩)
    (Cert.Reference5Ideal.Value.run (F := Ideal) m g)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_scores_finite.facts, Cert.Pre_inputs_finite.facts,
    fun m g _ => Cert.Kernel.Body.frame m g, fun m g _ => Cert.KernelIdeal.Body.frame m g, fun m g _ => Cert.KernelIdeal.Body.frame m g,
    attention_reference_frame, fun m g _ => attention_reference_frame m g True.intro,
    fun m g _ => Cert.Kernel2.Gen.frame m g, fun m g _ => Cert.Kernel2Ideal.Gen.frame m g, feed_forward_reference_frame,
    fun m g _ => Cert.Kernel3.Body.frame m g, fun m g _ => Cert.Kernel3Ideal.Body.frame m g, context_reference_frame,
    fun m g _ => Cert.Kernel4.Gen.frame m g, fun m g _ => Cert.Kernel4Ideal.Gen.frame m g, projection_reference_frame,
    fun m g _ => Cert.Kernel5.Gen.frame m g, fun m g _ => Cert.Kernel5Ideal.Gen.frame m g, fun m g _ => Cert.Kernel5Ideal.Gen.frame m g,
    output_reference_frame, fun m g _ => output_reference_frame m g True.intro,
    IdealRules.named_const.statement Cert.KernelIdeal.κ "scale" .f32 0x3E38AA3B#32 (((1 / 8) * (Real.log 2)⁻¹ : ℝ) : EReal) rfl,
    Cert.KernelIdeal.Attn.algebraic, trivial, Cert.Kernel2Ideal.Ffn.algebraic,
    trivial, Cert.Kernel3Ideal.Ctx.algebraic,
    IdealRules.named_const.statement Cert.Kernel4Ideal.κ "scale" .f32 0x3E38AA3B#32 (((1 / 8) * (Real.log 2)⁻¹ : ℝ) : EReal) rfl,
    Cert.Kernel4Ideal.Proj.algebraic, trivial, Cert.Kernel5Ideal.Post.algebraic⟩

end Cert.Proof

end
